-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.bf16_pair.PackStatement Cert.KernelIdeal.S512x1024
  ∧ IdealRules.bf16_pair.Statement Cert.KernelIdeal.S1x1024x1024 Cert.KernelIdeal.S1x512x1024

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)) (v3 : (c : Dev Cert.Kernel2Ideal.nD) → Buf (Elt Ideal) ((c.tc : Thread Cert.Kernel2Ideal.nD Cert.Kernel2Ideal.τ).loc Cert.Kernel2Ideal.main_v11_3)) (v4 : (c : Dev Cert.Kernel2Ideal.nD) → Buf (Elt Ideal) ((c.tc : Thread Cert.Kernel2Ideal.nD Cert.Kernel2Ideal.τ).loc Cert.Kernel2Ideal.main_v11_4)) (v5 : (c : Dev Cert.Kernel2Ideal.nD) → Buf (Elt Ideal) ((c.tc : Thread Cert.Kernel2Ideal.nD Cert.Kernel2Ideal.τ).loc Cert.Kernel2Ideal.main_v11_5)) (v6 : (c : Dev Cert.Kernel2Ideal.nD) → Buf (Elt Ideal) ((c.tc : Thread Cert.Kernel2Ideal.nD Cert.Kernel2Ideal.τ).loc Cert.Kernel2Ideal.main_v11_6)) (v7 : (c : Dev Cert.Kernel2Ideal.nD) → Buf (Elt Ideal) ((c.tc : Thread Cert.Kernel2Ideal.nD Cert.Kernel2Ideal.τ).loc Cert.Kernel2Ideal.main_v11_7)) (v8 : (c : Dev Cert.Kernel2Ideal.nD) → Buf (Elt Ideal) ((c.tc : Thread Cert.Kernel2Ideal.nD Cert.Kernel2Ideal.τ).loc Cert.Kernel2Ideal.main_v11_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_v11_3) = v3 c
          ∧ r.2.mem ((c.tc : Thread Cert.Kernel2Ideal.nD Cert.Kernel2Ideal.τ).loc Cert.Kernel2Ideal.main_v11_4) = v4 c
          ∧ r.2.mem ((c.tc : Thread Cert.Kernel2Ideal.nD Cert.Kernel2Ideal.τ).loc Cert.Kernel2Ideal.main_v11_5) = v5 c
          ∧ r.2.mem ((c.tc : Thread Cert.Kernel2Ideal.nD Cert.Kernel2Ideal.τ).loc Cert.Kernel2Ideal.main_v11_6) = v6 c
          ∧ r.2.mem ((c.tc : Thread Cert.Kernel2Ideal.nD Cert.Kernel2Ideal.τ).loc Cert.Kernel2Ideal.main_v11_7) = v7 c
          ∧ r.2.mem ((c.tc : Thread Cert.Kernel2Ideal.nD Cert.Kernel2Ideal.τ).loc Cert.Kernel2Ideal.main_v11_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_v32) = v3 c
          ∧ r.2.mem ((c.tc : Thread Cert.Reference2Ideal.nD Cert.Reference2Ideal.τ).loc Cert.Reference2Ideal.main_v46) = v4 c
          ∧ r.2.mem ((c.tc : Thread Cert.Reference2Ideal.nD Cert.Reference2Ideal.τ).loc Cert.Reference2Ideal.main_v47) = v5 c
          ∧ r.2.mem ((c.tc : Thread Cert.Reference2Ideal.nD Cert.Reference2Ideal.τ).loc Cert.Reference2Ideal.main_v49) = v6 c
          ∧ r.2.mem ((c.tc : Thread Cert.Reference2Ideal.nD Cert.Reference2Ideal.τ).loc Cert.Reference2Ideal.main_v51) = v7 c
          ∧ r.2.mem ((c.tc : Thread Cert.Reference2Ideal.nD Cert.Reference2Ideal.τ).loc Cert.Reference2Ideal.main_v42) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.bf16_pair.PackStatement Cert.Kernel3Ideal.S512x1024
  ∧ IdealRules.bf16_pair.Statement Cert.Kernel3Ideal.S1x1024x1024 Cert.Kernel3Ideal.S1x512x1024

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)) (v1 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_v5) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_v103) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v27_0)) (v1 : (c : Dev Cert.Kernel4Ideal.nD) → Buf (Elt Ideal) ((c.tc : Thread Cert.Kernel4Ideal.nD Cert.Kernel4Ideal.τ).loc Cert.Kernel4Ideal.main_v27_1)) (v2 : (c : Dev Cert.Kernel4Ideal.nD) → Buf (Elt Ideal) ((c.tc : Thread Cert.Kernel4Ideal.nD Cert.Kernel4Ideal.τ).loc Cert.Kernel4Ideal.main_v27_2)) (v3 : (c : Dev Cert.Kernel4Ideal.nD) → Buf (Elt Ideal) ((c.tc : Thread Cert.Kernel4Ideal.nD Cert.Kernel4Ideal.τ).loc Cert.Kernel4Ideal.main_v27_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27_0) = v0 c
          ∧ r.2.mem ((c.tc : Thread Cert.Kernel4Ideal.nD Cert.Kernel4Ideal.τ).loc Cert.Kernel4Ideal.main_v27_1) = v1 c
          ∧ r.2.mem ((c.tc : Thread Cert.Kernel4Ideal.nD Cert.Kernel4Ideal.τ).loc Cert.Kernel4Ideal.main_v27_2) = v2 c
          ∧ r.2.mem ((c.tc : Thread Cert.Kernel4Ideal.nD Cert.Kernel4Ideal.τ).loc Cert.Kernel4Ideal.main_v27_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_v77) = v1 c
          ∧ r.2.mem ((c.tc : Thread Cert.Reference4Ideal.nD Cert.Reference4Ideal.τ).loc Cert.Reference4Ideal.main_v31) = v2 c
          ∧ r.2.mem ((c.tc : Thread Cert.Reference4Ideal.nD Cert.Reference4Ideal.τ).loc Cert.Reference4Ideal.main_v32) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8x9x1024x128 : Shape := ⟨4, ![8, 9, 1024, 128]⟩
abbrev S8x9x512x128 : Shape := ⟨4, ![8, 9, 512, 128]⟩
abbrev S1x16x2048x1024 : Shape := ⟨4, ![1, 16, 2048, 1024]⟩
abbrev S1x16x1024x2048 : Shape := ⟨4, ![1, 16, 1024, 2048]⟩
abbrev S16x2176x1024 : Shape := ⟨3, ![16, 2176, 1024]⟩
abbrev S16x1152x1024 : Shape := ⟨3, ![16, 1152, 1024]⟩
abbrev S16x2048x1024 : Shape := ⟨3, ![16, 2048, 1024]⟩
abbrev S16x1024x2048 : Shape := ⟨3, ![16, 1024, 2048]⟩
abbrev S1x9x1024x128 : Shape := ⟨4, ![1, 9, 1024, 128]⟩
abbrev S1x9x512x128 : Shape := ⟨4, ![1, 9, 512, 128]⟩
abbrev S1x2048x256 : Shape := ⟨3, ![1, 2048, 256]⟩
abbrev S1x256x2048 : Shape := ⟨3, ![1, 256, 2048]⟩
abbrev S1x2176x1024 : Shape := ⟨3, ![1, 2176, 1024]⟩
abbrev S1x1152x1024 : Shape := ⟨3, ![1, 1152, 1024]⟩
abbrev S1536x2048 : Shape := ⟨2, ![1536, 2048]⟩
abbrev S1x1x512x128 : Shape := ⟨4, ![1, 1, 512, 128]⟩
abbrev S512x128 : Shape := ⟨2, ![512, 128]⟩
abbrev S512x2048 : Shape := ⟨2, ![512, 2048]⟩
abbrev S2048x256 : Shape := ⟨2, ![2048, 256]⟩
abbrev S512x256 : Shape := ⟨2, ![512, 256]⟩
abbrev S256x2048 : Shape := ⟨2, ![256, 2048]⟩
abbrev S1x1x1024x128 : Shape := ⟨4, ![1, 1, 1024, 128]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S1x128x1024 : Shape := ⟨3, ![1, 128, 1024]⟩
abbrev S512x1 : Shape := ⟨2, ![512, 1]⟩
abbrev S512x1024 : Shape := ⟨2, ![512, 1024]⟩
abbrev S1x1088x1024 : Shape := ⟨3, ![1, 1088, 1024]⟩
abbrev S1x512x1024 : Shape := ⟨3, ![1, 512, 1024]⟩
abbrev S1x1024x1024 : Shape := ⟨3, ![1, 1024, 1024]⟩
abbrev S512 : Shape := ⟨1, ![512]⟩
abbrev S1x576x1024 : Shape := ⟨3, ![1, 576, 1024]⟩

abbrev nBuf : Space → Nat
  | .hbm => 12
  | .vmem => 15
  | .smem => 0
  | _ => 0

abbrev bufTy : (tb : Table) → Fin (tcTables nBuf tb) → BufTy
  | .hbm, ⟨0, _⟩ => ⟨S8x9x1024x128, .i32⟩
  | .hbm, ⟨1, _⟩ => ⟨S8x9x512x128, .i32⟩
  | .hbm, ⟨2, _⟩ => ⟨S1x16x2048x1024, .f32⟩
  | .hbm, ⟨3, _⟩ => ⟨S1x16x2048x1024, .f32⟩
  | .hbm, ⟨4, _⟩ => ⟨S1x16x1024x2048, .f32⟩
  | .hbm, ⟨5, _⟩ => ⟨S16x2176x1024, .bf16⟩
  | .hbm, ⟨6, _⟩ => ⟨S16x1152x1024, .bf16⟩
  | .hbm, ⟨7, _⟩ => ⟨S16x2048x1024, .f32⟩
  | .hbm, ⟨8, _⟩ => ⟨S16x2048x1024, .f32⟩
  | .hbm, ⟨9, _⟩ => ⟨S16x1024x2048, .f32⟩
  | .hbm, ⟨10, _⟩ => ⟨S16x2176x1024, .bf16⟩
  | .hbm, ⟨11, _⟩ => ⟨S16x1152x1024, .bf16⟩
  | .local _ .vmem, ⟨0, _⟩ => ⟨S1x9x1024x128, .i32⟩
  | .local _ .vmem, ⟨1, _⟩ => ⟨S1x9x1024x128, .i32⟩
  | .local _ .vmem, ⟨2, _⟩ => ⟨S1x9x512x128, .i32⟩
  | .local _ .vmem, ⟨3, _⟩ => ⟨S1x9x512x128, .i32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x256x2048, .f32⟩
  | .local _ .vmem, ⟨9, _⟩ => ⟨S1x256x2048, .f32⟩
  | .local _ .vmem, ⟨10, _⟩ => ⟨S1x2176x1024, .bf16⟩
  | .local _ .vmem, ⟨11, _⟩ => ⟨S1x2176x1024, .bf16⟩
  | .local _ .vmem, ⟨12, _⟩ => ⟨S1x1152x1024, .bf16⟩
  | .local _ .vmem, ⟨13, _⟩ => ⟨S1x1152x1024, .bf16⟩
  | .local _ .vmem, ⟨14, _⟩ => ⟨S1536x2048, .f32⟩
  | _, _ => ⟨S8x9x1024x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![8, 4], ![false, false]⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S1x9x1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x512x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2176x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1152x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F]
-- ==== ReferenceIdeal.lean ====
abbrev S8x9x1024x128 : Shape := ⟨4, ![8, 9, 1024, 128]⟩
abbrev S8x9x512x128 : Shape := ⟨4, ![8, 9, 512, 128]⟩
abbrev S1x16x2048x1024 : Shape := ⟨4, ![1, 16, 2048, 1024]⟩
abbrev S1x16x1024x2048 : Shape := ⟨4, ![1, 16, 1024, 2048]⟩
abbrev S16x2176x1024 : Shape := ⟨3, ![16, 2176, 1024]⟩
abbrev S16x1152x1024 : Shape := ⟨3, ![16, 1152, 1024]⟩
abbrev S8x8x1024x128 : Shape := ⟨4, ![8, 8, 1024, 128]⟩
abbrev S8x8x1024x128x2 : Shape := ⟨5, ![8, 8, 1024, 128, 2]⟩
abbrev S8x1024x2x8x128 : Shape := ⟨5, ![8, 1024, 2, 8, 128]⟩
abbrev S8x1024x2048 : Shape := ⟨3, ![8, 1024, 2048]⟩
abbrev S8x1x1024x128 : Shape := ⟨4, ![8, 1, 1024, 128]⟩
abbrev S8x1024x128 : Shape := ⟨3, ![8, 1024, 128]⟩
abbrev S1x1024x1 : Shape := ⟨3, ![1, 1024, 1]⟩
abbrev S1024 : Shape := ⟨1, ![1024]⟩
abbrev S1x1024 : Shape := ⟨2, ![1, 1024]⟩
abbrev S8x1024 : Shape := ⟨2, ![8, 1024]⟩
abbrev S1x8x2048x1024 : Shape := ⟨4, ![1, 8, 2048, 1024]⟩
abbrev S8x2048x1024 : Shape := ⟨3, ![8, 2048, 1024]⟩
abbrev S1x8x1024x2048 : Shape := ⟨4, ![1, 8, 1024, 2048]⟩
abbrev S8x1024x1024 : Shape := ⟨3, ![8, 1024, 1024]⟩
abbrev S_ : Shape := ⟨0, ![]⟩
abbrev S8x1024x1 : Shape := ⟨3, ![8, 1024, 1]⟩
abbrev S8x1024x2x1024 : Shape := ⟨4, ![8, 1024, 2, 1024]⟩
abbrev S8x128x1024 : Shape := ⟨3, ![8, 128, 1024]⟩
abbrev S8x2176x1024 : Shape := ⟨3, ![8, 2176, 1024]⟩
abbrev S8x8x512x128 : Shape := ⟨4, ![8, 8, 512, 128]⟩
abbrev S8x8x512x128x2 : Shape := ⟨5, ![8, 8, 512, 128, 2]⟩
abbrev S8x512x2x8x128 : Shape := ⟨5, ![8, 512, 2, 8, 128]⟩
abbrev S8x512x2048 : Shape := ⟨3, ![8, 512, 2048]⟩
abbrev S8x1x512x128 : Shape := ⟨4, ![8, 1, 512, 128]⟩
abbrev S8x512x128 : Shape := ⟨3, ![8, 512, 128]⟩
abbrev S1x512x1 : Shape := ⟨3, ![1, 512, 1]⟩
abbrev S512 : Shape := ⟨1, ![512]⟩
abbrev S1x512 : Shape := ⟨2, ![1, 512]⟩
abbrev S8x512 : Shape := ⟨2, ![8, 512]⟩
abbrev S8x512x1024 : Shape := ⟨3, ![8, 512, 1024]⟩
abbrev S8x512x1 : Shape := ⟨3, ![8, 512, 1]⟩
abbrev S8x512x2x1024 : Shape := ⟨4, ![8, 512, 2, 1024]⟩
abbrev S8x1152x1024 : Shape := ⟨3, ![8, 1152, 1024]⟩

abbrev nBuf : Space → Nat
  | .hbm => 133
  | .vmem => 0
  | .smem => 0
  | _ => 0

abbrev hbmTy0_0 (i : Nat) : BufTy := match i % 128 with
  | 0 => ⟨S8x9x1024x128, .i32⟩
  | 1 => ⟨S8x9x512x128, .i32⟩
  | 2 => ⟨S1x16x2048x1024, .f32⟩
  | 3 => ⟨S1x16x2048x1024, .f32⟩
  | 4 => ⟨S1x16x1024x2048, .f32⟩
  | 5 => ⟨S16x2176x1024, .bf16⟩
  | 6 => ⟨S16x1152x1024, .bf16⟩
  | 7 => ⟨S8x8x1024x128, .i32⟩
  | 8 => ⟨S8x8x1024x128x2, .bf16⟩
  | 9 => ⟨S8x1024x2x8x128, .bf16⟩
  | 10 => ⟨S8x1024x2048, .bf16⟩
  | 11 => ⟨S8x1024x2048, .f32⟩
  | 12 => ⟨S8x1x1024x128, .i32⟩
  | 13 => ⟨S8x1024x128, .i32⟩
  | 14 => ⟨S8x1024x128, .f32⟩
  | 15 => ⟨S1x1024x1, .f32⟩
  | 16 => ⟨S1024, .f32⟩
  | 17 => ⟨S1x1024x1, .f32⟩
  | 18 => ⟨S1024, .f32⟩
  | 19 => ⟨S1x1024x1, .f32⟩
  | 20 => ⟨S1024, .f32⟩
  | 21 => ⟨S1x1024x1, .f32⟩
  | 22 => ⟨S1024, .f32⟩
  | 23 => ⟨S1x1024x1, .f32⟩
  | 24 => ⟨S1024, .f32⟩
  | 25 => ⟨S1x1024x1, .f32⟩
  | 26 => ⟨S1024, .f32⟩
  | 27 => ⟨S1x1024x1, .f32⟩
  | 28 => ⟨S1024, .f32⟩
  | 29 => ⟨S1x1024x1, .f32⟩
  | 30 => ⟨S1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S8x1024, .f32⟩
  | 40 => ⟨S1x8x2048x1024, .f32⟩
  | 41 => ⟨S8x2048x1024, .f32⟩
  | 42 => ⟨S1x8x2048x1024, .f32⟩
  | 43 => ⟨S8x2048x1024, .f32⟩
  | 44 => ⟨S1x8x1024x2048, .f32⟩
  | 45 => ⟨S8x1024x2048, .f32⟩
  | 46 => ⟨S8x1024x1024, .f32⟩
  | 47 => ⟨S8x1024x1024, .f32⟩
  | 48 => ⟨S8x1024x1024, .f32⟩
  | 49 => ⟨S_, .f32⟩
  | 50 => ⟨S8x1024x1024, .f32⟩
  | 51 => ⟨S8x1024x1024, .f32⟩
  | 52 => ⟨S_, .f32⟩
  | 53 => ⟨S8x1024x1024, .f32⟩
  | 54 => ⟨S8x1024x1024, .f32⟩
  | 55 => ⟨S8x1024x1024, .f32⟩
  | 56 => ⟨S8x1024x1024, .f32⟩
  | 57 => ⟨S8x1024x1024, .f32⟩
  | 58 => ⟨S8x1024x2048, .f32⟩
  | 59 => ⟨S8x1024x1, .f32⟩
  | 60 => ⟨S8x1024x2048, .f32⟩
  | 61 => ⟨S8x1024x2048, .f32⟩
  | 62 => ⟨S8x1024x2x1024, .f32⟩
  | 63 => ⟨S8x2048x1024, .f32⟩
  | 64 => ⟨S8x2048x1024, .bf16⟩
  | 65 => ⟨S_, .bf16⟩
  | 66 => ⟨S8x128x1024, .bf16⟩
  | 67 => ⟨S8x2176x1024, .bf16⟩
  | 68 => ⟨S8x2176x1024, .bf16⟩
  | 69 => ⟨S16x2176x1024, .bf16⟩
  | 70 => ⟨S8x8x512x128, .i32⟩
  | 71 => ⟨S8x8x512x128x2, .bf16⟩
  | 72 => ⟨S8x512x2x8x128, .bf16⟩
  | 73 => ⟨S8x512x2048, .bf16⟩
  | 74 => ⟨S8x512x2048, .f32⟩
  | 75 => ⟨S8x1x512x128, .i32⟩
  | 76 => ⟨S8x512x128, .i32⟩
  | 77 => ⟨S8x512x128, .f32⟩
  | 78 => ⟨S1x512x1, .f32⟩
  | 79 => ⟨S512, .f32⟩
  | 80 => ⟨S1x512x1, .f32⟩
  | 81 => ⟨S512, .f32⟩
  | 82 => ⟨S1x512x1, .f32⟩
  | 83 => ⟨S512, .f32⟩
  | 84 => ⟨S1x512x1, .f32⟩
  | 85 => ⟨S512, .f32⟩
  | 86 => ⟨S1x512x1, .f32⟩
  | 87 => ⟨S512, .f32⟩
  | 88 => ⟨S1x512x1, .f32⟩
  | 89 => ⟨S512, .f32⟩
  | 90 => ⟨S1x512x1, .f32⟩
  | 91 => ⟨S512, .f32⟩
  | 92 => ⟨S1x512x1, .f32⟩
  | 93 => ⟨S512, .f32⟩
  | 94 => ⟨S1x512, .f32⟩
  | 95 => ⟨S1x512, .f32⟩
  | 96 => ⟨S1x512, .f32⟩
  | 97 => ⟨S1x512, .f32⟩
  | 98 => ⟨S1x512, .f32⟩
  | 99 => ⟨S1x512, .f32⟩
  | 100 => ⟨S1x512, .f32⟩
  | 101 => ⟨S1x512, .f32⟩
  | 102 => ⟨S8x512, .f32⟩
  | 103 => ⟨S1x8x2048x1024, .f32⟩
  | 104 => ⟨S8x2048x1024, .f32⟩
  | 105 => ⟨S1x8x2048x1024, .f32⟩
  | 106 => ⟨S8x2048x1024, .f32⟩
  | 107 => ⟨S1x8x1024x2048, .f32⟩
  | 108 => ⟨S8x1024x2048, .f32⟩
  | 109 => ⟨S8x512x1024, .f32⟩
  | 110 => ⟨S8x512x1024, .f32⟩
  | 111 => ⟨S8x512x1024, .f32⟩
  | 112 => ⟨S_, .f32⟩
  | 113 => ⟨S8x512x1024, .f32⟩
  | 114 => ⟨S8x512x1024, .f32⟩
  | 115 => ⟨S_, .f32⟩
  | 116 => ⟨S8x512x1024, .f32⟩
  | 117 => ⟨S8x512x1024, .f32⟩
  | 118 => ⟨S8x512x1024, .f32⟩
  | 119 => ⟨S8x512x1024, .f32⟩
  | 120 => ⟨S8x512x1024, .f32⟩
  | 121 => ⟨S8x512x2048, .f32⟩
  | 122 => ⟨S8x512x1, .f32⟩
  | 123 => ⟨S8x512x2048, .f32⟩
  | 124 => ⟨S8x512x2048, .f32⟩
  | 125 => ⟨S8x512x2x1024, .f32⟩
  | 126 => ⟨S8x1024x1024, .f32⟩
  | 127 => ⟨S8x1024x1024, .bf16⟩
  | _ => ⟨S8x9x1024x128, .i32⟩

abbrev hbmTy0_1 (i : Nat) : BufTy := match i % 128 with
  | 0 => ⟨S_, .bf16⟩
  | 1 => ⟨S8x128x1024, .bf16⟩
  | 2 => ⟨S8x1152x1024, .bf16⟩
  | 3 => ⟨S8x1152x1024, .bf16⟩
  | 4 => ⟨S16x1152x1024, .bf16⟩
  | _ => ⟨S8x9x1024x128, .i32⟩

abbrev hbmTy (i : Nat) : BufTy := match i / 128 with
  | 0 => hbmTy0_0 i
  | 1 => hbmTy0_1 i
  | _ => ⟨S8x9x1024x128, .i32⟩

abbrev bufTy : (tb : Table) → Fin (tcTables nBuf tb) → BufTy
  | .hbm, ⟨i, _⟩ => hbmTy i
  | _, _ => ⟨S8x9x1024x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_call1_v0 : Ref sig .tc := ⟨.hbm, 110, rfl⟩
abbrev main_call1_v1 : Ref sig .tc := ⟨.hbm, 111, rfl⟩
abbrev main_call1_cst : Ref sig .tc := ⟨.hbm, 112, rfl⟩
abbrev main_call1_v2 : Ref sig .tc := ⟨.hbm, 113, rfl⟩
abbrev main_call1_v3 : Ref sig .tc := ⟨.hbm, 114, rfl⟩
abbrev main_call1_cst_0 : Ref sig .tc := ⟨.hbm, 115, rfl⟩
abbrev main_call1_v4 : Ref sig .tc := ⟨.hbm, 116, rfl⟩
abbrev main_call1_v5 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_0 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩

abbrev nD : Nat := 1
abbrev τ : Topo := Topo.v7x

variable {F : FTy → Type} [FloatOps F]
-- ==== Kernel2.lean ====
abbrev S32x256x2048 : Shape := ⟨3, ![32, 256, 2048]⟩
abbrev S8x2x2048 : Shape := ⟨3, ![8, 2, 2048]⟩
abbrev S1x2048 : Shape := ⟨2, ![1, 2048]⟩
abbrev S1x2048x2560 : Shape := ⟨3, ![1, 2048, 2560]⟩
abbrev S1x2048x2048 : Shape := ⟨3, ![1, 2048, 2048]⟩
abbrev S2048 : Shape := ⟨1, ![2048]⟩
abbrev S4x2048 : Shape := ⟨2, ![4, 2048]⟩
abbrev S1x2048x12288 : Shape := ⟨3, ![1, 2048, 12288]⟩
abbrev S1x12288 : Shape := ⟨2, ![1, 12288]⟩
abbrev S_ : Shape := ⟨0, ![]⟩
abbrev S3x2048 : Shape := ⟨2, ![3, 2048]⟩
abbrev S8x2048 : Shape := ⟨2, ![8, 2048]⟩
abbrev S8192x2048 : Shape := ⟨2, ![8192, 2048]⟩
abbrev S2048x2560 : Shape := ⟨2, ![2048, 2560]⟩
abbrev S2048x2048 : Shape := ⟨2, ![2048, 2048]⟩
abbrev S2048x12288 : Shape := ⟨2, ![2048, 12288]⟩
abbrev S12288 : Shape := ⟨1, ![12288]⟩
abbrev S8192x1024 : Shape := ⟨2, ![8192, 1024]⟩
abbrev S8192x256 : Shape := ⟨2, ![8192, 256]⟩
abbrev S16384x128 : Shape := ⟨2, ![16384, 128]⟩
abbrev S8x8192 : Shape := ⟨2, ![8, 8192]⟩
abbrev S512x2048 : Shape := ⟨2, ![512, 2048]⟩
abbrev S1x2x2048 : Shape := ⟨3, ![1, 2, 2048]⟩
abbrev S128x2048 : Shape := ⟨2, ![128, 2048]⟩
abbrev S128x2560 : Shape := ⟨2, ![128, 2560]⟩
abbrev S2048x512 : Shape := ⟨2, ![2048, 512]⟩
abbrev S1x512 : Shape := ⟨2, ![1, 512]⟩
abbrev S512x1024 : Shape := ⟨2, ![512, 1024]⟩
abbrev S512x256 : Shape := ⟨2, ![512, 256]⟩
abbrev S1024x128 : Shape := ⟨2, ![1024, 128]⟩
abbrev S8x512 : Shape := ⟨2, ![8, 512]⟩
abbrev S2x2048 : Shape := ⟨2, ![2, 2048]⟩
abbrev S256x2048 : Shape := ⟨2, ![256, 2048]⟩
abbrev S256 : Shape := ⟨1, ![256]⟩
abbrev S256x1 : Shape := ⟨2, ![256, 1]⟩
abbrev S256x2560 : Shape := ⟨2, ![256, 2560]⟩
abbrev S256x128 : Shape := ⟨2, ![256, 128]⟩
abbrev S256x256 : Shape := ⟨2, ![256, 256]⟩
abbrev S256x1024 : Shape := ⟨2, ![256, 1024]⟩

abbrev nBuf : Space → Nat
  | .hbm => 30
  | .vmem => 32
  | .smem => 0
  | _ => 0

abbrev bufTy : (tb : Table) → Fin (tcTables nBuf tb) → BufTy
  | .hbm, ⟨0, _⟩ => ⟨S32x256x2048, .f32⟩
  | .hbm, ⟨1, _⟩ => ⟨S8x2x2048, .f32⟩
  | .hbm, ⟨2, _⟩ => ⟨S1x2048, .f32⟩
  | .hbm, ⟨3, _⟩ => ⟨S1x2048x2560, .f32⟩
  | .hbm, ⟨4, _⟩ => ⟨S1x2048x2048, .f32⟩
  | .hbm, ⟨5, _⟩ => ⟨S2048, .f32⟩
  | .hbm, ⟨6, _⟩ => ⟨S4x2048, .f32⟩
  | .hbm, ⟨7, _⟩ => ⟨S1x2048x12288, .f32⟩
  | .hbm, ⟨8, _⟩ => ⟨S1x12288, .f32⟩
  | .hbm, ⟨9, _⟩ => ⟨S1x2048, .f32⟩
  | .hbm, ⟨10, _⟩ => ⟨S_, .f32⟩
  | .hbm, ⟨11, _⟩ => ⟨S3x2048, .f32⟩
  | .hbm, ⟨12, _⟩ => ⟨S8x2048, .f32⟩
  | .hbm, ⟨13, _⟩ => ⟨S8192x2048, .f32⟩
  | .hbm, ⟨14, _⟩ => ⟨S2048, .f32⟩
  | .hbm, ⟨15, _⟩ => ⟨S1x2048, .f32⟩
  | .hbm, ⟨16, _⟩ => ⟨S2048x2560, .f32⟩
  | .hbm, ⟨17, _⟩ => ⟨S2048x2048, .f32⟩
  | .hbm, ⟨18, _⟩ => ⟨S2048x12288, .f32⟩
  | .hbm, ⟨19, _⟩ => ⟨S12288, .f32⟩
  | .hbm, ⟨20, _⟩ => ⟨S1x12288, .f32⟩
  | .hbm, ⟨21, _⟩ => ⟨S8192x1024, .bf16⟩
  | .hbm, ⟨22, _⟩ => ⟨S8192x256, .f32⟩
  | .hbm, ⟨23, _⟩ => ⟨S8192x256, .f32⟩
  | .hbm, ⟨24, _⟩ => ⟨S8192x1024, .f32⟩
  | .hbm, ⟨25, _⟩ => ⟨S16384x128, .f32⟩
  | .hbm, ⟨26, _⟩ => ⟨S16384x128, .f32⟩
  | .hbm, ⟨27, _⟩ => ⟨S2048x2048, .bf16⟩
  | .hbm, ⟨28, _⟩ => ⟨S2048x2560, .bf16⟩
  | .hbm, ⟨29, _⟩ => ⟨S8x8192, .f32⟩
  | .local _ .vmem, ⟨0, _⟩ => ⟨S512x2048, .f32⟩
  | .local _ .vmem, ⟨1, _⟩ => ⟨S512x2048, .f32⟩
  | .local _ .vmem, ⟨2, _⟩ => ⟨S1x2x2048, .f32⟩
  | .local _ .vmem, ⟨3, _⟩ => ⟨S1x2048, .f32⟩
  | .local _ .vmem, ⟨4, _⟩ => ⟨S2048x2560, .f32⟩
  | .local _ .vmem, ⟨5, _⟩ => ⟨S128x2048, .f32⟩
  | .local _ .vmem, ⟨6, _⟩ => ⟨S128x2048, .f32⟩
  | .local _ .vmem, ⟨7, _⟩ => ⟨S128x2560, .f32⟩
  | .local _ .vmem, ⟨8, _⟩ => ⟨S128x2560, .f32⟩
  | .local _ .vmem, ⟨9, _⟩ => ⟨S8x2048, .f32⟩
  | .local _ .vmem, ⟨10, _⟩ => ⟨S2048x512, .f32⟩
  | .local _ .vmem, ⟨11, _⟩ => ⟨S2048x512, .f32⟩
  | .local _ .vmem, ⟨12, _⟩ => ⟨S1x512, .f32⟩
  | .local _ .vmem, ⟨13, _⟩ => ⟨S1x512, .f32⟩
  | .local _ .vmem, ⟨14, _⟩ => ⟨S512x1024, .bf16⟩
  | .local _ .vmem, ⟨15, _⟩ => ⟨S512x1024, .bf16⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x1024, .f32⟩
  | .local _ .vmem, ⟨21, _⟩ => ⟨S512x1024, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S128x2048, .bf16⟩
  | .local _ .vmem, ⟨27, _⟩ => ⟨S128x2048, .bf16⟩
  | .local _ .vmem, ⟨28, _⟩ => ⟨S128x2560, .bf16⟩
  | .local _ .vmem, ⟨29, _⟩ => ⟨S128x2560, .bf16⟩
  | .local _ .vmem, ⟨30, _⟩ => ⟨S8x512, .f32⟩
  | .local _ .vmem, ⟨31, _⟩ => ⟨S8x512, .f32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev main_v11_6 : Ref sig .tc := ⟨.hbm, 27, rfl⟩
abbrev main_v11_7 : Ref sig .tc := ⟨.hbm, 28, rfl⟩
abbrev main_v11_8 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x2560 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S32x256x2048 : Shape := ⟨3, ![32, 256, 2048]⟩
abbrev S8x2x2048 : Shape := ⟨3, ![8, 2, 2048]⟩
abbrev S1x2048 : Shape := ⟨2, ![1, 2048]⟩
abbrev S1x2048x2560 : Shape := ⟨3, ![1, 2048, 2560]⟩
abbrev S1x2048x2048 : Shape := ⟨3, ![1, 2048, 2048]⟩
abbrev S2048 : Shape := ⟨1, ![2048]⟩
abbrev S4x2048 : Shape := ⟨2, ![4, 2048]⟩
abbrev S1x2048x12288 : Shape := ⟨3, ![1, 2048, 12288]⟩
abbrev S1x12288 : Shape := ⟨2, ![1, 12288]⟩
abbrev S8192x2048 : Shape := ⟨2, ![8192, 2048]⟩
abbrev S1x1x2048 : Shape := ⟨3, ![1, 1, 2048]⟩
abbrev S_ : Shape := ⟨0, ![]⟩
abbrev S8192 : Shape := ⟨1, ![8192]⟩
abbrev S8192x1 : Shape := ⟨2, ![8192, 1]⟩
abbrev S2048x2560 : Shape := ⟨2, ![2048, 2560]⟩
abbrev S8192x2560 : Shape := ⟨2, ![8192, 2560]⟩
abbrev S8192x1024 : Shape := ⟨2, ![8192, 1024]⟩
abbrev S8192x256 : Shape := ⟨2, ![8192, 256]⟩
abbrev S3x2048 : Shape := ⟨2, ![3, 2048]⟩
abbrev S8x2048 : Shape := ⟨2, ![8, 2048]⟩
abbrev S1x2048x8192 : Shape := ⟨3, ![1, 2048, 8192]⟩
abbrev S2048x8192 : Shape := ⟨2, ![2048, 8192]⟩
abbrev S8x8192 : Shape := ⟨2, ![8, 8192]⟩
abbrev S1x8192 : Shape := ⟨2, ![1, 8192]⟩
abbrev S16384x128 : Shape := ⟨2, ![16384, 128]⟩
abbrev S2048x2048 : Shape := ⟨2, ![2048, 2048]⟩

abbrev nBuf : Space → Nat
  | .hbm => 75
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S8x2x2048, .f32⟩
  | .hbm, ⟨2, _⟩ => ⟨S1x2048, .f32⟩
  | .hbm, ⟨3, _⟩ => ⟨S1x2048x2560, .f32⟩
  | .hbm, ⟨4, _⟩ => ⟨S1x2048x2048, .f32⟩
  | .hbm, ⟨5, _⟩ => ⟨S2048, .f32⟩
  | .hbm, ⟨6, _⟩ => ⟨S4x2048, .f32⟩
  | .hbm, ⟨7, _⟩ => ⟨S1x2048x12288, .f32⟩
  | .hbm, ⟨8, _⟩ => ⟨S1x12288, .f32⟩
  | .hbm, ⟨9, _⟩ => ⟨S8192x2048, .f32⟩
  | .hbm, ⟨10, _⟩ => ⟨S1x1x2048, .f32⟩
  | .hbm, ⟨11, _⟩ => ⟨S2048, .f32⟩
  | .hbm, ⟨12, _⟩ => ⟨S1x1x2048, .f32⟩
  | .hbm, ⟨13, _⟩ => ⟨S2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S2048x2560, .f32⟩
  | .hbm, ⟨41, _⟩ => ⟨S8192x2560, .f32⟩
  | .hbm, ⟨42, _⟩ => ⟨S8192x1024, .f32⟩
  | .hbm, ⟨43, _⟩ => ⟨S8192x256, .f32⟩
  | .hbm, ⟨44, _⟩ => ⟨S8192x256, .f32⟩
  | .hbm, ⟨45, _⟩ => ⟨S8192x1024, .f32⟩
  | .hbm, ⟨46, _⟩ => ⟨S1x2048, .f32⟩
  | .hbm, ⟨47, _⟩ => ⟨S_, .f32⟩
  | .hbm, ⟨48, _⟩ => ⟨S3x2048, .f32⟩
  | .hbm, ⟨49, _⟩ => ⟨S8x2048, .f32⟩
  | .hbm, ⟨50, _⟩ => ⟨S8x2048, .f32⟩
  | .hbm, ⟨51, _⟩ => ⟨S8x2048, .f32⟩
  | .hbm, ⟨52, _⟩ => ⟨S_, .f32⟩
  | .hbm, ⟨53, _⟩ => ⟨S8x2048, .f32⟩
  | .hbm, ⟨54, _⟩ => ⟨S8x2048, .f32⟩
  | .hbm, ⟨55, _⟩ => ⟨S_, .f32⟩
  | .hbm, ⟨56, _⟩ => ⟨S8x2048, .f32⟩
  | .hbm, ⟨57, _⟩ => ⟨S8x2048, .f32⟩
  | .hbm, ⟨58, _⟩ => ⟨S8x2048, .f32⟩
  | .hbm, ⟨59, _⟩ => ⟨S1x2048x8192, .f32⟩
  | .hbm, ⟨60, _⟩ => ⟨S2048x8192, .f32⟩
  | .hbm, ⟨61, _⟩ => ⟨S8x8192, .f32⟩
  | .hbm, ⟨62, _⟩ => ⟨S1x8192, .f32⟩
  | .hbm, ⟨63, _⟩ => ⟨S8x8192, .f32⟩
  | .hbm, ⟨64, _⟩ => ⟨S8x8192, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S8192x1024, .bf16⟩
  | .hbm, ⟨69, _⟩ => ⟨S16384x128, .f32⟩
  | .hbm, ⟨70, _⟩ => ⟨S16384x128, .f32⟩
  | .hbm, ⟨71, _⟩ => ⟨S2048x2048, .f32⟩
  | .hbm, ⟨72, _⟩ => ⟨S2048x2048, .bf16⟩
  | .hbm, ⟨73, _⟩ => ⟨S2048x2560, .f32⟩
  | .hbm, ⟨74, _⟩ => ⟨S2048x2560, .bf16⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]
-- ==== Kernel3.lean ====
abbrev S8x9x1024x128 : Shape := ⟨4, ![8, 9, 1024, 128]⟩
abbrev S8x9x512x128 : Shape := ⟨4, ![8, 9, 512, 128]⟩
abbrev S1x16x2048x1024 : Shape := ⟨4, ![1, 16, 2048, 1024]⟩
abbrev S1x16x1024x2048 : Shape := ⟨4, ![1, 16, 1024, 2048]⟩
abbrev S16x2048x1024 : Shape := ⟨3, ![16, 2048, 1024]⟩
abbrev S16x1024x2048 : Shape := ⟨3, ![16, 1024, 2048]⟩
abbrev S16x2176x1024 : Shape := ⟨3, ![16, 2176, 1024]⟩
abbrev S16x1152x1024 : Shape := ⟨3, ![16, 1152, 1024]⟩
abbrev S1x9x1024x128 : Shape := ⟨4, ![1, 9, 1024, 128]⟩
abbrev S1x9x512x128 : Shape := ⟨4, ![1, 9, 512, 128]⟩
abbrev S1x2048x256 : Shape := ⟨3, ![1, 2048, 256]⟩
abbrev S1x256x2048 : Shape := ⟨3, ![1, 256, 2048]⟩
abbrev S1x2176x1024 : Shape := ⟨3, ![1, 2176, 1024]⟩
abbrev S1x1152x1024 : Shape := ⟨3, ![1, 1152, 1024]⟩
abbrev S1536x2048 : Shape := ⟨2, ![1536, 2048]⟩
abbrev S1x1x512x128 : Shape := ⟨4, ![1, 1, 512, 128]⟩
abbrev S512x128 : Shape := ⟨2, ![512, 128]⟩
abbrev S512x2048 : Shape := ⟨2, ![512, 2048]⟩
abbrev S2048x256 : Shape := ⟨2, ![2048, 256]⟩
abbrev S512x256 : Shape := ⟨2, ![512, 256]⟩
abbrev S256x2048 : Shape := ⟨2, ![256, 2048]⟩
abbrev S1x1x1024x128 : Shape := ⟨4, ![1, 1, 1024, 128]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S1x128x1024 : Shape := ⟨3, ![1, 128, 1024]⟩
abbrev S512x1 : Shape := ⟨2, ![512, 1]⟩
abbrev S512x1024 : Shape := ⟨2, ![512, 1024]⟩
abbrev S1x1088x1024 : Shape := ⟨3, ![1, 1088, 1024]⟩
abbrev S1x512x1024 : Shape := ⟨3, ![1, 512, 1024]⟩
abbrev S1x1024x1024 : Shape := ⟨3, ![1, 1024, 1024]⟩
abbrev S512 : Shape := ⟨1, ![512]⟩
abbrev S1x576x1024 : Shape := ⟨3, ![1, 576, 1024]⟩
abbrev S8x2176x1024 : Shape := ⟨3, ![8, 2176, 1024]⟩
abbrev S8x1152x1024 : Shape := ⟨3, ![8, 1152, 1024]⟩

abbrev nBuf : Space → Nat
  | .hbm => 12
  | .vmem => 15
  | .smem => 0
  | _ => 0

abbrev bufTy : (tb : Table) → Fin (tcTables nBuf tb) → BufTy
  | .hbm, ⟨0, _⟩ => ⟨S8x9x1024x128, .i32⟩
  | .hbm, ⟨1, _⟩ => ⟨S8x9x512x128, .i32⟩
  | .hbm, ⟨2, _⟩ => ⟨S1x16x2048x1024, .f32⟩
  | .hbm, ⟨3, _⟩ => ⟨S1x16x2048x1024, .f32⟩
  | .hbm, ⟨4, _⟩ => ⟨S1x16x1024x2048, .f32⟩
  | .hbm, ⟨5, _⟩ => ⟨S16x2048x1024, .f32⟩
  | .hbm, ⟨6, _⟩ => ⟨S16x2048x1024, .f32⟩
  | .hbm, ⟨7, _⟩ => ⟨S16x1024x2048, .f32⟩
  | .hbm, ⟨8, _⟩ => ⟨S16x2176x1024, .bf16⟩
  | .hbm, ⟨9, _⟩ => ⟨S16x1152x1024, .bf16⟩
  | .hbm, ⟨10, _⟩ => ⟨S8x2176x1024, .bf16⟩
  | .hbm, ⟨11, _⟩ => ⟨S8x1152x1024, .bf16⟩
  | .local _ .vmem, ⟨0, _⟩ => ⟨S1x9x1024x128, .i32⟩
  | .local _ .vmem, ⟨1, _⟩ => ⟨S1x9x1024x128, .i32⟩
  | .local _ .vmem, ⟨2, _⟩ => ⟨S1x9x512x128, .i32⟩
  | .local _ .vmem, ⟨3, _⟩ => ⟨S1x9x512x128, .i32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x256x2048, .f32⟩
  | .local _ .vmem, ⟨9, _⟩ => ⟨S1x256x2048, .f32⟩
  | .local _ .vmem, ⟨10, _⟩ => ⟨S1x2176x1024, .bf16⟩
  | .local _ .vmem, ⟨11, _⟩ => ⟨S1x2176x1024, .bf16⟩
  | .local _ .vmem, ⟨12, _⟩ => ⟨S1x1152x1024, .bf16⟩
  | .local _ .vmem, ⟨13, _⟩ => ⟨S1x1152x1024, .bf16⟩
  | .local _ .vmem, ⟨14, _⟩ => ⟨S1536x2048, .f32⟩
  | _, _ => ⟨S8x9x1024x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![8, 4], ![false, false]⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

abbrev stage0_0 : Fin 2 → Memref sig .tc .vmem S1x9x1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x512x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2176x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1152x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel3Ideal.lean ====
variable {F : FTy → Type} [FloatOps F]
-- ==== Reference3Ideal.lean ====
abbrev S8x9x1024x128 : Shape := ⟨4, ![8, 9, 1024, 128]⟩
abbrev S8x9x512x128 : Shape := ⟨4, ![8, 9, 512, 128]⟩
abbrev S1x16x2048x1024 : Shape := ⟨4, ![1, 16, 2048, 1024]⟩
abbrev S1x16x1024x2048 : Shape := ⟨4, ![1, 16, 1024, 2048]⟩
abbrev S8x8x1024x128 : Shape := ⟨4, ![8, 8, 1024, 128]⟩
abbrev S8x8x1024x128x2 : Shape := ⟨5, ![8, 8, 1024, 128, 2]⟩
abbrev S8x1024x2x8x128 : Shape := ⟨5, ![8, 1024, 2, 8, 128]⟩
abbrev S8x1024x2048 : Shape := ⟨3, ![8, 1024, 2048]⟩
abbrev S8x1x1024x128 : Shape := ⟨4, ![8, 1, 1024, 128]⟩
abbrev S8x1024x128 : Shape := ⟨3, ![8, 1024, 128]⟩
abbrev S1x1024x1 : Shape := ⟨3, ![1, 1024, 1]⟩
abbrev S1024 : Shape := ⟨1, ![1024]⟩
abbrev S1x1024 : Shape := ⟨2, ![1, 1024]⟩
abbrev S8x1024 : Shape := ⟨2, ![8, 1024]⟩
abbrev S1x8x2048x1024 : Shape := ⟨4, ![1, 8, 2048, 1024]⟩
abbrev S8x2048x1024 : Shape := ⟨3, ![8, 2048, 1024]⟩
abbrev S1x8x1024x2048 : Shape := ⟨4, ![1, 8, 1024, 2048]⟩
abbrev S8x1024x1024 : Shape := ⟨3, ![8, 1024, 1024]⟩
abbrev S_ : Shape := ⟨0, ![]⟩
abbrev S8x1024x1 : Shape := ⟨3, ![8, 1024, 1]⟩
abbrev S8x1024x2x1024 : Shape := ⟨4, ![8, 1024, 2, 1024]⟩
abbrev S8x128x1024 : Shape := ⟨3, ![8, 128, 1024]⟩
abbrev S8x2176x1024 : Shape := ⟨3, ![8, 2176, 1024]⟩
abbrev S8x8x512x128 : Shape := ⟨4, ![8, 8, 512, 128]⟩
abbrev S8x8x512x128x2 : Shape := ⟨5, ![8, 8, 512, 128, 2]⟩
abbrev S8x512x2x8x128 : Shape := ⟨5, ![8, 512, 2, 8, 128]⟩
abbrev S8x512x2048 : Shape := ⟨3, ![8, 512, 2048]⟩
abbrev S8x1x512x128 : Shape := ⟨4, ![8, 1, 512, 128]⟩
abbrev S8x512x128 : Shape := ⟨3, ![8, 512, 128]⟩
abbrev S1x512x1 : Shape := ⟨3, ![1, 512, 1]⟩
abbrev S512 : Shape := ⟨1, ![512]⟩
abbrev S1x512 : Shape := ⟨2, ![1, 512]⟩
abbrev S8x512 : Shape := ⟨2, ![8, 512]⟩
abbrev S8x512x1024 : Shape := ⟨3, ![8, 512, 1024]⟩
abbrev S8x512x1 : Shape := ⟨3, ![8, 512, 1]⟩
abbrev S8x512x2x1024 : Shape := ⟨4, ![8, 512, 2, 1024]⟩
abbrev S8x1152x1024 : Shape := ⟨3, ![8, 1152, 1024]⟩

abbrev nBuf : Space → Nat
  | .hbm => 127
  | .vmem => 0
  | .smem => 0
  | _ => 0

abbrev bufTy : (tb : Table) → Fin (tcTables nBuf tb) → BufTy
  | .hbm, ⟨0, _⟩ => ⟨S8x9x1024x128, .i32⟩
  | .hbm, ⟨1, _⟩ => ⟨S8x9x512x128, .i32⟩
  | .hbm, ⟨2, _⟩ => ⟨S1x16x2048x1024, .f32⟩
  | .hbm, ⟨3, _⟩ => ⟨S1x16x2048x1024, .f32⟩
  | .hbm, ⟨4, _⟩ => ⟨S1x16x1024x2048, .f32⟩
  | .hbm, ⟨5, _⟩ => ⟨S8x8x1024x128, .i32⟩
  | .hbm, ⟨6, _⟩ => ⟨S8x8x1024x128x2, .bf16⟩
  | .hbm, ⟨7, _⟩ => ⟨S8x1024x2x8x128, .bf16⟩
  | .hbm, ⟨8, _⟩ => ⟨S8x1024x2048, .bf16⟩
  | .hbm, ⟨9, _⟩ => ⟨S8x1024x2048, .f32⟩
  | .hbm, ⟨10, _⟩ => ⟨S8x1x1024x128, .i32⟩
  | .hbm, ⟨11, _⟩ => ⟨S8x1024x128, .i32⟩
  | .hbm, ⟨12, _⟩ => ⟨S8x1024x128, .f32⟩
  | .hbm, ⟨13, _⟩ => ⟨S1x1024x1, .f32⟩
  | .hbm, ⟨14, _⟩ => ⟨S1024, .f32⟩
  | .hbm, ⟨15, _⟩ => ⟨S1x1024x1, .f32⟩
  | .hbm, ⟨16, _⟩ => ⟨S1024, .f32⟩
  | .hbm, ⟨17, _⟩ => ⟨S1x1024x1, .f32⟩
  | .hbm, ⟨18, _⟩ => ⟨S1024, .f32⟩
  | .hbm, ⟨19, _⟩ => ⟨S1x1024x1, .f32⟩
  | .hbm, ⟨20, _⟩ => ⟨S1024, .f32⟩
  | .hbm, ⟨21, _⟩ => ⟨S1x1024x1, .f32⟩
  | .hbm, ⟨22, _⟩ => ⟨S1024, .f32⟩
  | .hbm, ⟨23, _⟩ => ⟨S1x1024x1, .f32⟩
  | .hbm, ⟨24, _⟩ => ⟨S1024, .f32⟩
  | .hbm, ⟨25, _⟩ => ⟨S1x1024x1, .f32⟩
  | .hbm, ⟨26, _⟩ => ⟨S1024, .f32⟩
  | .hbm, ⟨27, _⟩ => ⟨S1x1024x1, .f32⟩
  | .hbm, ⟨28, _⟩ => ⟨S1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S8x1024, .f32⟩
  | .hbm, ⟨38, _⟩ => ⟨S1x8x2048x1024, .f32⟩
  | .hbm, ⟨39, _⟩ => ⟨S8x2048x1024, .f32⟩
  | .hbm, ⟨40, _⟩ => ⟨S1x8x2048x1024, .f32⟩
  | .hbm, ⟨41, _⟩ => ⟨S8x2048x1024, .f32⟩
  | .hbm, ⟨42, _⟩ => ⟨S1x8x1024x2048, .f32⟩
  | .hbm, ⟨43, _⟩ => ⟨S8x1024x2048, .f32⟩
  | .hbm, ⟨44, _⟩ => ⟨S8x1024x1024, .f32⟩
  | .hbm, ⟨45, _⟩ => ⟨S8x1024x1024, .f32⟩
  | .hbm, ⟨46, _⟩ => ⟨S8x1024x1024, .f32⟩
  | .hbm, ⟨47, _⟩ => ⟨S_, .f32⟩
  | .hbm, ⟨48, _⟩ => ⟨S8x1024x1024, .f32⟩
  | .hbm, ⟨49, _⟩ => ⟨S8x1024x1024, .f32⟩
  | .hbm, ⟨50, _⟩ => ⟨S_, .f32⟩
  | .hbm, ⟨51, _⟩ => ⟨S8x1024x1024, .f32⟩
  | .hbm, ⟨52, _⟩ => ⟨S8x1024x1024, .f32⟩
  | .hbm, ⟨53, _⟩ => ⟨S8x1024x1024, .f32⟩
  | .hbm, ⟨54, _⟩ => ⟨S8x1024x1024, .f32⟩
  | .hbm, ⟨55, _⟩ => ⟨S8x1024x1024, .f32⟩
  | .hbm, ⟨56, _⟩ => ⟨S8x1024x2048, .f32⟩
  | .hbm, ⟨57, _⟩ => ⟨S8x1024x1, .f32⟩
  | .hbm, ⟨58, _⟩ => ⟨S8x1024x2048, .f32⟩
  | .hbm, ⟨59, _⟩ => ⟨S8x1024x2048, .f32⟩
  | .hbm, ⟨60, _⟩ => ⟨S8x1024x2x1024, .f32⟩
  | .hbm, ⟨61, _⟩ => ⟨S8x2048x1024, .f32⟩
  | .hbm, ⟨62, _⟩ => ⟨S8x2048x1024, .bf16⟩
  | .hbm, ⟨63, _⟩ => ⟨S_, .bf16⟩
  | .hbm, ⟨64, _⟩ => ⟨S8x128x1024, .bf16⟩
  | .hbm, ⟨65, _⟩ => ⟨S8x2176x1024, .bf16⟩
  | .hbm, ⟨66, _⟩ => ⟨S8x8x512x128, .i32⟩
  | .hbm, ⟨67, _⟩ => ⟨S8x8x512x128x2, .bf16⟩
  | .hbm, ⟨68, _⟩ => ⟨S8x512x2x8x128, .bf16⟩
  | .hbm, ⟨69, _⟩ => ⟨S8x512x2048, .bf16⟩
  | .hbm, ⟨70, _⟩ => ⟨S8x512x2048, .f32⟩
  | .hbm, ⟨71, _⟩ => ⟨S8x1x512x128, .i32⟩
  | .hbm, ⟨72, _⟩ => ⟨S8x512x128, .i32⟩
  | .hbm, ⟨73, _⟩ => ⟨S8x512x128, .f32⟩
  | .hbm, ⟨74, _⟩ => ⟨S1x512x1, .f32⟩
  | .hbm, ⟨75, _⟩ => ⟨S512, .f32⟩
  | .hbm, ⟨76, _⟩ => ⟨S1x512x1, .f32⟩
  | .hbm, ⟨77, _⟩ => ⟨S512, .f32⟩
  | .hbm, ⟨78, _⟩ => ⟨S1x512x1, .f32⟩
  | .hbm, ⟨79, _⟩ => ⟨S512, .f32⟩
  | .hbm, ⟨80, _⟩ => ⟨S1x512x1, .f32⟩
  | .hbm, ⟨81, _⟩ => ⟨S512, .f32⟩
  | .hbm, ⟨82, _⟩ => ⟨S1x512x1, .f32⟩
  | .hbm, ⟨83, _⟩ => ⟨S512, .f32⟩
  | .hbm, ⟨84, _⟩ => ⟨S1x512x1, .f32⟩
  | .hbm, ⟨85, _⟩ => ⟨S512, .f32⟩
  | .hbm, ⟨86, _⟩ => ⟨S1x512x1, .f32⟩
  | .hbm, ⟨87, _⟩ => ⟨S512, .f32⟩
  | .hbm, ⟨88, _⟩ => ⟨S1x512x1, .f32⟩
  | .hbm, ⟨89, _⟩ => ⟨S512, .f32⟩
  | .hbm, ⟨90, _⟩ => ⟨S1x512, .f32⟩
  | .hbm, ⟨91, _⟩ => ⟨S1x512, .f32⟩
  | .hbm, ⟨92, _⟩ => ⟨S1x512, .f32⟩
  | .hbm, ⟨93, _⟩ => ⟨S1x512, .f32⟩
  | .hbm, ⟨94, _⟩ => ⟨S1x512, .f32⟩
  | .hbm, ⟨95, _⟩ => ⟨S1x512, .f32⟩
  | .hbm, ⟨96, _⟩ => ⟨S1x512, .f32⟩
  | .hbm, ⟨97, _⟩ => ⟨S1x512, .f32⟩
  | .hbm, ⟨98, _⟩ => ⟨S8x512, .f32⟩
  | .hbm, ⟨99, _⟩ => ⟨S1x8x2048x1024, .f32⟩
  | .hbm, ⟨100, _⟩ => ⟨S8x2048x1024, .f32⟩
  | .hbm, ⟨101, _⟩ => ⟨S1x8x2048x1024, .f32⟩
  | .hbm, ⟨102, _⟩ => ⟨S8x2048x1024, .f32⟩
  | .hbm, ⟨103, _⟩ => ⟨S1x8x1024x2048, .f32⟩
  | .hbm, ⟨104, _⟩ => ⟨S8x1024x2048, .f32⟩
  | .hbm, ⟨105, _⟩ => ⟨S8x512x1024, .f32⟩
  | .hbm, ⟨106, _⟩ => ⟨S8x512x1024, .f32⟩
  | .hbm, ⟨107, _⟩ => ⟨S8x512x1024, .f32⟩
  | .hbm, ⟨108, _⟩ => ⟨S_, .f32⟩
  | .hbm, ⟨109, _⟩ => ⟨S8x512x1024, .f32⟩
  | .hbm, ⟨110, _⟩ => ⟨S8x512x1024, .f32⟩
  | .hbm, ⟨111, _⟩ => ⟨S_, .f32⟩
  | .hbm, ⟨112, _⟩ => ⟨S8x512x1024, .f32⟩
  | .hbm, ⟨113, _⟩ => ⟨S8x512x1024, .f32⟩
  | .hbm, ⟨114, _⟩ => ⟨S8x512x1024, .f32⟩
  | .hbm, ⟨115, _⟩ => ⟨S8x512x1024, .f32⟩
  | .hbm, ⟨116, _⟩ => ⟨S8x512x1024, .f32⟩
  | .hbm, ⟨117, _⟩ => ⟨S8x512x2048, .f32⟩
  | .hbm, ⟨118, _⟩ => ⟨S8x512x1, .f32⟩
  | .hbm, ⟨119, _⟩ => ⟨S8x512x2048, .f32⟩
  | .hbm, ⟨120, _⟩ => ⟨S8x512x2048, .f32⟩
  | .hbm, ⟨121, _⟩ => ⟨S8x512x2x1024, .f32⟩
  | .hbm, ⟨122, _⟩ => ⟨S8x1024x1024, .f32⟩
  | .hbm, ⟨123, _⟩ => ⟨S8x1024x1024, .bf16⟩
  | .hbm, ⟨124, _⟩ => ⟨S_, .bf16⟩
  | .hbm, ⟨125, _⟩ => ⟨S8x128x1024, .bf16⟩
  | .hbm, ⟨126, _⟩ => ⟨S8x1152x1024, .bf16⟩
  | _, _ => ⟨S8x9x1024x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_call1_v0 : Ref sig .tc := ⟨.hbm, 106, rfl⟩
abbrev main_call1_v1 : Ref sig .tc := ⟨.hbm, 107, rfl⟩
abbrev main_call1_cst : Ref sig .tc := ⟨.hbm, 108, rfl⟩
abbrev main_call1_v2 : Ref sig .tc := ⟨.hbm, 109, rfl⟩
abbrev main_call1_v3 : Ref sig .tc := ⟨.hbm, 110, rfl⟩
abbrev main_call1_cst_0 : Ref sig .tc := ⟨.hbm, 111, rfl⟩
abbrev main_call1_v4 : Ref sig .tc := ⟨.hbm, 112, rfl⟩
abbrev main_call1_v5 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_0 : Ref sig .tc := ⟨.hbm, 124, rfl⟩
abbrev main_v102 : Ref sig .tc := ⟨.hbm, 125, rfl⟩
abbrev main_v103 : Ref sig .tc := ⟨.hbm, 126, rfl⟩

abbrev nD : Nat := 1
abbrev τ : Topo := Topo.v7x

variable {F : FTy → Type} [FloatOps F]
-- ==== Kernel4.lean ====
abbrev S4x1024x2048 : Shape := ⟨3, ![4, 1024, 2048]⟩
abbrev S8x2x2048 : Shape := ⟨3, ![8, 2, 2048]⟩
abbrev S1x2048 : Shape := ⟨2, ![1, 2048]⟩
abbrev S2048x2560 : Shape := ⟨2, ![2048, 2560]⟩
abbrev S1024x2x32 : Shape := ⟨3, ![1024, 2, 32]⟩
abbrev S1024x1x32 : Shape := ⟨3, ![1024, 1, 32]⟩
abbrev S1024x32 : Shape := ⟨2, ![1024, 32]⟩
abbrev S_ : Shape := ⟨0, ![]⟩
abbrev S1024x128 : Shape := ⟨2, ![1024, 128]⟩
abbrev S4096x2048 : Shape := ⟨2, ![4096, 2048]⟩
abbrev S2048 : Shape := ⟨1, ![2048]⟩
abbrev S4096x1024 : Shape := ⟨2, ![4096, 1024]⟩
abbrev S4096x256 : Shape := ⟨2, ![4096, 256]⟩
abbrev S512x2048 : Shape := ⟨2, ![512, 2048]⟩
abbrev S1x2x2048 : Shape := ⟨3, ![1, 2, 2048]⟩
abbrev S512x128 : Shape := ⟨2, ![512, 128]⟩
abbrev S512x1024 : Shape := ⟨2, ![512, 1024]⟩
abbrev S512x256 : Shape := ⟨2, ![512, 256]⟩
abbrev S2x2048 : Shape := ⟨2, ![2, 2048]⟩
abbrev S256x2048 : Shape := ⟨2, ![256, 2048]⟩
abbrev S256 : Shape := ⟨1, ![256]⟩
abbrev S256x1 : Shape := ⟨2, ![256, 1]⟩
abbrev S256x2560 : Shape := ⟨2, ![256, 2560]⟩
abbrev S256x128 : Shape := ⟨2, ![256, 128]⟩
abbrev S256x256 : Shape := ⟨2, ![256, 256]⟩
abbrev S256x1024 : Shape := ⟨2, ![256, 1024]⟩

abbrev nBuf : Space → Nat
  | .hbm => 38
  | .vmem => 20
  | .smem => 0
  | _ => 0

abbrev bufTy : (tb : Table) → Fin (tcTables nBuf tb) → BufTy
  | .hbm, ⟨0, _⟩ => ⟨S4x1024x2048, .f32⟩
  | .hbm, ⟨1, _⟩ => ⟨S8x2x2048, .f32⟩
  | .hbm, ⟨2, _⟩ => ⟨S1x2048, .f32⟩
  | .hbm, ⟨3, _⟩ => ⟨S2048x2560, .bf16⟩
  | .hbm, ⟨4, _⟩ => ⟨S1024x2x32, .f32⟩
  | .hbm, ⟨5, _⟩ => ⟨S1024x2x32, .f32⟩
  | .hbm, ⟨6, _⟩ => ⟨S1024x1x32, .f32⟩
  | .hbm, ⟨7, _⟩ => ⟨S1024x32, .f32⟩
  | .hbm, ⟨8, _⟩ => ⟨S_, .f32⟩
  | .hbm, ⟨9, _⟩ => ⟨S1024x32, .f32⟩
  | .hbm, ⟨10, _⟩ => ⟨S1024x1x32, .f32⟩
  | .hbm, ⟨11, _⟩ => ⟨S1024x32, .f32⟩
  | .hbm, ⟨12, _⟩ => ⟨S1024x1x32, .f32⟩
  | .hbm, ⟨13, _⟩ => ⟨S1024x32, .f32⟩
  | .hbm, ⟨14, _⟩ => ⟨S1024x1x32, .f32⟩
  | .hbm, ⟨15, _⟩ => ⟨S1024x32, .f32⟩
  | .hbm, ⟨16, _⟩ => ⟨S1024x1x32, .f32⟩
  | .hbm, ⟨17, _⟩ => ⟨S1024x32, .f32⟩
  | .hbm, ⟨18, _⟩ => ⟨S1024x128, .f32⟩
  | .hbm, ⟨19, _⟩ => ⟨S1024x1x32, .f32⟩
  | .hbm, ⟨20, _⟩ => ⟨S1024x32, .f32⟩
  | .hbm, ⟨21, _⟩ => ⟨S1024x32, .f32⟩
  | .hbm, ⟨22, _⟩ => ⟨S1024x1x32, .f32⟩
  | .hbm, ⟨23, _⟩ => ⟨S1024x32, .f32⟩
  | .hbm, ⟨24, _⟩ => ⟨S1024x32, .f32⟩
  | .hbm, ⟨25, _⟩ => ⟨S1024x128, .f32⟩
  | .hbm, ⟨26, _⟩ => ⟨S1024x1x32, .f32⟩
  | .hbm, ⟨27, _⟩ => ⟨S1024x32, .f32⟩
  | .hbm, ⟨28, _⟩ => ⟨S1024x1x32, .f32⟩
  | .hbm, ⟨29, _⟩ => ⟨S1024x32, .f32⟩
  | .hbm, ⟨30, _⟩ => ⟨S1024x128, .f32⟩
  | .hbm, ⟨31, _⟩ => ⟨S4096x2048, .f32⟩
  | .hbm, ⟨32, _⟩ => ⟨S2048, .f32⟩
  | .hbm, ⟨33, _⟩ => ⟨S1x2048, .f32⟩
  | .hbm, ⟨34, _⟩ => ⟨S4096x1024, .bf16⟩
  | .hbm, ⟨35, _⟩ => ⟨S4096x256, .f32⟩
  | .hbm, ⟨36, _⟩ => ⟨S4096x256, .f32⟩
  | .hbm, ⟨37, _⟩ => ⟨S4096x1024, .f32⟩
  | .local _ .vmem, ⟨0, _⟩ => ⟨S512x2048, .f32⟩
  | .local _ .vmem, ⟨1, _⟩ => ⟨S512x2048, .f32⟩
  | .local _ .vmem, ⟨2, _⟩ => ⟨S1x2x2048, .f32⟩
  | .local _ .vmem, ⟨3, _⟩ => ⟨S1x2x2048, .f32⟩
  | .local _ .vmem, ⟨4, _⟩ => ⟨S1x2048, .f32⟩
  | .local _ .vmem, ⟨5, _⟩ => ⟨S2048x2560, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x1024, .f32⟩
  | .local _ .vmem, ⟨19, _⟩ => ⟨S512x1024, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27_0 : Ref sig .tc := ⟨.hbm, 34, rfl⟩
abbrev main_v27_1 : Ref sig .tc := ⟨.hbm, 35, rfl⟩
abbrev main_v27_2 : Ref sig .tc := ⟨.hbm, 36, rfl⟩
abbrev main_v27_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S4x1024x2048 : Shape := ⟨3, ![4, 1024, 2048]⟩
abbrev S8x2x2048 : Shape := ⟨3, ![8, 2, 2048]⟩
abbrev S1x2048 : Shape := ⟨2, ![1, 2048]⟩
abbrev S2048x2560 : Shape := ⟨2, ![2048, 2560]⟩
abbrev S1024x2x32 : Shape := ⟨3, ![1024, 2, 32]⟩
abbrev S4096x2048 : Shape := ⟨2, ![4096, 2048]⟩
abbrev S4x1x2048 : Shape := ⟨3, ![4, 1, 2048]⟩
abbrev S4x2048 : Shape := ⟨2, ![4, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S4096x2560 : Shape := ⟨2, ![4096, 2560]⟩
abbrev S4096x1024 : Shape := ⟨2, ![4096, 1024]⟩
abbrev S4096x256 : Shape := ⟨2, ![4096, 256]⟩
abbrev S4x1024x2x32 : Shape := ⟨4, ![4, 1024, 2, 32]⟩
abbrev S4096x1x2x32 : Shape := ⟨4, ![4096, 1, 2, 32]⟩
abbrev S4096x8x2x2x32 : Shape := ⟨5, ![4096, 8, 2, 2, 32]⟩
abbrev S4096x8x2x1x32 : Shape := ⟨5, ![4096, 8, 2, 1, 32]⟩
abbrev S4096x8x2x32 : Shape := ⟨4, ![4096, 8, 2, 32]⟩
abbrev S4096x2x2x2x32 : Shape := ⟨5, ![4096, 2, 2, 2, 32]⟩
abbrev S4096x2x2x1x32 : Shape := ⟨5, ![4096, 2, 2, 1, 32]⟩
abbrev S4096x2x2x32 : Shape := ⟨4, ![4096, 2, 2, 32]⟩

abbrev nBuf : Space → Nat
  | .hbm => 89
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S8x2x2048, .f32⟩
  | .hbm, ⟨2, _⟩ => ⟨S1x2048, .f32⟩
  | .hbm, ⟨3, _⟩ => ⟨S2048x2560, .bf16⟩
  | .hbm, ⟨4, _⟩ => ⟨S1024x2x32, .f32⟩
  | .hbm, ⟨5, _⟩ => ⟨S1024x2x32, .f32⟩
  | .hbm, ⟨6, _⟩ => ⟨S4096x2048, .f32⟩
  | .hbm, ⟨7, _⟩ => ⟨S4x1x2048, .f32⟩
  | .hbm, ⟨8, _⟩ => ⟨S4x2048, .f32⟩
  | .hbm, ⟨9, _⟩ => ⟨S4x1024x2048, .f32⟩
  | .hbm, ⟨10, _⟩ => ⟨S4096x2048, .f32⟩
  | .hbm, ⟨11, _⟩ => ⟨S4x1x2048, .f32⟩
  | .hbm, ⟨12, _⟩ => ⟨S4x2048, .f32⟩
  | .hbm, ⟨13, _⟩ => ⟨S4x1024x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S2048x2560, .f32⟩
  | .hbm, ⟨38, _⟩ => ⟨S4096x2560, .f32⟩
  | .hbm, ⟨39, _⟩ => ⟨S4096x1024, .f32⟩
  | .hbm, ⟨40, _⟩ => ⟨S4096x256, .f32⟩
  | .hbm, ⟨41, _⟩ => ⟨S4096x256, .f32⟩
  | .hbm, ⟨42, _⟩ => ⟨S4096x1024, .f32⟩
  | .hbm, ⟨43, _⟩ => ⟨S4x1024x2x32, .f32⟩
  | .hbm, ⟨44, _⟩ => ⟨S4096x1x2x32, .f32⟩
  | .hbm, ⟨45, _⟩ => ⟨S4x1024x2x32, .f32⟩
  | .hbm, ⟨46, _⟩ => ⟨S4096x1x2x32, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x8x2x2x32, .f32⟩
  | .hbm, ⟨51, _⟩ => ⟨S4096x8x2x1x32, .f32⟩
  | .hbm, ⟨52, _⟩ => ⟨S4096x8x2x32, .f32⟩
  | .hbm, ⟨53, _⟩ => ⟨S4096x8x2x1x32, .f32⟩
  | .hbm, ⟨54, _⟩ => ⟨S4096x8x2x32, .f32⟩
  | .hbm, ⟨55, _⟩ => ⟨S4096x8x2x32, .f32⟩
  | .hbm, ⟨56, _⟩ => ⟨S4096x8x2x32, .f32⟩
  | .hbm, ⟨57, _⟩ => ⟨S4096x8x2x32, .f32⟩
  | .hbm, ⟨58, _⟩ => ⟨S4096x8x2x32, .f32⟩
  | .hbm, ⟨59, _⟩ => ⟨S4096x8x2x32, .f32⟩
  | .hbm, ⟨60, _⟩ => ⟨S4096x8x2x32, .f32⟩
  | .hbm, ⟨61, _⟩ => ⟨S4096x8x2x32, .f32⟩
  | .hbm, ⟨62, _⟩ => ⟨S4096x8x2x32, .f32⟩
  | .hbm, ⟨63, _⟩ => ⟨S4096x8x2x32, .f32⟩
  | .hbm, ⟨64, _⟩ => ⟨S4096x8x2x32, .f32⟩
  | .hbm, ⟨65, _⟩ => ⟨S4096x8x2x1x32, .f32⟩
  | .hbm, ⟨66, _⟩ => ⟨S4096x8x2x1x32, .f32⟩
  | .hbm, ⟨67, _⟩ => ⟨S4096x8x2x2x32, .f32⟩
  | .hbm, ⟨68, _⟩ => ⟨S4096x1024, .f32⟩
  | .hbm, ⟨69, _⟩ => ⟨S4096x1024, .bf16⟩
  | .hbm, ⟨70, _⟩ => ⟨S4096x2x2x2x32, .f32⟩
  | .hbm, ⟨71, _⟩ => ⟨S4096x2x2x1x32, .f32⟩
  | .hbm, ⟨72, _⟩ => ⟨S4096x2x2x32, .f32⟩
  | .hbm, ⟨73, _⟩ => ⟨S4096x2x2x1x32, .f32⟩
  | .hbm, ⟨74, _⟩ => ⟨S4096x2x2x32, .f32⟩
  | .hbm, ⟨75, _⟩ => ⟨S4096x2x2x32, .f32⟩
  | .hbm, ⟨76, _⟩ => ⟨S4096x2x2x32, .f32⟩
  | .hbm, ⟨77, _⟩ => ⟨S4096x2x2x32, .f32⟩
  | .hbm, ⟨78, _⟩ => ⟨S4096x2x2x32, .f32⟩
  | .hbm, ⟨79, _⟩ => ⟨S4096x2x2x32, .f32⟩
  | .hbm, ⟨80, _⟩ => ⟨S4096x2x2x32, .f32⟩
  | .hbm, ⟨81, _⟩ => ⟨S4096x2x2x32, .f32⟩
  | .hbm, ⟨82, _⟩ => ⟨S4096x2x2x32, .f32⟩
  | .hbm, ⟨83, _⟩ => ⟨S4096x2x2x32, .f32⟩
  | .hbm, ⟨84, _⟩ => ⟨S4096x2x2x32, .f32⟩
  | .hbm, ⟨85, _⟩ => ⟨S4096x2x2x1x32, .f32⟩
  | .hbm, ⟨86, _⟩ => ⟨S4096x2x2x1x32, .f32⟩
  | .hbm, ⟨87, _⟩ => ⟨S4096x2x2x2x32, .f32⟩
  | .hbm, ⟨88, _⟩ => ⟨S4096x256, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩

abbrev nD : Nat := 1
abbrev τ : Topo := Topo.v7x

variable {F : FTy → Type} [FloatOps F]
-- ==== Proof.Spec.lean ====
module

public import Idealize.ShloMosaic.Lib.Pipeline.ValueKit
public import Idealize.ShloMosaic.Lib.Pointwise

/-! The feed-forward of one expert on one packed row, in plain arithmetic. -/

@[expose] public section
noncomputable section
namespace Cert.Ffn
open Idealize.ShloMosaic

/-- The bf16 number in half `p` of a word (0 the low half). -/
def half (w : BitVec 32) (p : ℕ) : EReal := Ideal.ofBits .bf16 (w.extractLsb' (p * 16) 16)

/-- Row `s` of group `e` of the packed rows, unpacked: the low halves of its 1024 words, then the high halves. -/
def row {n cap : ℕ} (x : (⟨4, ![n, 9, cap, 128]⟩ : Shape).Idx → BitVec 32) (e : Fin n) (s : Fin cap) (k : Fin 2048) : EReal :=
  half (x (ix4 e ⟨k.val % 1024 / 128, by omega⟩ s ⟨k.val % 128, by omega⟩)) (k.val / 1024)

/-- A hidden unit: the gate's silu times the up projection. -/
def hid (X wg wu : Fin 2048 → EReal) : EReal :=
  (∑ k, X k * wg k) * Ideal.logistic (∑ k, X k * wg k) * (∑ k, X k * wu k)

/-- Expert `E` applied to the row `X`, column `d`. -/
def ffn {n : ℕ} (X : Fin 2048 → EReal) (wg wu : (⟨4, ![1, n, 2048, 1024]⟩ : Shape).Idx → EReal)
    (wd : (⟨4, ![1, n, 1024, 2048]⟩ : Shape).Idx → EReal) (E : Fin n) (d : Fin 2048) : EReal :=
  ∑ f : Fin 1024, hid X (fun k => wg (ix4 0 E k f)) (fun k => wu (ix4 0 E k f)) * wd (ix4 0 E f d)

/-- The same over the block `b` of 256 hidden units. -/
def ffnBlock {n : ℕ} (X : Fin 2048 → EReal) (wg wu : (⟨4, ![1, n, 2048, 1024]⟩ : Shape).Idx → EReal)
    (wd : (⟨4, ![1, n, 1024, 2048]⟩ : Shape).Idx → EReal) (E : Fin n) (d : Fin 2048) (b : Fin 4) : EReal :=
  ∑ j : Fin 256, hid X (fun k => wg (ix4 0 E k ⟨b.val * 256 + j.val, by omega⟩)) (fun k => wu (ix4 0 E k ⟨b.val * 256 + j.val, by omega⟩))
    * wd (ix4 0 E ⟨b.val * 256 + j.val, by omega⟩ d)

/-- The four blocks, last first, add up to the whole. -/
theorem ffn_blocks {n : ℕ} (X : Fin 2048 → EReal) (wg wu : (⟨4, ![1, n, 2048, 1024]⟩ : Shape).Idx → EReal)
    (wd : (⟨4, ![1, n, 1024, 2048]⟩ : Shape).Idx → EReal) (E : Fin n) (d : Fin 2048) :
    ffnBlock X wg wu wd E d 3 + (ffnBlock X wg wu wd E d 2 + (ffnBlock X wg wu wd E d 1 + (ffnBlock X wg wu wd E d 0 + 0)))
      = ffn X wg wu wd E d := by
  have h := Fin.sum_univ_mul_divNat_modNat 4 256 (fun b j => hid X (fun k => wg (ix4 0 E k ⟨b.val * 256 + j.val, by omega⟩))
    (fun k => wu (ix4 0 E k ⟨b.val * 256 + j.val, by omega⟩)) * wd (ix4 0 E ⟨b.val * 256 + j.val, by omega⟩ d))
  have h2 : ffn X wg wu wd E d = ∑ b : Fin 4, ffnBlock X wg wu wd E d b := by
    refine Eq.trans ?_ h
    refine Finset.sum_congr rfl fun (f : Fin 1024) _ => ?_
    have e : (⟨(Fin.divNat (m := 4) (n := 256) f).val * 256 + (Fin.modNat (m := 4) (n := 256) f).val, by omega⟩ : Fin 1024) = f :=
      Fin.ext (Nat.div_add_mod' f.val 256)
    simp only [e]
  rw [h2, Fin.sum_univ_four, add_zero]
  rw [← add_assoc, ← add_assoc, add_comm]
  ac_rfl

/-- One element of expert `E`'s result on group `e` of the packed rows: row `s` of the group is the rows `2 s` (columns below
    1024) and `2 s + 1` (the others) of the result, weighted by the row's gate; 128 rows of zeros follow. -/
def out {n cap : ℕ} (x : (⟨4, ![n, 9, cap, 128]⟩ : Shape).Idx → BitVec 32) (wg wu : (⟨4, ![1, 16, 2048, 1024]⟩ : Shape).Idx → EReal)
    (wd : (⟨4, ![1, 16, 1024, 2048]⟩ : Shape).Idx → EReal) (e : Fin n) (E : Fin 16) (q : ℕ) (d : Fin 1024) : EReal :=
  if h : q < 2 * cap then
    ffn (row x e ⟨q / 2, by omega⟩) wg wu wd E ⟨q % 2 * 1024 + d.val, by omega⟩
      * Ideal.ofBits .f32 (x (ix4 e 8 ⟨q / 2, by omega⟩ ⟨E.val, by omega⟩))
  else 0

/-- An element of the result: the experts from 8 on, and below 8 what the buffer already held. -/
def over {cap n : ℕ} (x : (⟨4, ![8, 9, cap, 128]⟩ : Shape).Idx → BitVec 32) (wg wu : (⟨4, ![1, 16, 2048, 1024]⟩ : Shape).Idx → EReal)
    (wd : (⟨4, ![1, 16, 1024, 2048]⟩ : Shape).Idx → EReal) (prior : (⟨3, ![16, n, 1024]⟩ : Shape).Idx → EReal)
    (E : Fin 16) (q : Fin n) (d : Fin 1024) : EReal :=
  if h : 8 ≤ E.val then out x wg wu wd (⟨E.val - 8, by omega⟩ : Fin 8) E q.val d else prior (ix3 E q d)

end Cert.Ffn
end
-- ==== Proof.Rows.lean ====
module

public import proofs.«01_k».proof.Proof.Gen.KernelIdeal.Value
public import proofs.«01_k».proof.Proof.Spec
public import Idealize.ShloMosaic.Lib.Pipeline.ValueKit
public import Idealize.ShloMosaic.Lib.Pointwise
public import Idealize.ShloMosaic.Lib.Pipeline.ReadBack

/-! The arithmetic of one point of the feed-forward grid, read one element at a time: what 512 rows of packed words
    contribute to the accumulator, and the gate of a row. -/

@[expose] public section
set_option maxRecDepth 16384
noncomputable section
namespace Cert.KernelIdeal.Rows
open Idealize.ShloMosaic Idealize.ShloMosaic.TcCoe Cert.KernelIdeal Cert.KernelIdeal.Gen Cert.Ffn

variable {F : FTy → Type} [FloatOps F]

/-- 512 rows unpacked: the low halves of the eight word blocks, then the high halves. -/
def xcat (w0 w1 w2 w3 w4 w5 w6 w7 : Vec F S1x1x512x128 .i32) : FVec F S512x2048 .f32 :=
  have c : S1x1x512x128.ShapeCasts S512x128 := shapeCasts_S1x1x512x128_S512x128
  concatenate S512x2048 1
    [⟨S512x128, unpackElementwise 0 (shapeCast S512x128 w0 c)⟩, ⟨S512x128, unpackElementwise 0 (shapeCast S512x128 w1 c)⟩,
     ⟨S512x128, unpackElementwise 0 (shapeCast S512x128 w2 c)⟩, ⟨S512x128, unpackElementwise 0 (shapeCast S512x128 w3 c)⟩,
     ⟨S512x128, unpackElementwise 0 (shapeCast S512x128 w4 c)⟩, ⟨S512x128, unpackElementwise 0 (shapeCast S512x128 w5 c)⟩,
     ⟨S512x128, unpackElementwise 0 (shapeCast S512x128 w6 c)⟩, ⟨S512x128, unpackElementwise 0 (shapeCast S512x128 w7 c)⟩,
     ⟨S512x128, unpackElementwise 1 (shapeCast S512x128 w0 c)⟩, ⟨S512x128, unpackElementwise 1 (shapeCast S512x128 w1 c)⟩,
     ⟨S512x128, unpackElementwise 1 (shapeCast S512x128 w2 c)⟩, ⟨S512x128, unpackElementwise 1 (shapeCast S512x128 w3 c)⟩,
     ⟨S512x128, unpackElementwise 1 (shapeCast S512x128 w4 c)⟩, ⟨S512x128, unpackElementwise 1 (shapeCast S512x128 w5 c)⟩,
     ⟨S512x128, unpackElementwise 1 (shapeCast S512x128 w6 c)⟩, ⟨S512x128, unpackElementwise 1 (shapeCast S512x128 w7 c)⟩]
    concatenates_S512x128_S512x128_S512x128_S512x128_S512x128_S512x128_S512x128_S512x128_S512x128_S512x128_S512x128_S512x128_S512x128_S512x128_S512x128_S512x128_S512x2048_d1

/-- What one block of 256 hidden units adds to 512 rows of the result. -/
def part (X : FVec F S512x2048 .f32) (wg wu : Vec F S1x2048x256 .f32) (wd : Vec F S1x256x2048 .f32) : FVec F S512x2048 .f32 :=
  let A := matmul dot_S512x2048_S2048x256_S512x256_1_0_0_1_n_n none X (shapeCast S2048x256 wg shapeCasts_S1x2048x256_S2048x256) (constant S512x256 .f32 0x00000000#32)
  let U := matmul dot_S512x2048_S2048x256_S512x256_1_0_0_1_n_n none X (shapeCast S2048x256 wu shapeCasts_S1x2048x256_S2048x256) (constant S512x256 .f32 0x00000000#32)
  matmul dot_S512x256_S256x2048_S512x2048_1_0_0_1_n_n none (mulf (mulf A (logistic A)) U)
    (shapeCast S256x2048 wd shapeCasts_S1x256x2048_S256x2048) (constant S512x2048 .f32 0x00000000#32)

/-- `part` in the reals: row `X` through 256 hidden units to column `d`. -/
def partVal (X : Fin 2048 → EReal) (wg wu : Vec Ideal S1x2048x256 .f32) (wd : Vec Ideal S1x256x2048 .f32) (d : Fin 2048) : EReal :=
  ∑ f : Fin 256, ((∑ k, X k * wg (ix3 0 k f)) * Ideal.logistic (∑ k, X k * wg (ix3 0 k f)) * (∑ k, X k * wu (ix3 0 k f))) * wd (ix3 0 f d)

theorem part_apply (X : FVec Ideal S512x2048 .f32) (wg wu : Vec Ideal S1x2048x256 .f32) (wd : Vec Ideal S1x256x2048 .f32) (r : Fin 512) (d : Fin 2048) :
    part X wg wu wd (ix2 r d) = partVal (fun k => X (ix2 r k)) wg wu wd d := by
  unfold partVal
  pointwise [part]

theorem cat16_apply (v : Fin 16 → S512x128.Idx → EReal) (r : Fin 512) (k : Fin 2048) :
    concatenate S512x2048 1
      [⟨S512x128, v 0⟩, ⟨S512x128, v 1⟩, ⟨S512x128, v 2⟩, ⟨S512x128, v 3⟩, ⟨S512x128, v 4⟩, ⟨S512x128, v 5⟩, ⟨S512x128, v 6⟩, ⟨S512x128, v 7⟩, ⟨S512x128, v 8⟩, ⟨S512x128, v 9⟩, ⟨S512x128, v 10⟩, ⟨S512x128, v 11⟩, ⟨S512x128, v 12⟩, ⟨S512x128, v 13⟩, ⟨S512x128, v 14⟩, ⟨S512x128, v 15⟩]
      concatenates_S512x128_S512x128_S512x128_S512x128_S512x128_S512x128_S512x128_S512x128_S512x128_S512x128_S512x128_S512x128_S512x128_S512x128_S512x128_S512x128_S512x2048_d1 (ix2 r k)
      = v ⟨k.val / 128, by omega⟩ (ix2 r ⟨k.val % 128, by omega⟩) := by
  have e : (List.ofFn fun n : Fin 16 => (⟨S512x128, v n⟩ : (s : Shape) × (s.Idx → EReal)))
      = [⟨S512x128, v 0⟩, ⟨S512x128, v 1⟩, ⟨S512x128, v 2⟩, ⟨S512x128, v 3⟩, ⟨S512x128, v 4⟩, ⟨S512x128, v 5⟩, ⟨S512x128, v 6⟩, ⟨S512x128, v 7⟩, ⟨S512x128, v 8⟩, ⟨S512x128, v 9⟩, ⟨S512x128, v 10⟩, ⟨S512x128, v 11⟩, ⟨S512x128, v 12⟩, ⟨S512x128, v 13⟩, ⟨S512x128, v 14⟩, ⟨S512x128, v 15⟩] := rfl
  refine Eq.trans ?_ (concatenate_ofFn_apply (t := S512x2048) (s₁ := S512x128) 1 v
    (e ▸ concatenates_S512x128_S512x128_S512x128_S512x128_S512x128_S512x128_S512x128_S512x128_S512x128_S512x128_S512x128_S512x128_S512x128_S512x128_S512x128_S512x128_S512x2048_d1)
    rfl 128 rfl (ix2 r k) ⟨k.val / 128, by omega⟩ rfl (ix2 r ⟨k.val % 128, by omega⟩) rfl ?_)
  · simp only [e]
  · intro b hb
    fin_cases b
    · rfl
    · exact absurd rfl hb

theorem xcat_apply (w0 w1 w2 w3 w4 w5 w6 w7 : Vec Ideal S1x1x512x128 .i32) (r : Fin 512) (k : Fin 2048) :
    xcat w0 w1 w2 w3 w4 w5 w6 w7 (ix2 r k) =
      half (![w0, w1, w2, w3, w4, w5, w6, w7] ⟨k.val % 1024 / 128, by omega⟩ (ix4 0 0 r ⟨k.val % 128, by omega⟩)) (k.val / 1024) := by
  have h := cat16_apply (fun n : Fin 16 => unpackElementwise (F := Ideal) (n.val / 8) (shapeCast S512x128 (![w0, w1, w2, w3, w4, w5, w6, w7] ⟨n.val % 8, by omega⟩) shapeCasts_S1x1x512x128_S512x128) (by omega)) r k
  simp only [Fin.isValue, Fin.reduceMod, Fin.coe_ofNat_eq_mod, Nat.reduceMod, Nat.reduceDiv, Fin.reduceFinMk, Matrix.cons_val] at h
  unfold xcat
  rw [h]
  simp only [show k.val % 1024 / 128 = k.val / 128 % 8 by omega, show k.val / 1024 = k.val / 128 / 8 by omega]
  pointwise [half]

/-- Row `s` of a block of packed rows, unpacked. -/
def xrow {cap : ℕ} (x : Vec Ideal ⟨4, ![1, 9, cap, 128]⟩ .i32) (s : Fin cap) (k : Fin 2048) : EReal :=
  half (x (ix4 0 ⟨k.val % 1024 / 128, by omega⟩ s ⟨k.val % 128, by omega⟩)) (k.val / 1024)

/-- Row `r` of the accumulator's 1536: the 1024 of the first group, then the 512 of the second. -/
def rowOf (x0 : Vec Ideal S1x9x1024x128 .i32) (x1 : Vec Ideal S1x9x512x128 .i32) (r : Fin 1536) : Fin 2048 → EReal :=
  if h : r.val < 1024 then xrow x0 ⟨r.val, h⟩ else xrow x1 ⟨r.val - 1024, by omega⟩

/-- Word block `n` of the 512 packed rows from row `off` on. -/
def words {cap : ℕ} (x : Vec F ⟨4, ![1, 9, cap, 128]⟩ .i32) (off : ℕ) (ho : off + 512 ≤ cap) (n : Fin 8) : Vec F S1x1x512x128 .i32 :=
  View.ld x (Rect.unit ![0, n.val, off, 0] ![1, 1, 512, 128] (by
    intro a; fin_cases a
    · exact le_refl _
    · show n.val + 1 ≤ 9; omega
    · exact ho
    · exact le_refl _))

/-- Those 512 rows, unpacked. -/
def xw {cap : ℕ} (x : Vec F ⟨4, ![1, 9, cap, 128]⟩ .i32) (off : ℕ) (ho : off + 512 ≤ cap) : FVec F S512x2048 .f32 :=
  xcat (words x off ho 0) (words x off ho 1) (words x off ho 2) (words x off ho 3)
    (words x off ho 4) (words x off ho 5) (words x off ho 6) (words x off ho 7)

theorem xw_apply {cap : ℕ} (x : Vec Ideal ⟨4, ![1, 9, cap, 128]⟩ .i32) (off : ℕ) (ho : off + 512 ≤ cap) (r : Fin 512) (k : Fin 2048) :
    xw x off ho (ix2 r k) = xrow x ⟨off + r.val, by omega⟩ k := by
  unfold xw
  rw [xcat_apply]
  have e : ∀ n : Fin 8, ![words x off ho 0, words x off ho 1, words x off ho 2, words x off ho 3,
    words x off ho 4, words x off ho 5, words x off ho 6, words x off ho 7] n = words x off ho n := by
    intro n; fin_cases n <;> rfl
  rw [e]
  unfold xrow words
  rw [View.ld_apply]
  congr 2
  funext a
  fin_cases a <;> apply Fin.ext <;> simp [LoadRect.idx, Rect.unit]

/-- The accumulator's update of 512 rows. -/
def accRow (z : BitVec 1) (X : FVec F S512x2048 .f32) (wg wu : Vec F S1x2048x256 .f32) (wd : Vec F S1x256x2048 .f32) (acc : Vec F S512x2048 .f32) : FVec F S512x2048 .f32 :=
  shapeCast S512x2048 (addf (part X wg wu wd) (Scalar.select z (broadcast S512x2048 (Scalar.ofBits .f32 0x00000000#32)) acc)) shapeCasts_S512x2048_S512x2048

theorem accRow_apply (z : BitVec 1) (X : FVec Ideal S512x2048 .f32) (wg wu : Vec Ideal S1x2048x256 .f32) (wd : Vec Ideal S1x256x2048 .f32) (acc : Vec Ideal S512x2048 .f32) (r : Fin 512) (d : Fin 2048) :
    accRow z X wg wu wd acc (ix2 r d) = partVal (fun k => X (ix2 r k)) wg wu wd d + (if z = 1#1 then 0 else acc (ix2 r d)) := by
  rw [← part_apply]
  pointwise [accRow]
  rfl

/-- The finished rows: the last block added, the gates multiplied in. -/
def yRow (X : FVec F S512x2048 .f32) (wg wu : Vec F S1x2048x256 .f32) (wd : Vec F S1x256x2048 .f32) (acc : Vec F S512x2048 .f32) (g : FVec F S512x1 .f32) : FVec F S512x2048 .f32 :=
  mulf (addf (part X wg wu wd) acc) (broadcastTo S512x2048 g broadcasts_S512x1_S512x2048)

theorem yRow_apply (X : FVec Ideal S512x2048 .f32) (wg wu : Vec Ideal S1x2048x256 .f32) (wd : Vec Ideal S1x256x2048 .f32) (acc : Vec Ideal S512x2048 .f32) (g : FVec Ideal S512x1 .f32) (r : Fin 512) (d : Fin 2048) :
    yRow X wg wu wd acc g (ix2 r d) = (partVal (fun k => X (ix2 r k)) wg wu wd d + acc (ix2 r d)) * g (ix2 r 0) := by
  rw [← part_apply]
  pointwise [yRow]

/-- 512 finished rows as the packed words hold them: the two halves of a row on two rows of bf16. -/
def yPair (y : FVec F S512x2048 .f32) : Vec F S1x1024x1024 .bf16 :=
  interleaveRows S1x1024x1024
    (shapeCast S1x512x1024 (truncf .bf16 (extractStridedSlice S512x1024 ![0, 0] y slices_S512x2048_o0_0_S512x1024)) shapeCasts_S512x1024_S1x512x1024)
    (shapeCast S1x512x1024 (truncf .bf16 (extractStridedSlice S512x1024 ![0, 1024] y slices_S512x2048_o0_1024_S512x1024)) shapeCasts_S512x1024_S1x512x1024)
    bitcasts_S1x1024x1024_w16_S1x512x1024_w32

theorem yPair_apply (y : FVec Ideal S512x2048 .f32) (q c : Fin 1024) :
    yPair y (ix3 0 q c) = y (ix2 ⟨q.val / 2, by omega⟩ ⟨q.val % 2 * 1024 + c.val, by omega⟩) := by
  pointwise [yPair]
  rcases Nat.mod_two_eq_zero_or_one q.val with h | h
  · rw [if_pos h]; congr 2; apply Fin.ext; simp [h]
  · rw [if_neg (by omega)]; congr 2; apply Fin.ext; simp [h]

theorem lane_iff (e : Fin 8) (l : Fin 128) :
    IntOp.cmpi .eq (BitVec.ofNat 32 l.val) (Scalar.addi (BitVec.ofNat 32 e.val) 8#32) = 1#1 ↔ l.val = e.val + 8 := by
  revert e l; decide +kernel

/-- The sum over the lanes of a row that keeps one lane is that lane. -/
theorem lane_sum (e : Fin 8) (v : Fin 128 → EReal) :
    ∑ l : Fin 128, Scalar.select (IntOp.cmpi .eq (BitVec.ofNat 32 l.val) (Scalar.addi (BitVec.ofNat 32 e.val) 8#32)) (v l) 0
      = v ⟨e.val + 8, by omega⟩ := by
  rw [Finset.sum_eq_single (⟨e.val + 8, by omega⟩ : Fin 128)]
  · exact if_pos ((lane_iff e _).2 rfl)
  · intro l _ hl
    exact if_neg fun h => hl (Fin.ext ((lane_iff e l).1 h))
  · exact fun h => absurd (Finset.mem_univ _) h

theorem gates_first (e : Fin 8) (v : Vec Ideal S1x1x1024x128 .i32) (s : Fin 1024) :
    k0_pay49 (BitVec.ofNat 32 e.val) v (ix2 s 0) = Ideal.ofBits .f32 (v (ix4 0 0 s ⟨e.val + 8, by omega⟩)) := by
  pointwise [k0_pay49]
  exact lane_sum e fun l => Ideal.ofBits .f32 (v (ix4 0 0 s l))

theorem gates_second (e : Fin 8) (v : Vec Ideal S1x1x512x128 .i32) (s : Fin 512) :
    k0_pay84 (BitVec.ofNat 32 e.val) v (ix2 s 0) = Ideal.ofBits .f32 (v (ix4 0 0 s ⟨e.val + 8, by omega⟩)) := by
  pointwise [k0_pay84]
  exact lane_sum e fun l => Ideal.ofBits .f32 (v (ix4 0 0 s l))

theorem cond_iff (n : Fin 4) : (Scalar.cmpi .eq (BitVec.ofNat 32 n.val) 0#32 = 1#1) ↔ n.val = 0 := by
  revert n; decide

theorem rowOf_first (x0 : Vec Ideal S1x9x1024x128 .i32) (x1 : Vec Ideal S1x9x512x128 .i32) (r : Fin 1536) (h : r.val < 1024) :
    rowOf x0 x1 r = xrow x0 ⟨r.val, h⟩ := dif_pos h

theorem rowOf_second (x0 : Vec Ideal S1x9x1024x128 .i32) (x1 : Vec Ideal S1x9x512x128 .i32) (r : Fin 1536) (h : ¬ r.val < 1024) :
    rowOf x0 x1 r = xrow x1 ⟨r.val - 1024, by omega⟩ := dif_neg h

theorem acc_piece (n : Fin 4) (X : FVec Ideal S512x2048 .f32) (wg wu : Vec Ideal S1x2048x256 .f32) (wd : Vec Ideal S1x256x2048 .f32)
    (acc : Vec Ideal S512x2048 .f32) (R : Fin 2048 → EReal) (a : Fin 512) (b : Fin 2048) (v : EReal)
    (hX : ∀ k, X (ix2 a k) = R k) (hacc : n.val ≠ 0 → acc (ix2 a b) = v) :
    accRow (Scalar.cmpi .eq (BitVec.ofNat 32 n.val) 0#32) X wg wu wd acc (ix2 a b)
      = partVal R wg wu wd b + (if n.val = 0 then 0 else v) := by
  rw [accRow_apply, show (fun k => X (ix2 a k)) = R from funext hX]
  by_cases h : n.val = 0
  · rw [if_pos ((cond_iff n).2 h), if_pos h]
  · rw [if_neg fun h' => h ((cond_iff n).1 h'), if_neg h, hacc h]

theorem xw_first (x0 : Vec Ideal S1x9x1024x128 .i32) (x1 : Vec Ideal S1x9x512x128 .i32) (off : ℕ) (ho : off + 512 ≤ 1024)
    (a : Fin 512) (r : Fin 1536) (h : r.val = off + a.val) (k : Fin 2048) : xw x0 off ho (ix2 a k) = rowOf x0 x1 r k := by
  rw [xw_apply, rowOf_first _ _ _ (by omega)]
  congr 1; exact Fin.ext h.symm

theorem xw_second (x0 : Vec Ideal S1x9x1024x128 .i32) (x1 : Vec Ideal S1x9x512x128 .i32)
    (a : Fin 512) (r : Fin 1536) (h : r.val = 1024 + a.val) (k : Fin 2048) : xw x1 0 (by decide) (ix2 a k) = rowOf x0 x1 r k := by
  rw [xw_apply, rowOf_second _ _ _ (by omega)]
  congr 1; apply Fin.ext; show 0 + a.val = r.val - 1024; omega

theorem ld_acc (v : Vec Ideal S1536x2048 .f32) (off : ℕ) (inb : ∀ k, ![off, 0] k + ![512, 2048] k ≤ S1536x2048.size k)
    (a : Fin 512) (b : Fin 2048) (r : Fin 1536) (d : Fin 2048) (h0 : r.val = off + a.val) (h1 : d.val = b.val) :
    View.ld v (Rect.unit ![off, 0] ![512, 2048] inb) (ix2 a b) = v (ix2 r d) := by
  rw [View.ld_apply]
  congr 1
  funext k; fin_cases k <;> apply Fin.ext <;> simp [LoadRect.idx, Rect.unit, h0, h1]

theorem sout_B (c : Dev nD) (i : grid0.Coords) (arg2 : Memref sig .tc .vmem S1x9x1024x128 .i32) (harg2 : arg2.IsWhole) (arg3 : Memref sig .tc .vmem S1x9x512x128 .i32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg9 : Memref sig .tc .vmem S1x2176x1024 .bf16) (harg9 : arg9.IsWhole) (arg10 : Memref sig .tc .vmem S1x1152x1024 .bf16) (harg10 : arg10.IsWhole) (arg11 : Memref sig .tc .vmem S1536x2048 .f32) (harg11 : arg11.IsWhole) (hc0 : ¬cond0_0 i) (hc1 : cond0_1 i) (hc2 : ¬cond0_2 i)
    (x0 : Vec Ideal S1x9x1024x128 .i32) (x1 : Vec Ideal S1x9x512x128 .i32) (x2 : Vec Ideal S1x2048x256 .f32) (x3 : Vec Ideal S1x2048x256 .f32) (x4 : Vec Ideal S1x256x2048 .f32) (xs0 : Vec Ideal S1536x2048 .f32) (r : Fin 1536) (d : Fin 2048) :
    sout0_B_0 c i arg2 harg2 arg3 harg3 arg4 harg4 arg5 harg5 arg6 harg6 arg9 harg9 arg10 harg10 arg11 harg11 hc0 hc1 hc2 x0 x1 x2 x3 x4 xs0 (ix2 r d)
      = partVal (rowOf x0 x1 r) x2 x3 x4 d + (if (i 1).val = 0 then 0 else xs0 (ix2 r d)) := by
  frame_out
  canon_tiles x h
  · obtain ⟨a, b, rfl⟩ : ∃ a b, x = ix2 a b := ⟨_, _, eq_ix2 x⟩
    rw [show d = b from Fin.ext h1]
    exact acc_piece (i 1) (xw x1 0 (by decide)) x2 x3 x4 _ _ a b _ (xw_second x0 x1 a r h0) fun _ => ld_acc xs0 1024 _ a b r b h0 rfl
  · obtain ⟨a, b, rfl⟩ : ∃ a b, x = ix2 a b := ⟨_, _, eq_ix2 x⟩
    rw [show d = b from Fin.ext h1]
    exact acc_piece (i 1) (xw x0 512 (by decide)) x2 x3 x4 _ _ a b _ (xw_first x0 x1 512 (by decide) a r h0) fun _ => ld_acc xs0 512 _ a b r b h0 rfl
  · obtain ⟨a, b, rfl⟩ : ∃ a b, x = ix2 a b := ⟨_, _, eq_ix2 x⟩
    rw [show d = b from Fin.ext h1]
    exact acc_piece (i 1) (xw x0 0 (by decide)) x2 x3 x4 _ _ a b _ (xw_first x0 x1 0 (by decide) a r (h0.trans (Nat.zero_add _).symm)) fun _ => ld_acc xs0 0 _ a b r b (h0.trans (Nat.zero_add _).symm) rfl

theorem sout_A (c : Dev nD) (i : grid0.Coords) (arg2 : Memref sig .tc .vmem S1x9x1024x128 .i32) (harg2 : arg2.IsWhole) (arg3 : Memref sig .tc .vmem S1x9x512x128 .i32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg9 : Memref sig .tc .vmem S1x2176x1024 .bf16) (harg9 : arg9.IsWhole) (arg10 : Memref sig .tc .vmem S1x1152x1024 .bf16) (harg10 : arg10.IsWhole) (arg11 : Memref sig .tc .vmem S1536x2048 .f32) (harg11 : arg11.IsWhole) (hc0 : cond0_0 i) (hc1 : cond0_1 i) (hc2 : ¬cond0_2 i)
    (x0 : Vec Ideal S1x9x1024x128 .i32) (x1 : Vec Ideal S1x9x512x128 .i32) (x2 : Vec Ideal S1x2048x256 .f32) (x3 : Vec Ideal S1x2048x256 .f32) (x4 : Vec Ideal S1x256x2048 .f32) (h0 : (i 1).val = 0) (r : Fin 1536) (d : Fin 2048) :
    sout0_A_0 c i arg2 harg2 arg3 harg3 arg4 harg4 arg5 harg5 arg6 harg6 arg9 harg9 arg10 harg10 arg11 harg11 hc0 hc1 hc2 x0 x1 x2 x3 x4 (ix2 r d) = partVal (rowOf x0 x1 r) x2 x3 x4 d + 0 := by
  have e : ∀ v : EReal, (if (i 1).val = 0 then 0 else v) = (0 : EReal) := fun v => if_pos h0
  rw [← e 0]
  frame_open
  simp (disch := decide) only [↓ View.readCov_skip, ↓ View.readCov_cons_toLoadRect, ↓ View.readCov_fill]
  frame_out
  refine View.canon_append_of_piecesOf (Val := Elt Ideal) (e := .f32) (fun y : S1536x2048.Idx => partVal (rowOf x0 x1 (y 0)) x2 x3 x4 (y 1) + (if (i 1).val = 0 then 0 else 0)) [_] [_, _, _]
    ⟨?_, ?_, ?_, trivial⟩ (ix2 r d) (View.cover_of_tiledBy _ ![512, 2048] (by sl_kernel_rfl) _)
  · intro x
    obtain ⟨a, b, rfl⟩ : ∃ a b, x = ix2 a b := ⟨_, _, eq_ix2 x⟩
    have e0 : (Rect.unit ![1024, 0] ![512, 2048] inb_S1536x2048_S512x2048_1024_0).emb (ix2 a b) = ix2 ⟨1024 + a.val, by omega⟩ b := by
      funext k; fin_cases k <;> apply Fin.ext <;> simp [Rect.emb, Rect.unit]
    rw [e0]
    exact acc_piece (i 1) (xw x1 0 (by decide)) x2 x3 x4 _ _ a b _ (xw_second x0 x1 a _ rfl) fun h => absurd h0 h
  · intro x
    obtain ⟨a, b, rfl⟩ : ∃ a b, x = ix2 a b := ⟨_, _, eq_ix2 x⟩
    have e0 : (Rect.unit ![512, 0] ![512, 2048] inb_S1536x2048_S512x2048_512_0).emb (ix2 a b) = ix2 ⟨512 + a.val, by omega⟩ b := by
      funext k; fin_cases k <;> apply Fin.ext <;> simp [Rect.emb, Rect.unit]
    rw [e0]
    exact acc_piece (i 1) (xw x0 512 (by decide)) x2 x3 x4 _ _ a b _ (xw_first x0 x1 512 (by decide) a _ rfl) fun h => absurd h0 h
  · intro x
    obtain ⟨a, b, rfl⟩ : ∃ a b, x = ix2 a b := ⟨_, _, eq_ix2 x⟩
    have e0 : (Rect.unit ![0, 0] ![512, 2048] inb_S1536x2048_S512x2048_0_0).emb (ix2 a b) = ix2 ⟨0 + a.val, by omega⟩ b := by
      funext k; fin_cases k <;> apply Fin.ext <;> simp [Rect.emb, Rect.unit]
    rw [e0]
    exact acc_piece (i 1) (xw x0 0 (by decide)) x2 x3 x4 _ _ a b _ (xw_first x0 x1 0 (by decide) a _ rfl) fun h => absurd h0 h

theorem gate_first (i0 : Fin 8) (x0 : Vec Ideal S1x9x1024x128 .i32) (off : ℕ) (hs : S1024x1.Slices ![off, 0] S512x1) (a : Fin 512) (r : Fin 1024) (h : r.val = off + a.val) :
    extractStridedSlice S512x1 ![off, 0] (k0_pay49 (BitVec.ofNat 32 i0.val) (View.ld x0 (Rect.unit ![0, 8, 0, 0] ![1, 1, 1024, 128] inb_S1x9x1024x128_S1x1x1024x128_0_8_0_0))) hs (ix2 a 0)
      = Ideal.ofBits .f32 (x0 (ix4 0 8 r ⟨i0.val + 8, by omega⟩)) := by
  have e : (⟨off + a.val, by omega⟩ : Fin 1024) = r := Fin.ext h.symm
  refine Eq.trans ?_ ((gates_first i0 (View.ld x0 (Rect.unit ![0, 8, 0, 0] ![1, 1, 1024, 128] inb_S1x9x1024x128_S1x1x1024x128_0_8_0_0)) r).trans ?_)
  · rw [← e]
    pointwise
  · rw [View.ld_apply]
    congr 2
    funext k; fin_cases k <;> apply Fin.ext <;> simp [LoadRect.idx, Rect.unit]

theorem gate_second (i0 : Fin 8) (x1 : Vec Ideal S1x9x512x128 .i32) (a : Fin 512) :
    k0_pay84 (BitVec.ofNat 32 i0.val) (View.ld x1 (Rect.unit ![0, 8, 0, 0] ![1, 1, 512, 128] inb_S1x9x512x128_S1x1x512x128_0_8_0_0)) (ix2 a 0)
      = Ideal.ofBits .f32 (x1 (ix4 0 8 a ⟨i0.val + 8, by omega⟩)) := by
  rw [gates_second, View.ld_apply]
  congr 2
  funext k; fin_cases k <;> apply Fin.ext <;> simp [LoadRect.idx, Rect.unit]

theorem y_piece (X : FVec Ideal S512x2048 .f32) (wg wu : Vec Ideal S1x2048x256 .f32) (wd : Vec Ideal S1x256x2048 .f32)
    (acc : Vec Ideal S512x2048 .f32) (g : FVec Ideal S512x1 .f32) (R : Fin 2048 → EReal) (z : Fin 1) (a b : Fin 1024) (d : Fin 2048) (v w : EReal)
    (hd : d.val = a.val % 2 * 1024 + b.val)
    (hX : ∀ k, X (ix2 ⟨a.val / 2, by omega⟩ k) = R k) (hacc : acc (ix2 ⟨a.val / 2, by omega⟩ d) = v) (hg : g (ix2 ⟨a.val / 2, by omega⟩ 0) = w) :
    yPair (yRow X wg wu wd acc g) (ix3 z a b) = (partVal R wg wu wd d + v) * w := by
  rw [show z = 0 from Subsingleton.elim _ _, yPair_apply, ← (show d = ⟨a.val % 2 * 1024 + b.val, by omega⟩ from Fin.ext hd), yRow_apply,
    show (fun k => X (ix2 ⟨a.val / 2, by omega⟩ k)) = R from funext hX, hacc, hg]

theorem out_C_5 (c : Dev nD) (i : grid0.Coords) (arg2 : Memref sig .tc .vmem S1x9x1024x128 .i32) (harg2 : arg2.IsWhole) (arg3 : Memref sig .tc .vmem S1x9x512x128 .i32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg9 : Memref sig .tc .vmem S1x2176x1024 .bf16) (harg9 : arg9.IsWhole) (arg10 : Memref sig .tc .vmem S1x1152x1024 .bf16) (harg10 : arg10.IsWhole) (arg11 : Memref sig .tc .vmem S1536x2048 .f32) (harg11 : arg11.IsWhole) (hc0 : ¬cond0_0 i) (hc1 : ¬cond0_1 i) (hc2 : cond0_2 i)
    (x0 : Vec Ideal S1x9x1024x128 .i32) (x1 : Vec Ideal S1x9x512x128 .i32) (x2 : Vec Ideal S1x2048x256 .f32) (x3 : Vec Ideal S1x2048x256 .f32) (x4 : Vec Ideal S1x256x2048 .f32) (xs0 : Vec Ideal S1536x2048 .f32) (q : Fin 2176) (d : Fin 1024) :
    out0_C_5 c i arg2 harg2 arg3 harg3 arg4 harg4 arg5 harg5 arg6 harg6 arg9 harg9 arg10 harg10 arg11 harg11 hc0 hc1 hc2 x0 x1 x2 x3 x4 xs0 (ix3 0 q d)
      = if h : q.val < 2048 then
          (partVal (rowOf x0 x1 ⟨q.val / 2, by omega⟩) x2 x3 x4 ⟨q.val % 2 * 1024 + d.val, by omega⟩
            + xs0 (ix2 ⟨q.val / 2, by omega⟩ ⟨q.val % 2 * 1024 + d.val, by omega⟩))
          * Ideal.ofBits .f32 (x0 (ix4 0 8 ⟨q.val / 2, by omega⟩ ⟨(i 0).val + 8, by have := (i 0).isLt; change _ < 8 at this; omega⟩))
        else 0 := by
  frame_out
  canon_tiles x h using (View.cover_of_tiledBy _ ![1, 128, 1024] (by sl_kernel_rfl) _)
  · obtain ⟨z, a, b, rfl⟩ : ∃ z a b, x = ix3 z a b := ⟨_, _, _, eq_ix3 x⟩
    change q.val = 1024 + a.val at h1
    change d.val = b.val at h2
    rw [dif_pos (by omega)]
    change yPair (yRow (xw x0 512 (by decide)) x2 x3 x4 (View.ld xs0 (Rect.unit ![512, 0] ![512, 2048] inb_S1536x2048_S512x2048_512_0)) (extractStridedSlice S512x1 ![512, 0] (k0_pay49 (BitVec.ofNat 32 (i 0).val) (View.ld x0 (Rect.unit ![0, 8, 0, 0] ![1, 1, 1024, 128] inb_S1x9x1024x128_S1x1x1024x128_0_8_0_0))) slices_S1024x1_o512_0_S512x1)) (ix3 z a b) = _
    exact y_piece _ x2 x3 x4 _ _ _ z a b _ _ _ (by simp only; omega)
      (xw_first x0 x1 512 (by decide) _ _ (by simp only; omega))
      (ld_acc xs0 512 _ _ _ _ _ (by simp only; omega) rfl) (gate_first (i 0) x0 512 _ _ _ (by simp only; omega))
  · obtain ⟨z, a, b, rfl⟩ : ∃ z a b, x = ix3 z a b := ⟨_, _, _, eq_ix3 x⟩
    change q.val = a.val at h1
    change d.val = b.val at h2
    rw [dif_pos (by omega)]
    change yPair (yRow (xw x0 0 (by decide)) x2 x3 x4 (View.ld xs0 (Rect.unit ![0, 0] ![512, 2048] inb_S1536x2048_S512x2048_0_0)) (extractStridedSlice S512x1 ![0, 0] (k0_pay49 (BitVec.ofNat 32 (i 0).val) (View.ld x0 (Rect.unit ![0, 8, 0, 0] ![1, 1, 1024, 128] inb_S1x9x1024x128_S1x1x1024x128_0_8_0_0))) slices_S1024x1_o0_0_S512x1)) (ix3 z a b) = _
    exact y_piece _ x2 x3 x4 _ _ _ z a b _ _ _ (by simp only; omega)
      (xw_first x0 x1 0 (by decide) _ _ (by simp only; omega))
      (ld_acc xs0 0 _ _ _ _ _ (by simp only; omega) rfl) (gate_first (i 0) x0 0 _ _ _ (by simp only; omega))
  · obtain ⟨z, a, b, rfl⟩ : ∃ z a b, x = ix3 z a b := ⟨_, _, _, eq_ix3 x⟩
    change q.val = 2048 + a.val at h1
    rw [dif_neg (by omega)]
    pointwise [k0_pay50, k0_pay85]

theorem out_C_6 (c : Dev nD) (i : grid0.Coords) (arg2 : Memref sig .tc .vmem S1x9x1024x128 .i32) (harg2 : arg2.IsWhole) (arg3 : Memref sig .tc .vmem S1x9x512x128 .i32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg9 : Memref sig .tc .vmem S1x2176x1024 .bf16) (harg9 : arg9.IsWhole) (arg10 : Memref sig .tc .vmem S1x1152x1024 .bf16) (harg10 : arg10.IsWhole) (arg11 : Memref sig .tc .vmem S1536x2048 .f32) (harg11 : arg11.IsWhole) (hc0 : ¬cond0_0 i) (hc1 : ¬cond0_1 i) (hc2 : cond0_2 i)
    (x0 : Vec Ideal S1x9x1024x128 .i32) (x1 : Vec Ideal S1x9x512x128 .i32) (x2 : Vec Ideal S1x2048x256 .f32) (x3 : Vec Ideal S1x2048x256 .f32) (x4 : Vec Ideal S1x256x2048 .f32) (xs0 : Vec Ideal S1536x2048 .f32) (q : Fin 1152) (d : Fin 1024) :
    out0_C_6 c i arg2 harg2 arg3 harg3 arg4 harg4 arg5 harg5 arg6 harg6 arg9 harg9 arg10 harg10 arg11 harg11 hc0 hc1 hc2 x0 x1 x2 x3 x4 xs0 (ix3 0 q d)
      = if h : q.val < 1024 then
          (partVal (rowOf x0 x1 ⟨1024 + q.val / 2, by omega⟩) x2 x3 x4 ⟨q.val % 2 * 1024 + d.val, by omega⟩
            + xs0 (ix2 ⟨1024 + q.val / 2, by omega⟩ ⟨q.val % 2 * 1024 + d.val, by omega⟩))
          * Ideal.ofBits .f32 (x1 (ix4 0 8 ⟨q.val / 2, by omega⟩ ⟨(i 0).val + 8, by have := (i 0).isLt; change _ < 8 at this; omega⟩))
        else 0 := by
  frame_out
  canon_tiles x h using (View.cover_of_tiledBy _ ![1, 128, 1024] (by sl_kernel_rfl) _)
  · obtain ⟨z, a, b, rfl⟩ : ∃ z a b, x = ix3 z a b := ⟨_, _, _, eq_ix3 x⟩
    change q.val = a.val at h1
    change d.val = b.val at h2
    rw [dif_pos (by omega)]
    change yPair (yRow (xw x1 0 (by decide)) x2 x3 x4 (View.ld xs0 (Rect.unit ![1024, 0] ![512, 2048] inb_S1536x2048_S512x2048_1024_0)) (k0_pay84 (BitVec.ofNat 32 (i 0).val) (View.ld x1 (Rect.unit ![0, 8, 0, 0] ![1, 1, 512, 128] inb_S1x9x512x128_S1x1x512x128_0_8_0_0)))) (ix3 z a b) = _
    exact y_piece _ x2 x3 x4 _ _ _ z a b _ _ _ (by simp only; omega)
      (xw_second x0 x1 _ _ (by simp only; omega))
      (ld_acc xs0 1024 _ _ _ _ _ (by simp only; omega) rfl) ((gate_second (i 0) x1 _).trans (by congr 3; apply Fin.ext; simp only; omega))
  · obtain ⟨z, a, b, rfl⟩ : ∃ z a b, x = ix3 z a b := ⟨_, _, _, eq_ix3 x⟩
    change q.val = 1024 + a.val at h1
    rw [dif_neg (by omega)]
    pointwise [k0_pay50, k0_pay85]

end Cert.KernelIdeal.Rows
end
-- ==== Proof.Grid.lean ====
module

public import proofs.«01_k».proof.Proof.Rows

/-! The feed-forward grid as a whole: the accumulator over an expert's four blocks of hidden units, and the two result
    arrays after the run, in terms of the arguments. -/

@[expose] public section
set_option maxRecDepth 16384
noncomputable section
namespace Cert.KernelIdeal.Grid
open Idealize.ShloMosaic Idealize.ShloMosaic.TcCoe Cert.KernelIdeal Cert.KernelIdeal.Gen Cert.KernelIdeal.Rows Cert.Ffn

variable (m : (ℓ : Loc nD τ sig) → Buf (Elt Ideal) ℓ)

theorem idx : ∀ t : Fin cfg0.N, win0_0.index t = ![t.val / 4, 0, 0, 0] ∧ win0_1.index t = ![t.val / 4, 0, 0, 0]
    ∧ win0_2.index t = ![t.val / 4 + 8, 0, t.val % 4] ∧ win0_3.index t = ![t.val / 4 + 8, 0, t.val % 4]
    ∧ win0_4.index t = ![t.val / 4 + 8, t.val % 4, 0] ∧ win0_5.index t = ![t.val / 4 + 8, 0, 0]
    ∧ win0_6.index t = ![t.val / 4 + 8, 0, 0] := by decide +kernel

theorem coords : ∀ t : Fin cfg0.N, (grid0.coords t 0).val = t.val / 4 ∧ (grid0.coords t 1).val = t.val % 4 := by decide +kernel

/-- What point `t` adds to row `r`, column `d` of the accumulator. -/
def pt (c : Dev nD) (t : Fin cfg0.N) (r : Fin 1536) (d : Fin 2048) : EReal :=
  partVal (rowOf (iblk m c 0 t) (iblk m c 1 t) r) (iblk m c 2 t) (iblk m c 3 t) (iblk m c 4 t) d

/-- The accumulator after point `t`. -/
def sc (c : Dev nD) (t : ℕ) (h : t < cfg0.N) (r : Fin 1536) (d : Fin 2048) : EReal := (outsAt0 m c t h).2.2 (ix2 r d)

theorem sc_first (c : Dev nD) (t : ℕ) (h : t < cfg0.N) (h0 : t % 4 = 0) (r : Fin 1536) (d : Fin 2048) :
    sc m c t h r d = pt m c ⟨t, h⟩ r d + 0 := by
  by_cases h3 : t % 32 = 0
  · unfold sc
    rw [outsAt0_A m c ⟨t, h⟩ h3 (by change t % 4 ≤ 2; omega) (by change ¬ t % 4 = 3; omega)]
    dsimp only
    rw [sout_A (h0 := (coords ⟨t, h⟩).2.trans h0)]
    rfl
  · unfold sc
    rw [outsAt0_B m c ⟨t, h⟩ h3 (by change t % 4 ≤ 2; omega) (by change ¬ t % 4 = 3; omega)]
    dsimp only
    rw [sout_B, if_pos ((coords ⟨t, h⟩).2.trans h0)]
    rfl

theorem sc_next (c : Dev nD) (t : ℕ) (h : t + 1 < cfg0.N) (h0 : (t + 1) % 4 ≠ 0) (h1 : (t + 1) % 4 ≤ 2) (r : Fin 1536) (d : Fin 2048) :
    sc m c (t + 1) h r d = pt m c ⟨t + 1, h⟩ r d + sc m c t (Nat.lt_of_succ_lt h) r d := by
  unfold sc
  rw [outsAt0_B m c ⟨t + 1, h⟩ (by change ¬ (t + 1) % 32 = 0; omega) h1 (by change ¬ (t + 1) % 4 = 3; omega)]
  dsimp only
  rw [sout_B, if_neg (by rw [(coords ⟨t + 1, h⟩).2]; exact h0)]
  rfl

/-- An accumulator row of expert group `e`, from the packed rows. -/
def arow (x0 : Vec Ideal S8x9x1024x128 .i32) (x1 : Vec Ideal S8x9x512x128 .i32) (e : Fin 8) (r : Fin 1536) : Fin 2048 → EReal :=
  if h : r.val < 1024 then row x0 e ⟨r.val, h⟩ else row x1 e ⟨r.val - 1024, by omega⟩

theorem lt8 (t : Fin cfg0.N) : t.val / 4 < 8 := by
  have h : t.val < 32 := t.isLt
  omega

theorem row0 (c : Dev nD) (t : Fin cfg0.N) (s : Fin 1024) (k : Fin 2048) :
    xrow (iblk m c 0 t) s k = row (m (c.tc.loc main_arg0)) ⟨t.val / 4, lt8 t⟩ s k := by
  unfold xrow row
  congr 1
  blk_ext [iblk, V, idx t]

theorem row1 (c : Dev nD) (t : Fin cfg0.N) (s : Fin 512) (k : Fin 2048) :
    xrow (iblk m c 1 t) s k = row (m (c.tc.loc main_arg1)) ⟨t.val / 4, lt8 t⟩ s k := by
  unfold xrow row
  congr 1
  blk_ext [iblk, V, idx t]

theorem rows (c : Dev nD) (t : Fin cfg0.N) (r : Fin 1536) :
    rowOf (iblk m c 0 t) (iblk m c 1 t) r = arow (m (c.tc.loc main_arg0)) (m (c.tc.loc main_arg1)) ⟨t.val / 4, lt8 t⟩ r := by
  unfold rowOf arow
  split
  · exact funext (row0 m c t _)
  · exact funext (row1 m c t _)

theorem gate (c : Dev nD) (t : Fin cfg0.N) (k : Fin 2048) (f : Fin 256) :
    iblk m c 2 t (ix3 0 k f) = m (c.tc.loc main_arg2) (ix4 0 ⟨t.val / 4 + 8, by have := lt8 t; omega⟩ k ⟨t.val % 4 * 256 + f.val, by omega⟩) := by
  blk_ext! [iblk, V, idx t]

theorem up (c : Dev nD) (t : Fin cfg0.N) (k : Fin 2048) (f : Fin 256) :
    iblk m c 3 t (ix3 0 k f) = m (c.tc.loc main_arg3) (ix4 0 ⟨t.val / 4 + 8, by have := lt8 t; omega⟩ k ⟨t.val % 4 * 256 + f.val, by omega⟩) := by
  blk_ext! [iblk, V, idx t]

theorem down (c : Dev nD) (t : Fin cfg0.N) (f : Fin 256) (d : Fin 2048) :
    iblk m c 4 t (ix3 0 f d) = m (c.tc.loc main_arg4) (ix4 0 ⟨t.val / 4 + 8, by have := lt8 t; omega⟩ ⟨t.val % 4 * 256 + f.val, by omega⟩ d) := by
  blk_ext! [iblk, V, idx t]

theorem pt_eq (c : Dev nD) (t : Fin cfg0.N) (r : Fin 1536) (d : Fin 2048) :
    pt m c t r d = ffnBlock (arow (m (c.tc.loc main_arg0)) (m (c.tc.loc main_arg1)) ⟨t.val / 4, lt8 t⟩ r)
      (m (c.tc.loc main_arg2)) (m (c.tc.loc main_arg3)) (m (c.tc.loc main_arg4)) (⟨t.val / 4 + 8, by have := lt8 t; omega⟩ : Fin 16) d
      ⟨t.val % 4, by omega⟩ := by
  unfold pt partVal ffnBlock hid
  rw [rows]
  simp only [gate, up, down]

/-- Expert `e + 8` on accumulator row `r` of its group, from the arguments. -/
def whole (c : Dev nD) (e : Fin 8) (r : Fin 1536) (d : Fin 2048) : EReal :=
  ffn (arow (m (c.tc.loc main_arg0)) (m (c.tc.loc main_arg1)) e r)
    (m (c.tc.loc main_arg2)) (m (c.tc.loc main_arg3)) (m (c.tc.loc main_arg4)) (⟨e.val + 8, by omega⟩ : Fin 16) d

theorem last (c : Dev nD) (t : Fin cfg0.N) (h3 : t.val % 4 = 3) (r : Fin 1536) (d : Fin 2048) :
    pt m c t r d + sc m c (t.val - 1) (Nat.lt_of_le_of_lt (Nat.sub_le _ _) t.isLt) r d = whole m c ⟨t.val / 4, lt8 t⟩ r d := by
  have hN : cfg0.N = 32 := N_0
  obtain ⟨e, he⟩ : ∃ e, t.val / 4 = e := ⟨_, rfl⟩
  obtain ⟨n, hn⟩ := t
  change n % 4 = 3 at h3
  change n / 4 = e at he
  obtain rfl : n = 4 * e + 3 := by omega
  change pt m c ⟨4 * e + 3, hn⟩ r d + sc m c (4 * e + 1 + 1) _ r d = _
  rw [sc_next m c (4 * e + 1) _ (by omega) (by omega), sc_next m c (4 * e) _ (by omega) (by omega), sc_first m c (4 * e) _ (by omega)]
  simp only [pt_eq, whole, show (4 * e + 3) / 4 = e by omega, show (4 * e + 1 + 1) / 4 = e by omega, show (4 * e + 1) / 4 = e by omega,
    show 4 * e / 4 = e by omega, show (4 * e + 3) % 4 = 3 by omega, show (4 * e + 1 + 1) % 4 = 2 by omega,
    show (4 * e + 1) % 4 = 1 by omega, show 4 * e % 4 = 0 by omega]
  exact ffn_blocks ..

theorem gate0 (c : Dev nD) (t : Fin cfg0.N) (s : Fin 1024) (l : Fin 128) :
    iblk m c 0 t (ix4 0 8 s l) = m (c.tc.loc main_arg0) (ix4 (⟨t.val / 4, lt8 t⟩ : Fin 8) 8 s l) := by
  blk_ext [iblk, V, idx t]

theorem gate1 (c : Dev nD) (t : Fin cfg0.N) (s : Fin 512) (l : Fin 128) :
    iblk m c 1 t (ix4 0 8 s l) = m (c.tc.loc main_arg1) (ix4 (⟨t.val / 4, lt8 t⟩ : Fin 8) 8 s l) := by
  blk_ext [iblk, V, idx t]

theorem point5 (c : Dev nD) (t : Fin cfg0.N) (h3 : t.val % 4 = 3) (q : Fin 2176) (d : Fin 1024) :
    (outsAt0 m c t.val t.isLt).1 (ix3 0 q d) = out (m (c.tc.loc main_arg0)) (m (c.tc.loc main_arg2)) (m (c.tc.loc main_arg3))
      (m (c.tc.loc main_arg4)) (⟨t.val / 4, lt8 t⟩ : Fin 8) ⟨t.val / 4 + 8, by have := lt8 t; omega⟩ q.val d := by
  rw [outsAt0_C m c t (by omega) (by omega) h3]
  dsimp only
  rw [out_C_5]
  unfold out
  refine dite_congr rfl (fun h => ?_) (fun _ => rfl)
  have e := last m c t h3 ⟨q.val / 2, by omega⟩ ⟨q.val % 2 * 1024 + d.val, by omega⟩
  refine congr (congrArg _ (e.trans ?_)) ?_
  · unfold whole arow
    rw [dif_pos (show q.val / 2 < 1024 by omega)]
  · rw [gate0]
    simp only [coords t]

theorem point6 (c : Dev nD) (t : Fin cfg0.N) (h3 : t.val % 4 = 3) (q : Fin 1152) (d : Fin 1024) :
    (outsAt0 m c t.val t.isLt).2.1 (ix3 0 q d) = out (m (c.tc.loc main_arg1)) (m (c.tc.loc main_arg2)) (m (c.tc.loc main_arg3))
      (m (c.tc.loc main_arg4)) (⟨t.val / 4, lt8 t⟩ : Fin 8) ⟨t.val / 4 + 8, by have := lt8 t; omega⟩ q.val d := by
  rw [outsAt0_C m c t (by omega) (by omega) h3]
  dsimp only
  rw [out_C_6]
  unfold out
  refine dite_congr rfl (fun h => ?_) (fun _ => rfl)
  have e := last m c t h3 ⟨1024 + q.val / 2, by omega⟩ ⟨q.val % 2 * 1024 + d.val, by omega⟩
  refine congr (congrArg _ (e.trans ?_)) ?_
  · unfold whole arow
    rw [dif_neg (show ¬ 1024 + q.val / 2 < 1024 by omega)]
    simp only [Nat.add_sub_cancel_left]
  · rw [gate1]
    simp only [coords t]

theorem array5 (c : Dev nD) (E : Fin 16) (q : Fin 2176) (d : Fin 1024) : (dats m 0 c).arrAt 5 cfg0.N (ix3 E q d) =
    over (m (c.tc.loc main_arg0)) (m (c.tc.loc main_arg2)) (m (c.tc.loc main_arg3)) (m (c.tc.loc main_arg4)) (m (c.tc.loc main_arg5)) E q d := by
  rw [(dats m 0 c).arrAt_eq_of_coversWhere 5 (fun i : S16x2176x1024.Idx =>
    over (m (c.tc.loc main_arg0)) (m (c.tc.loc main_arg2)) (m (c.tc.loc main_arg3)) (m (c.tc.loc main_arg4)) (m (c.tc.loc main_arg5)) (i 0) (i 1) (i 2))
      (P := fun i : S16x2176x1024.Idx => 8 ≤ (i 0).val) (fun β => 8 ≤ β 0) (by decide +kernel) (fun t hf y => ?_)
      (fun j => by blk_simp [Pipeline.Window.cell_apply]; omega)]
  · dsimp only
    split
    · rfl
    · rename_i h
      rw [over, dif_neg (show ¬ 8 ≤ E.val from h)]
      show V m c main_v3_0 _ = _
      entry_read
      rfl
  · obtain ⟨z, q, d, rfl⟩ : ∃ (z : Fin 1) (q : Fin 2176) (d : Fin 1024), y = ix3 z q d := ⟨_, _, _, eq_ix3 y⟩
    obtain rfl : z = 0 := Subsingleton.elim _ _
    have e : (win0_5.blk t).view.emb (ix3 0 q d) = ix3 (⟨t.val / 4 + 8, by have := lt8 t; omega⟩ : Fin 16) q d := by
      blk_ext [idx t]
    refine Eq.trans ?_ (congrArg (fun i : S16x2176x1024.Idx =>
      over (m (c.tc.loc main_arg0)) (m (c.tc.loc main_arg2)) (m (c.tc.loc main_arg3)) (m (c.tc.loc main_arg4)) (m (c.tc.loc main_arg5)) (i 0) (i 1) (i 2)) e.symm)
    blk_simp [idx t]
    rw [after0_5]
    refine (point5 m c t ((flush0_5 t).mp hf) q d).trans ?_
    show _ = over _ _ _ _ _ (⟨t.val / 4 + 8, _⟩ : Fin 16) q d
    rw [over, dif_pos (show 8 ≤ t.val / 4 + 8 by omega)]
    simp only [Nat.add_sub_cancel]

theorem array6 (c : Dev nD) (E : Fin 16) (q : Fin 1152) (d : Fin 1024) : (dats m 0 c).arrAt 6 cfg0.N (ix3 E q d) =
    over (m (c.tc.loc main_arg1)) (m (c.tc.loc main_arg2)) (m (c.tc.loc main_arg3)) (m (c.tc.loc main_arg4)) (m (c.tc.loc main_arg6)) E q d := by
  rw [(dats m 0 c).arrAt_eq_of_coversWhere 6 (fun i : S16x1152x1024.Idx =>
    over (m (c.tc.loc main_arg1)) (m (c.tc.loc main_arg2)) (m (c.tc.loc main_arg3)) (m (c.tc.loc main_arg4)) (m (c.tc.loc main_arg6)) (i 0) (i 1) (i 2))
      (P := fun i : S16x1152x1024.Idx => 8 ≤ (i 0).val) (fun β => 8 ≤ β 0) (by decide +kernel) (fun t hf y => ?_)
      (fun j => by blk_simp [Pipeline.Window.cell_apply]; omega)]
  · dsimp only
    split
    · rfl
    · rename_i h
      rw [over, dif_neg (show ¬ 8 ≤ E.val from h)]
      show V m c main_v3_1 _ = _
      entry_read
      rfl
  · obtain ⟨z, q, d, rfl⟩ : ∃ (z : Fin 1) (q : Fin 1152) (d : Fin 1024), y = ix3 z q d := ⟨_, _, _, eq_ix3 y⟩
    obtain rfl : z = 0 := Subsingleton.elim _ _
    have e : (win0_6.blk t).view.emb (ix3 0 q d) = ix3 (⟨t.val / 4 + 8, by have := lt8 t; omega⟩ : Fin 16) q d := by
      blk_ext [idx t]
    refine Eq.trans ?_ (congrArg (fun i : S16x1152x1024.Idx =>
      over (m (c.tc.loc main_arg1)) (m (c.tc.loc main_arg2)) (m (c.tc.loc main_arg3)) (m (c.tc.loc main_arg4)) (m (c.tc.loc main_arg6)) (i 0) (i 1) (i 2)) e.symm)
    blk_simp [idx t]
    rw [after0_6]
    refine (point6 m c t ((flush0_6 t).mp hf) q d).trans ?_
    show _ = over _ _ _ _ _ (⟨t.val / 4 + 8, _⟩ : Fin 16) q d
    rw [over, dif_pos (show 8 ≤ t.val / 4 + 8 by omega)]
    simp only [Nat.add_sub_cancel]

end Cert.KernelIdeal.Grid
end
-- ==== Proof.RefRead.lean ====
module

public import proofs.«01_k».proof.Proof.Gen.ReferenceIdeal.Read
public import proofs.«01_k».proof.Proof.Spec
public import Idealize.ShloMosaic.Lib.BitcastConvert

/-! The reference read one element at a time, in the plain arithmetic of `Spec`. -/

@[expose] public section
set_option maxRecDepth 16384
noncomputable section
namespace Cert.ReferenceIdeal.Read
open Idealize.ShloMosaic Idealize.ShloMosaic.TcCoe Cert.ReferenceIdeal Cert.Ffn

theorem gateW_apply (w : Vec Ideal S1x16x2048x1024 .f32) (e : Fin 8) (k : Fin 2048) (f : Fin 1024) :
    val_main_v34 (F := Ideal) w (ix3 e k f) = w (ix4 0 ⟨8 + e.val, by omega⟩ k f) := by
  rw [val_main_v34_apply, val_main_v33_apply]
  refine congrArg w (funext fun a => ?_)
  fin_cases a <;> apply Fin.ext <;> simp [idx_main_v34, idx_main_v33] <;> omega

theorem upW_apply (w : Vec Ideal S1x16x2048x1024 .f32) (e : Fin 8) (k : Fin 2048) (f : Fin 1024) :
    val_main_v36 (F := Ideal) w (ix3 e k f) = w (ix4 0 ⟨8 + e.val, by omega⟩ k f) := gateW_apply w e k f

theorem downW_apply (w : Vec Ideal S1x16x1024x2048 .f32) (e : Fin 8) (f : Fin 1024) (d : Fin 2048) :
    val_main_v38 (F := Ideal) w (ix3 e f d) = w (ix4 0 ⟨8 + e.val, by omega⟩ f d) := by
  rw [val_main_v38_apply, val_main_v37_apply]
  refine congrArg w (funext fun a => ?_)
  fin_cases a <;> apply Fin.ext <;> simp [idx_main_v38, idx_main_v37] <;> omega

theorem gateW1_apply (w : Vec Ideal S1x16x2048x1024 .f32) (e : Fin 8) (k : Fin 2048) (f : Fin 1024) :
    val_main_v88 (F := Ideal) w (ix3 e k f) = w (ix4 0 ⟨8 + e.val, by omega⟩ k f) := gateW_apply w e k f

theorem upW1_apply (w : Vec Ideal S1x16x2048x1024 .f32) (e : Fin 8) (k : Fin 2048) (f : Fin 1024) :
    val_main_v90 (F := Ideal) w (ix3 e k f) = w (ix4 0 ⟨8 + e.val, by omega⟩ k f) := gateW_apply w e k f

theorem downW1_apply (w : Vec Ideal S1x16x1024x2048 .f32) (e : Fin 8) (f : Fin 1024) (d : Fin 2048) :
    val_main_v92 (F := Ideal) w (ix3 e f d) = w (ix4 0 ⟨8 + e.val, by omega⟩ f d) := downW_apply w e f d

theorem halves0_apply (x : Vec Ideal S8x9x1024x128 .i32) (e : Fin 8) (s : Fin 1024) (p : Fin 2) (b : Fin 8) (l : Fin 128) :
    val_main_v2 (F := Ideal) x (ix5 e s p b l) = half (x (ix4 e ⟨b.val, by omega⟩ s l)) p.val := by
  pointwise [val_main_v2, val_main_v1, val_main_v0, half]

theorem cols0_apply (x : Vec Ideal S8x9x1024x128 .i32) (e : Fin 8) (s : Fin 1024) (k : Fin 2048) :
    val_main_v4 (F := Ideal) x (ix3 e s k)
      = val_main_v2 (F := Ideal) x (ix5 e s ⟨k.val / 1024, by omega⟩ ⟨k.val % 1024 / 128, by omega⟩ ⟨k.val % 128, by omega⟩) := by
  pointwise [val_main_v4, val_main_v3]
  simp only [show k.val / 128 % 8 = k.val % 1024 / 128 by omega]

theorem row0_apply (x : Vec Ideal S8x9x1024x128 .i32) (e : Fin 8) (s : Fin 1024) (k : Fin 2048) :
    val_main_v4 (F := Ideal) x (ix3 e s k) = row x e s k := by
  rw [cols0_apply, halves0_apply]
  rfl

theorem gate0_apply (x : Vec Ideal S8x9x1024x128 .i32) (e : Fin 8) (s : Fin 1024) :
    val_main_v32 (F := Ideal) x (ix2 e s) = Ideal.ofBits .f32 (x (ix4 e 8 s ⟨e.val + 8, by omega⟩)) := by
  pointwise [val_main_v32]
  fin_cases e
  · pointwise [val_main_v24, val_main_v9, val_main_v8, val_main_v7, val_main_v6, val_main_v5]
  · pointwise [val_main_v25, val_main_v11, val_main_v10, val_main_v7, val_main_v6, val_main_v5]
  · pointwise [val_main_v26, val_main_v13, val_main_v12, val_main_v7, val_main_v6, val_main_v5]
  · pointwise [val_main_v27, val_main_v15, val_main_v14, val_main_v7, val_main_v6, val_main_v5]
  · pointwise [val_main_v28, val_main_v17, val_main_v16, val_main_v7, val_main_v6, val_main_v5]
  · pointwise [val_main_v29, val_main_v19, val_main_v18, val_main_v7, val_main_v6, val_main_v5]
  · pointwise [val_main_v30, val_main_v21, val_main_v20, val_main_v7, val_main_v6, val_main_v5]
  · pointwise [val_main_v31, val_main_v23, val_main_v22, val_main_v7, val_main_v6, val_main_v5]

theorem prod0_apply (x : Vec Ideal S8x9x1024x128 .i32) (x2 x3 : Vec Ideal S1x16x2048x1024 .f32) (x4 : Vec Ideal S1x16x1024x2048 .f32) (e : Fin 8) (s : Fin 1024) (d : Fin 2048) :
    val_main_v43 (F := Ideal) x x2 x3 x4 (ix3 e s d) = ffn (row x e s) x2 x3 x4 (⟨8 + e.val, by omega⟩ : Fin 16) d := by
  pointwise [val_main_v43, val_main_v42, val_main_v41, val_main_v40, val_main_call0_v5, val_main_call0_v4, val_main_call0_v3, val_main_call0_v2, val_main_call0_v1, val_main_call0_v0, val_main_call0_cst, val_main_call0_cst_0, val_main_v39]
  simp only [row0_apply, gateW_apply, upW_apply, downW_apply]
  pointwise [ffn, hid, Ideal.logistic]

theorem halfRow0_apply (x : Vec Ideal S8x9x1024x128 .i32) (x2 x3 : Vec Ideal S1x16x2048x1024 .f32) (x4 : Vec Ideal S1x16x1024x2048 .f32) (e : Fin 8) (q : Fin 2048) (d : Fin 1024) :
    val_main_v48 (F := Ideal) x x2 x3 x4 (ix3 e q d) = val_main_v46 (F := Ideal) x x2 x3 x4 (ix3 e ⟨q.val / 2, by omega⟩ ⟨q.val % 2 * 1024 + d.val, by omega⟩) := by
  rw [val_main_v48_apply, val_main_v47_apply]
  refine congrArg _ (funext fun a => ?_)
  fin_cases a <;> apply Fin.ext <;> simp [idx_main_v48, idx_main_v47] <;> omega

theorem rows0_apply (x : Vec Ideal S8x9x1024x128 .i32) (x2 x3 : Vec Ideal S1x16x2048x1024 .f32) (x4 : Vec Ideal S1x16x1024x2048 .f32) (e : Fin 8) (q : Fin 2048) (d : Fin 1024) :
    val_main_v49 (F := Ideal) x x2 x3 x4 (ix3 e q d) = out x x2 x3 x4 e (⟨8 + e.val, by omega⟩ : Fin 16) q.val d := by
  have h : val_main_v49 (F := Ideal) x x2 x3 x4 (ix3 e q d) = val_main_v43 (F := Ideal) x x2 x3 x4 (ix3 e ⟨q.val / 2, by omega⟩ ⟨q.val % 2 * 1024 + d.val, by omega⟩)
      * val_main_v32 (F := Ideal) x (ix2 e ⟨q.val / 2, by omega⟩) := by
    refine (halfRow0_apply ..).trans ?_
    pointwise [val_main_v46, val_main_v45, val_main_v44]
  rw [h, prod0_apply, gate0_apply, out, dif_pos (show q.val < 2 * 1024 by omega)]
  simp only [Nat.add_comm]

theorem result0_apply (x : Vec Ideal S8x9x1024x128 .i32) (x2 x3 : Vec Ideal S1x16x2048x1024 .f32) (x4 : Vec Ideal S1x16x1024x2048 .f32) (p : Vec Ideal S16x2176x1024 .bf16) (E : Fin 16) (q : Fin 2176) (d : Fin 1024) :
    val_main_v53 (F := Ideal) x x2 x3 x4 p (ix3 E q d) = over x x2 x3 x4 p E q d := by
  unfold over
  split
  · rename_i h
    have hE : (⟨8 + (E.val - 8), by omega⟩ : Fin 16) = E := Fin.ext (by simp only []; omega)
    pointwise [val_main_v53, val_main_v51]
    rw [dif_neg (show ¬ E.val < 8 by omega)]
    split
    · rw [rows0_apply, hE]
    · rename_i hq
      rw [out, dif_neg (show ¬ q.val < 2 * 1024 by omega)]
      pointwise [val_main_v50, val_main_cst]
  · rename_i h
    pointwise [val_main_v53, val_main_v52]
    rw [dif_pos (show E.val < 8 by omega)]

theorem halves1_apply (x : Vec Ideal S8x9x512x128 .i32) (e : Fin 8) (s : Fin 512) (p : Fin 2) (b : Fin 8) (l : Fin 128) :
    val_main_v56 (F := Ideal) x (ix5 e s p b l) = half (x (ix4 e ⟨b.val, by omega⟩ s l)) p.val := by
  pointwise [val_main_v56, val_main_v55, val_main_v54, half]

theorem cols1_apply (x : Vec Ideal S8x9x512x128 .i32) (e : Fin 8) (s : Fin 512) (k : Fin 2048) :
    val_main_v58 (F := Ideal) x (ix3 e s k)
      = val_main_v56 (F := Ideal) x (ix5 e s ⟨k.val / 1024, by omega⟩ ⟨k.val % 1024 / 128, by omega⟩ ⟨k.val % 128, by omega⟩) := by
  pointwise [val_main_v58, val_main_v57]
  simp only [show k.val / 128 % 8 = k.val % 1024 / 128 by omega]

theorem row1_apply (x : Vec Ideal S8x9x512x128 .i32) (e : Fin 8) (s : Fin 512) (k : Fin 2048) :
    val_main_v58 (F := Ideal) x (ix3 e s k) = row x e s k := by
  rw [cols1_apply, halves1_apply]
  rfl

theorem gate1_apply (x : Vec Ideal S8x9x512x128 .i32) (e : Fin 8) (s : Fin 512) :
    val_main_v86 (F := Ideal) x (ix2 e s) = Ideal.ofBits .f32 (x (ix4 e 8 s ⟨e.val + 8, by omega⟩)) := by
  pointwise [val_main_v86]
  fin_cases e
  · pointwise [val_main_v78, val_main_v63, val_main_v62, val_main_v61, val_main_v60, val_main_v59]
  · pointwise [val_main_v79, val_main_v65, val_main_v64, val_main_v61, val_main_v60, val_main_v59]
  · pointwise [val_main_v80, val_main_v67, val_main_v66, val_main_v61, val_main_v60, val_main_v59]
  · pointwise [val_main_v81, val_main_v69, val_main_v68, val_main_v61, val_main_v60, val_main_v59]
  · pointwise [val_main_v82, val_main_v71, val_main_v70, val_main_v61, val_main_v60, val_main_v59]
  · pointwise [val_main_v83, val_main_v73, val_main_v72, val_main_v61, val_main_v60, val_main_v59]
  · pointwise [val_main_v84, val_main_v75, val_main_v74, val_main_v61, val_main_v60, val_main_v59]
  · pointwise [val_main_v85, val_main_v77, val_main_v76, val_main_v61, val_main_v60, val_main_v59]

theorem prod1_apply (x : Vec Ideal S8x9x512x128 .i32) (x2 x3 : Vec Ideal S1x16x2048x1024 .f32) (x4 : Vec Ideal S1x16x1024x2048 .f32) (e : Fin 8) (s : Fin 512) (d : Fin 2048) :
    val_main_v97 (F := Ideal) x x2 x3 x4 (ix3 e s d) = ffn (row x e s) x2 x3 x4 (⟨8 + e.val, by omega⟩ : Fin 16) d := by
  pointwise [val_main_v97, val_main_v96, val_main_v95, val_main_v94, val_main_call1_v5, val_main_call1_v4, val_main_call1_v3, val_main_call1_v2, val_main_call1_v1, val_main_call1_v0, val_main_call1_cst, val_main_call1_cst_0, val_main_v93]
  simp only [row1_apply, gateW1_apply, upW1_apply, downW1_apply]
  pointwise [ffn, hid, Ideal.logistic]

theorem halfRow1_apply (x : Vec Ideal S8x9x512x128 .i32) (x2 x3 : Vec Ideal S1x16x2048x1024 .f32) (x4 : Vec Ideal S1x16x1024x2048 .f32) (e : Fin 8) (q : Fin 1024) (d : Fin 1024) :
    val_main_v102 (F := Ideal) x x2 x3 x4 (ix3 e q d) = val_main_v100 (F := Ideal) x x2 x3 x4 (ix3 e ⟨q.val / 2, by omega⟩ ⟨q.val % 2 * 1024 + d.val, by omega⟩) := by
  rw [val_main_v102_apply, val_main_v101_apply]
  refine congrArg _ (funext fun a => ?_)
  fin_cases a <;> apply Fin.ext <;> simp [idx_main_v102, idx_main_v101] <;> omega

theorem rows1_apply (x : Vec Ideal S8x9x512x128 .i32) (x2 x3 : Vec Ideal S1x16x2048x1024 .f32) (x4 : Vec Ideal S1x16x1024x2048 .f32) (e : Fin 8) (q : Fin 1024) (d : Fin 1024) :
    val_main_v103 (F := Ideal) x x2 x3 x4 (ix3 e q d) = out x x2 x3 x4 e (⟨8 + e.val, by omega⟩ : Fin 16) q.val d := by
  have h : val_main_v103 (F := Ideal) x x2 x3 x4 (ix3 e q d) = val_main_v97 (F := Ideal) x x2 x3 x4 (ix3 e ⟨q.val / 2, by omega⟩ ⟨q.val % 2 * 1024 + d.val, by omega⟩)
      * val_main_v86 (F := Ideal) x (ix2 e ⟨q.val / 2, by omega⟩) := by
    refine (halfRow1_apply ..).trans ?_
    pointwise [val_main_v100, val_main_v99, val_main_v98]
  rw [h, prod1_apply, gate1_apply, out, dif_pos (show q.val < 2 * 512 by omega)]
  simp only [Nat.add_comm]

theorem result1_apply (x : Vec Ideal S8x9x512x128 .i32) (x2 x3 : Vec Ideal S1x16x2048x1024 .f32) (x4 : Vec Ideal S1x16x1024x2048 .f32) (p : Vec Ideal S16x1152x1024 .bf16) (E : Fin 16) (q : Fin 1152) (d : Fin 1024) :
    val_main_v107 (F := Ideal) x x2 x3 x4 p (ix3 E q d) = over x x2 x3 x4 p E q d := by
  unfold over
  split
  · rename_i h
    have hE : (⟨8 + (E.val - 8), by omega⟩ : Fin 16) = E := Fin.ext (by simp only []; omega)
    pointwise [val_main_v107, val_main_v105]
    rw [dif_neg (show ¬ E.val < 8 by omega)]
    split
    · rw [rows1_apply, hE]
    · rename_i hq
      rw [out, dif_neg (show ¬ q.val < 2 * 512 by omega)]
      pointwise [val_main_v104, val_main_cst_0]
  · rename_i h
    pointwise [val_main_v107, val_main_v106]
    rw [dif_pos (show E.val < 8 by omega)]

end Cert.ReferenceIdeal.Read
end
-- ==== Proof.InProj.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-! The in-projection's launch over any values: each block a grid point reads, the stores it makes (the state blocks'
    through rectangles of row stride two), the run of the whole grid, and the frame. -/

@[expose] public section

set_option maxRecDepth 16384

noncomputable section

namespace Cert.Kernel2Ideal.InProj

open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1080000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's accesses -/

abbrev r0_0 : Rect S128x2048 := Rect.unit (s := S128x2048) ![0, 0] S128x2048.size inb_S128x2048_S128x2048_0_0
abbrev r0_1 : Rect S128x2560 := Rect.unit (s := S128x2560) ![0, 0] S128x2560.size inb_S128x2560_S128x2560_0_0
abbrev r0_2 : Rect S8x2048 := Rect.unit (s := S8x2048) ![0, 0] S8x2048.size inb_S8x2048_S8x2048_0_0
abbrev r0_3 : Rect S2048x512 := Rect.unit (s := S2048x512) ![0, 0] S2048x512.size inb_S2048x512_S2048x512_0_0
abbrev r0_4 : Rect S1x512 := Rect.unit (s := S1x512) ![0, 0] S1x512.size inb_S1x512_S1x512_0_0
abbrev r0_5 : Rect S8x512 := Rect.unit (s := S8x512) ![0, 0] S8x512.size inb_S8x512_S8x512_0_0
abbrev r0_6 : Rect S1x2x2048 := Rect.unit (s := S1x2x2048) ![0, 0, 0] S1x2x2048.size inb_S1x2x2048_S1x2x2048_0_0_0
abbrev r0_7 : Rect S512x2048 := Rect.unit (s := S512x2048) ![0, 0] S256x2048.size inb_S512x2048_S256x2048_0_0
abbrev r0_8 : Rect S1x2048 := Rect.unit (s := S1x2048) ![0, 0] S1x2048.size inb_S1x2048_S1x2048_0_0
abbrev r0_9 : Rect S2048x2560 := Rect.unit (s := S2048x2560) ![0, 0] S2048x2560.size inb_S2048x2560_S2048x2560_0_0
abbrev r0_10 : Rect S512x1024 := Rect.unit (s := S512x1024) ![0, 0] S256x128.size inb_S512x1024_S256x128_0_0
abbrev r0_11 : Rect S512x1024 := Rect.unit (s := S512x1024) ![0, 128] S256x128.size inb_S512x1024_S256x128_0_128
abbrev r0_12 : Rect S512x1024 := Rect.unit (s := S512x1024) ![0, 256] S256x128.size inb_S512x1024_S256x128_0_256
abbrev r0_13 : Rect S512x1024 := Rect.unit (s := S512x1024) ![0, 384] S256x128.size inb_S512x1024_S256x128_0_384
abbrev r0_14 : Rect S512x1024 := Rect.unit (s := S512x1024) ![0, 512] S256x128.size inb_S512x1024_S256x128_0_512
abbrev r0_15 : Rect S512x1024 := Rect.unit (s := S512x1024) ![0, 640] S256x128.size inb_S512x1024_S256x128_0_640
abbrev r0_16 : Rect S512x1024 := Rect.unit (s := S512x1024) ![0, 768] S256x128.size inb_S512x1024_S256x128_0_768
abbrev r0_17 : Rect S512x1024 := Rect.unit (s := S512x1024) ![0, 896] S256x128.size inb_S512x1024_S256x128_0_896
abbrev r0_18 : Rect S512x256 := Rect.unit (s := S512x256) ![0, 0] S256x128.size inb_S512x256_S256x128_0_0
abbrev r0_19 : Rect S512x256 := Rect.unit (s := S512x256) ![0, 128] S256x128.size inb_S512x256_S256x128_0_128
abbrev r0_20 : Rect S512x256 := Rect.unit (s := S512x256) ![0, 0] S256x256.size inb_S512x256_S256x256_0_0
abbrev r0_21 : Rect S512x1024 := Rect.unit (s := S512x1024) ![0, 0] S256x1024.size inb_S512x1024_S256x1024_0_0
abbrev r0_22 : Rect S1024x128 := ⟨⟨![0, 0], S256x128.size, ![2, 1], inb_S1024x128_S256x128_0_0_s_2_1⟩, spos_2_1⟩
abbrev r0_23 : Rect S1024x128 := ⟨⟨![1, 0], S256x128.size, ![2, 1], inb_S1024x128_S256x128_1_0_s_2_1⟩, spos_2_1⟩
abbrev r0_24 : Rect S512x2048 := Rect.unit (s := S512x2048) ![256, 0] S256x2048.size inb_S512x2048_S256x2048_256_0
abbrev r0_25 : Rect S512x1024 := Rect.unit (s := S512x1024) ![256, 0] S256x128.size inb_S512x1024_S256x128_256_0
abbrev r0_26 : Rect S512x1024 := Rect.unit (s := S512x1024) ![256, 128] S256x128.size inb_S512x1024_S256x128_256_128
abbrev r0_27 : Rect S512x1024 := Rect.unit (s := S512x1024) ![256, 256] S256x128.size inb_S512x1024_S256x128_256_256
abbrev r0_28 : Rect S512x1024 := Rect.unit (s := S512x1024) ![256, 384] S256x128.size inb_S512x1024_S256x128_256_384
abbrev r0_29 : Rect S512x1024 := Rect.unit (s := S512x1024) ![256, 512] S256x128.size inb_S512x1024_S256x128_256_512
abbrev r0_30 : Rect S512x1024 := Rect.unit (s := S512x1024) ![256, 640] S256x128.size inb_S512x1024_S256x128_256_640
abbrev r0_31 : Rect S512x1024 := Rect.unit (s := S512x1024) ![256, 768] S256x128.size inb_S512x1024_S256x128_256_768
abbrev r0_32 : Rect S512x1024 := Rect.unit (s := S512x1024) ![256, 896] S256x128.size inb_S512x1024_S256x128_256_896
abbrev r0_33 : Rect S512x256 := Rect.unit (s := S512x256) ![256, 0] S256x128.size inb_S512x256_S256x128_256_0
abbrev r0_34 : Rect S512x256 := Rect.unit (s := S512x256) ![256, 128] S256x128.size inb_S512x256_S256x128_256_128
abbrev r0_35 : Rect S512x256 := Rect.unit (s := S512x256) ![256, 0] S256x256.size inb_S512x256_S256x256_256_0
abbrev r0_36 : Rect S512x1024 := Rect.unit (s := S512x1024) ![256, 0] S256x1024.size inb_S512x1024_S256x1024_256_0
abbrev r0_37 : Rect S1024x128 := ⟨⟨![512, 0], S256x128.size, ![2, 1], inb_S1024x128_S256x128_512_0_s_2_1⟩, spos_2_1⟩
abbrev r0_38 : Rect S1024x128 := ⟨⟨![513, 0], S256x128.size, ![2, 1], inb_S1024x128_S256x128_513_0_s_2_1⟩, spos_2_1⟩

/-! ## What the body leaves in each output window's buffer -/

/-! ### Values several stores share -/

def val46 (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) : FVec F S2x2048 .f32 :=
  k0_pay13 (View.ld x1 r0_6)
def val47 (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) : FVec F S256x2048 .f32 :=
  k0_pay14 (View.ld x0 r0_7)
def val48 (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) : FVec F S1x2048 .f32 :=
  k0_pay15 (View.ld x2 r0_8)
def val49 (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) : FVec F S1x2048 .f32 :=
  k0_pay16 (View.ld x1 r0_6)
def val50 (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) : FVec F S1x2048 .f32 :=
  k0_pay17 (View.ld x1 r0_6)
def val51 (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) : FVec F S256x2048 .f32 :=
  k0_pay18 (View.ld x0 r0_7)
def val52 (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) : FVec F S256x2560 .f32 :=
  k0_pay19 (val47 x0 x1 x2 x3 x4 x5 x6 x7 x8) (val48 x0 x1 x2 x3 x4 x5 x6 x7 x8) (val49 x0 x1 x2 x3 x4 x5 x6 x7 x8) (val50 x0 x1 x2 x3 x4 x5 x6 x7 x8) (val51 x0 x1 x2 x3 x4 x5 x6 x7 x8) (View.ld x3 r0_9)
def val53 (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) : FVec F S256x2560 .f32 :=
  k0_pay36 (val46 x0 x1 x2 x3 x4 x5 x6 x7 x8) (View.ld x0 r0_24) (View.ld x2 r0_8) (View.ld x3 r0_9)

/-- What the body leaves in window 9's buffer: its stores, the last first. -/
def out0_9 (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) : Vec F S512x1024 .bf16 :=
  View.canon [⟨r0_32, k0_pay1 (k0_pay45 (val53 x0 x1 x2 x3 x4 x5 x6 x7 x8))⟩,
    ⟨r0_31, k0_pay44 (val53 x0 x1 x2 x3 x4 x5 x6 x7 x8)⟩,
    ⟨r0_30, k0_pay43 (val53 x0 x1 x2 x3 x4 x5 x6 x7 x8)⟩,
    ⟨r0_29, k0_pay42 (val53 x0 x1 x2 x3 x4 x5 x6 x7 x8)⟩,
    ⟨r0_28, k0_pay41 (val53 x0 x1 x2 x3 x4 x5 x6 x7 x8)⟩,
    ⟨r0_27, k0_pay40 (val53 x0 x1 x2 x3 x4 x5 x6 x7 x8)⟩,
    ⟨r0_26, k0_pay39 (val53 x0 x1 x2 x3 x4 x5 x6 x7 x8)⟩,
    ⟨r0_25, k0_pay38 (k0_pay37 (val46 x0 x1 x2 x3 x4 x5 x6 x7 x8) (View.ld x0 r0_24) (View.ld x2 r0_8) (View.ld x3 r0_9))⟩,
    ⟨r0_17, k0_pay27 (val52 x0 x1 x2 x3 x4 x5 x6 x7 x8)⟩,
    ⟨r0_16, k0_pay26 (val52 x0 x1 x2 x3 x4 x5 x6 x7 x8)⟩,
    ⟨r0_15, k0_pay25 (val52 x0 x1 x2 x3 x4 x5 x6 x7 x8)⟩,
    ⟨r0_14, k0_pay24 (val52 x0 x1 x2 x3 x4 x5 x6 x7 x8)⟩,
    ⟨r0_13, k0_pay23 (val47 x0 x1 x2 x3 x4 x5 x6 x7 x8) (val48 x0 x1 x2 x3 x4 x5 x6 x7 x8) (val49 x0 x1 x2 x3 x4 x5 x6 x7 x8) (val50 x0 x1 x2 x3 x4 x5 x6 x7 x8) (val51 x0 x1 x2 x3 x4 x5 x6 x7 x8) (View.ld x3 r0_9)⟩,
    ⟨r0_12, k0_pay22 (val47 x0 x1 x2 x3 x4 x5 x6 x7 x8) (val48 x0 x1 x2 x3 x4 x5 x6 x7 x8) (val49 x0 x1 x2 x3 x4 x5 x6 x7 x8) (val50 x0 x1 x2 x3 x4 x5 x6 x7 x8) (val51 x0 x1 x2 x3 x4 x5 x6 x7 x8) (View.ld x3 r0_9)⟩,
    ⟨r0_11, k0_pay21 (val47 x0 x1 x2 x3 x4 x5 x6 x7 x8) (val48 x0 x1 x2 x3 x4 x5 x6 x7 x8) (val49 x0 x1 x2 x3 x4 x5 x6 x7 x8) (val50 x0 x1 x2 x3 x4 x5 x6 x7 x8) (val51 x0 x1 x2 x3 x4 x5 x6 x7 x8) (View.ld x3 r0_9)⟩,
    ⟨r0_10, k0_pay20 (val47 x0 x1 x2 x3 x4 x5 x6 x7 x8) (val48 x0 x1 x2 x3 x4 x5 x6 x7 x8) (val49 x0 x1 x2 x3 x4 x5 x6 x7 x8) (val50 x0 x1 x2 x3 x4 x5 x6 x7 x8) (val51 x0 x1 x2 x3 x4 x5 x6 x7 x8) (View.ld x3 r0_9)⟩]

/-- Its stores tile the buffer (checked by evaluation), so they cover it. -/
theorem cover0_9 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (p8 : Vec F S256x128 .bf16) (p9 : Vec F S256x128 .bf16) (p10 : Vec F S256x128 .bf16) (p11 : Vec F S256x128 .bf16) (p12 : Vec F S256x128 .bf16) (p13 : Vec F S256x128 .bf16) (p14 : Vec F S256x128 .bf16) (p15 : Vec F S256x128 .bf16) (y : S512x1024.Idx) :
    ∃ pc ∈ ([⟨r0_32, p0⟩, ⟨r0_31, p1⟩, ⟨r0_30, p2⟩, ⟨r0_29, p3⟩, ⟨r0_28, p4⟩, ⟨r0_27, p5⟩, ⟨r0_26, p6⟩, ⟨r0_25, p7⟩, ⟨r0_17, p8⟩, ⟨r0_16, p9⟩, ⟨r0_15, p10⟩, ⟨r0_14, p11⟩, ⟨r0_13, p12⟩, ⟨r0_12, p13⟩, ⟨r0_11, p14⟩, ⟨r0_10, p15⟩] : List (View.Piece (Elt F) S512x1024 .bf16)), y ∈ pc.1.set :=
  View.cover_of_tiled [⟨r0_32, p0⟩, ⟨r0_31, p1⟩, ⟨r0_30, p2⟩, ⟨r0_29, p3⟩, ⟨r0_28, p4⟩, ⟨r0_27, p5⟩, ⟨r0_26, p6⟩, ⟨r0_25, p7⟩, ⟨r0_17, p8⟩, ⟨r0_16, p9⟩, ⟨r0_15, p10⟩, ⟨r0_14, p11⟩, ⟨r0_13, p12⟩, ⟨r0_12, p13⟩, ⟨r0_11, p14⟩, ⟨r0_10, p15⟩] S256x128.size (by rfl) y

/-- What the body leaves in window 10's buffer: its stores, the last first. -/
def out0_10 (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) : Vec F S512x256 .f32 :=
  View.canon [⟨r0_34, k0_pay3 (val53 x0 x1 x2 x3 x4 x5 x6 x7 x8)⟩,
    ⟨r0_33, k0_pay2 (val53 x0 x1 x2 x3 x4 x5 x6 x7 x8)⟩,
    ⟨r0_19, k0_pay29 (val52 x0 x1 x2 x3 x4 x5 x6 x7 x8)⟩,
    ⟨r0_18, k0_pay28 (val52 x0 x1 x2 x3 x4 x5 x6 x7 x8)⟩]

/-- Its stores tile the buffer (checked by evaluation), so they cover it. -/
theorem cover0_10 (p0 : Vec F S256x128 .f32) (p1 : Vec F S256x128 .f32) (p2 : Vec F S256x128 .f32) (p3 : Vec F S256x128 .f32) (y : S512x256.Idx) :
    ∃ pc ∈ ([⟨r0_34, p0⟩, ⟨r0_33, p1⟩, ⟨r0_19, p2⟩, ⟨r0_18, p3⟩] : List (View.Piece (Elt F) S512x256 .f32)), y ∈ pc.1.set :=
  View.cover_of_tiled [⟨r0_34, p0⟩, ⟨r0_33, p1⟩, ⟨r0_19, p2⟩, ⟨r0_18, p3⟩] S256x128.size (by rfl) y

/-- What the body leaves in window 11's buffer: its stores, the last first. -/
def out0_11 (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) : Vec F S512x256 .f32 :=
  View.canon [⟨r0_35, k0_pay4 (val53 x0 x1 x2 x3 x4 x5 x6 x7 x8)⟩,
    ⟨r0_20, k0_pay30 (val52 x0 x1 x2 x3 x4 x5 x6 x7 x8)⟩]

/-- Its stores tile the buffer (checked by evaluation), so they cover it. -/
theorem cover0_11 (p0 : Vec F S256x256 .f32) (p1 : Vec F S256x256 .f32) (y : S512x256.Idx) :
    ∃ pc ∈ ([⟨r0_35, p0⟩, ⟨r0_20, p1⟩] : List (View.Piece (Elt F) S512x256 .f32)), y ∈ pc.1.set :=
  View.cover_of_tiled [⟨r0_35, p0⟩, ⟨r0_20, p1⟩] S256x256.size (by rfl) y

/-- What the body leaves in window 12's buffer: its stores, the last first. -/
def out0_12 (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) : Vec F S512x1024 .f32 :=
  View.canon [⟨r0_36, k0_pay5 (val53 x0 x1 x2 x3 x4 x5 x6 x7 x8)⟩,
    ⟨r0_21, k0_pay31 (val52 x0 x1 x2 x3 x4 x5 x6 x7 x8)⟩]

/-- Its stores tile the buffer (checked by evaluation), so they cover it. -/
theorem cover0_12 (p0 : Vec F S256x1024 .f32) (p1 : Vec F S256x1024 .f32) (y : S512x1024.Idx) :
    ∃ pc ∈ ([⟨r0_36, p0⟩, ⟨r0_21, p1⟩] : List (View.Piece (Elt F) S512x1024 .f32)), y ∈ pc.1.set :=
  View.cover_of_tiled [⟨r0_36, p0⟩, ⟨r0_21, p1⟩] S256x1024.size (by rfl) y

/-- The four strided stores of a state block cover it: a row of the block belongs to the store of its half and its parity. -/
theorem state_cover (p0 p1 p2 p3 : Vec F S256x128 .f32) (y : S1024x128.Idx) :
    ∃ pc ∈ ([⟨r0_38, p0⟩, ⟨r0_37, p1⟩, ⟨r0_23, p2⟩, ⟨r0_22, p3⟩] : List (View.Piece (Elt F) S1024x128 .f32)), y ∈ pc.1.set := by
  have h0 : (y 0).val < 1024 := (y 0).isLt
  have h1 : (y 1).val < 128 := (y 1).isLt
  rcases Nat.lt_or_ge (y 0).val 512 with h | h <;> rcases Nat.mod_two_eq_zero_or_one (y 0).val with e | e
  · refine ⟨⟨r0_22, p3⟩, by simp, (LoadRect.mem_set _).mpr (Fin.forall_fin_two.mpr ⟨⟨(y 0).val / 2, ?_, ?_⟩, ⟨(y 1).val, h1, ?_⟩⟩)⟩
    · show _ < 256; omega
    · show _ = 0 + 2 * _; omega
    · show _ = 0 + 1 * _; omega
  · refine ⟨⟨r0_23, p2⟩, by simp, (LoadRect.mem_set _).mpr (Fin.forall_fin_two.mpr ⟨⟨(y 0).val / 2, ?_, ?_⟩, ⟨(y 1).val, h1, ?_⟩⟩)⟩
    · show _ < 256; omega
    · show _ = 1 + 2 * _; omega
    · show _ = 0 + 1 * _; omega
  · refine ⟨⟨r0_37, p1⟩, by simp, (LoadRect.mem_set _).mpr (Fin.forall_fin_two.mpr ⟨⟨((y 0).val - 512) / 2, ?_, ?_⟩, ⟨(y 1).val, h1, ?_⟩⟩)⟩
    · show _ < 256; omega
    · show _ = 512 + 2 * _; omega
    · show _ = 0 + 1 * _; omega
  · refine ⟨⟨r0_38, p0⟩, by simp, (LoadRect.mem_set _).mpr (Fin.forall_fin_two.mpr ⟨⟨((y 0).val - 512) / 2, ?_, ?_⟩, ⟨(y 1).val, h1, ?_⟩⟩)⟩
    · show _ < 256; omega
    · show _ = 513 + 2 * _; omega
    · show _ = 0 + 1 * _; omega

/-- What the body leaves in window 13's buffer: its stores, the last first. -/
def out0_13 (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) : Vec F S1024x128 .f32 :=
  View.canon [⟨r0_38, k0_pay8 (val53 x0 x1 x2 x3 x4 x5 x6 x7 x8)⟩,
    ⟨r0_37, k0_pay6 (val53 x0 x1 x2 x3 x4 x5 x6 x7 x8)⟩,
    ⟨r0_23, k0_pay34 (val52 x0 x1 x2 x3 x4 x5 x6 x7 x8)⟩,
    ⟨r0_22, k0_pay32 (val52 x0 x1 x2 x3 x4 x5 x6 x7 x8)⟩]

theorem cover0_13 (p0 : Vec F S256x128 .f32) (p1 : Vec F S256x128 .f32) (p2 : Vec F S256x128 .f32) (p3 : Vec F S256x128 .f32) (y : S1024x128.Idx) :
    ∃ pc ∈ ([⟨r0_38, p0⟩, ⟨r0_37, p1⟩, ⟨r0_23, p2⟩, ⟨r0_22, p3⟩] : List (View.Piece (Elt F) S1024x128 .f32)), y ∈ pc.1.set :=
  state_cover p0 p1 p2 p3 y

/-- What the body leaves in window 14's buffer: its stores, the last first. -/
def out0_14 (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) : Vec F S1024x128 .f32 :=
  View.canon [⟨r0_38, k0_pay9 (val53 x0 x1 x2 x3 x4 x5 x6 x7 x8)⟩,
    ⟨r0_37, k0_pay7 (val53 x0 x1 x2 x3 x4 x5 x6 x7 x8)⟩,
    ⟨r0_23, k0_pay35 (val52 x0 x1 x2 x3 x4 x5 x6 x7 x8)⟩,
    ⟨r0_22, k0_pay33 (val52 x0 x1 x2 x3 x4 x5 x6 x7 x8)⟩]

theorem cover0_14 (p0 : Vec F S256x128 .f32) (p1 : Vec F S256x128 .f32) (p2 : Vec F S256x128 .f32) (p3 : Vec F S256x128 .f32) (y : S1024x128.Idx) :
    ∃ pc ∈ ([⟨r0_38, p0⟩, ⟨r0_37, p1⟩, ⟨r0_23, p2⟩, ⟨r0_22, p3⟩] : List (View.Piece (Elt F) S1024x128 .f32)), y ∈ pc.1.set :=
  state_cover p0 p1 p2 p3 y

/-- What the body leaves in window 15's buffer: its stores, the last first. -/
def out0_15 (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) : Vec F S128x2048 .bf16 :=
  View.canon [⟨r0_0, k0_pay10 (View.ld x4 r0_0)⟩]

/-- Its stores tile the buffer (checked by evaluation), so they cover it. -/
theorem cover0_15 (p0 : Vec F S128x2048 .bf16) (y : S128x2048.Idx) :
    ∃ pc ∈ ([⟨r0_0, p0⟩] : List (View.Piece (Elt F) S128x2048 .bf16)), y ∈ pc.1.set :=
  View.cover_of_tiled [⟨r0_0, p0⟩] S128x2048.size (by rfl) y

/-- What the body leaves in window 16's buffer: its stores, the last first. -/
def out0_16 (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) : Vec F S128x2560 .bf16 :=
  View.canon [⟨r0_1, k0_pay11 (View.ld x5 r0_1)⟩]

/-- Its stores tile the buffer (checked by evaluation), so they cover it. -/
theorem cover0_16 (p0 : Vec F S128x2560 .bf16) (y : S128x2560.Idx) :
    ∃ pc ∈ ([⟨r0_1, p0⟩] : List (View.Piece (Elt F) S128x2560 .bf16)), y ∈ pc.1.set :=
  View.cover_of_tiled [⟨r0_1, p0⟩] S128x2560.size (by rfl) y

/-- What the body leaves in window 17's buffer: its stores, the last first. -/
def out0_17 (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) : Vec F S8x512 .f32 :=
  View.canon [⟨r0_5, k0_pay12 (View.ld x6 r0_2) (View.ld x7 r0_3) (View.ld x8 r0_4)⟩]

/-- Its stores tile the buffer (checked by evaluation), so they cover it. -/
theorem cover0_17 (p0 : Vec F S8x512 .f32) (y : S8x512.Idx) :
    ∃ pc ∈ ([⟨r0_5, p0⟩] : List (View.Piece (Elt F) S8x512 .f32)), y ∈ pc.1.set :=
  View.cover_of_tiled [⟨r0_5, p0⟩] S8x512.size (by rfl) y

/-! ## The body's triple -/

set_option maxHeartbeats 1000000 in
/-- The body: the inputs' buffers stay as they are, each output's ends at its `out0_` value. -/
theorem sound_kernel (c : Dev nD) (E : Set ℕ) (i : grid0.Coords) (arg1 : Memref sig .tc .vmem S512x2048 .f32) (harg1 : arg1.IsWhole) (arg2 : Memref sig .tc .vmem S1x2x2048 .f32) (harg2 : arg2.IsWhole) (arg3 : Memref sig .tc .vmem S1x2048 .f32) (harg3 : arg3.IsWhole) (arg4 : Memref sig .tc .vmem S2048x2560 .f32) (harg4 : arg4.IsWhole) (arg5 : Memref sig .tc .vmem S128x2048 .f32) (harg5 : arg5.IsWhole) (arg6 : Memref sig .tc .vmem S128x2560 .f32) (harg6 : arg6.IsWhole) (arg7 : Memref sig .tc .vmem S8x2048 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S512x1024 .bf16) (harg10 : arg10.IsWhole) (arg11 : Memref sig .tc .vmem S512x256 .f32) (harg11 : arg11.IsWhole) (arg12 : Memref sig .tc .vmem S512x256 .f32) (harg12 : arg12.IsWhole) (arg13 : Memref sig .tc .vmem S512x1024 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S128x2048 .bf16) (harg16 : arg16.IsWhole) (arg17 : Memref sig .tc .vmem S128x2560 .bf16) (harg17 : arg17.IsWhole) (arg18 : Memref sig .tc .vmem S8x512 .f32) (harg18 : arg18.IsWhole)
    (x0 : Vec F S512x2048 .f32) (x1 : Vec F S1x2x2048 .f32) (x2 : Vec F S1x2048 .f32) (x3 : Vec F S2048x2560 .f32) (x4 : Vec F S128x2048 .f32) (x5 : Vec F S128x2560 .f32) (x6 : Vec F S8x2048 .f32) (x7 : Vec F S2048x512 .f32) (x8 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8) ∗ owns (c : Thread nD τ) arg13 fullShare (out0_12 x0 x1 x2 x3 x4 x5 x6 x7 x8) ∗ owns (c : Thread nD τ) arg14 fullShare (out0_13 x0 x1 x2 x3 x4 x5 x6 x7 x8) ∗ owns (c : Thread nD τ) arg15 fullShare (out0_14 x0 x1 x2 x3 x4 x5 x6 x7 x8) ∗ owns (c : Thread nD τ) arg16 fullShare (out0_15 x0 x1 x2 x3 x4 x5 x6 x7 x8) ∗ owns (c : Thread nD τ) arg17 fullShare (out0_16 x0 x1 x2 x3 x4 x5 x6 x7 x8) ∗ owns (c : Thread nD τ) arg18 fullShare (out0_17 x0 x1 x2 x3 x4 x5 x6 x7 x8)) -∗ K ⟨⟩))
      ⊢ wp frame (wpE (defs₀ (F := F)) Variants.none c none) E (cc0_in_projection i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_in_projection_eq_skeleton]; unfold cc0_in_projection_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _ _ _ _ _ _ _ _ _ _ _ _ _ _ _ _)).trans ?_
    rfl
  isplitl [H10]
  · iexists _; isplitr
    swap; · iexact H10
    ipureintro
    refine (View.read_writes_eq_canon _ _ _ (cover0_10 _ _ _ _)).trans ?_
    rfl
  isplitl [H11]
  · iexists _; isplitr
    swap; · iexact H11
    ipureintro
    refine (View.read_writes_eq_canon _ _ _ (cover0_11 _ _)).trans ?_
    rfl
  isplitl [H12]
  · iexists _; isplitr
    swap; · iexact H12
    ipureintro
    refine (View.read_writes_eq_canon _ _ _ (cover0_12 _ _)).trans ?_
    rfl
  isplitl [H13]
  · iexists _; isplitr
    swap; · iexact H13
    ipureintro
    refine (View.read_writes_eq_canon _ _ _ (cover0_13 _ _ _ _)).trans ?_
    rfl
  isplitl [H14]
  · iexists _; isplitr
    swap; · iexact H14
    ipureintro
    refine (View.read_writes_eq_canon _ _ _ (cover0_14 _ _ _ _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  iexists _; isplitr
  swap; · iexact H17
  ipureintro
  refine (View.read_writes_eq_canon _ _ _ (cover0_17 _)).trans ?_
  rfl

/-! ## The pipeline's proof data -/

/-- The arrays as the launch finds them, and what the body leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
    | ⟨10, _⟩ => out0_10 (iblk m c 0 t) (iblk m c 1 t) (iblk m c 2 t) (iblk m c 3 t) (iblk m c 4 t) (iblk m c 5 t) (iblk m c 6 t) (iblk m c 7 t) (iblk m c 8 t)
    | ⟨11, _⟩ => out0_11 (iblk m c 0 t) (iblk m c 1 t) (iblk m c 2 t) (iblk m c 3 t) (iblk m c 4 t) (iblk m c 5 t) (iblk m c 6 t) (iblk m c 7 t) (iblk m c 8 t)
    | ⟨12, _⟩ => out0_12 (iblk m c 0 t) (iblk m c 1 t) (iblk m c 2 t) (iblk m c 3 t) (iblk m c 4 t) (iblk m c 5 t) (iblk m c 6 t) (iblk m c 7 t) (iblk m c 8 t)
    | ⟨13, _⟩ => out0_13 (iblk m c 0 t) (iblk m c 1 t) (iblk m c 2 t) (iblk m c 3 t) (iblk m c 4 t) (iblk m c 5 t) (iblk m c 6 t) (iblk m c 7 t) (iblk m c 8 t)
    | ⟨14, _⟩ => out0_14 (iblk m c 0 t) (iblk m c 1 t) (iblk m c 2 t) (iblk m c 3 t) (iblk m c 4 t) (iblk m c 5 t) (iblk m c 6 t) (iblk m c 7 t) (iblk m c 8 t)
    | ⟨15, _⟩ => out0_15 (iblk m c 0 t) (iblk m c 1 t) (iblk m c 2 t) (iblk m c 3 t) (iblk m c 4 t) (iblk m c 5 t) (iblk m c 6 t) (iblk m c 7 t) (iblk m c 8 t)
    | ⟨16, _⟩ => out0_16 (iblk m c 0 t) (iblk m c 1 t) (iblk m c 2 t) (iblk m c 3 t) (iblk m c 4 t) (iblk m c 5 t) (iblk m c 6 t) (iblk m c 7 t) (iblk m c 8 t)
    | ⟨17, _⟩ => out0_17 (iblk m c 0 t) (iblk m c 1 t) (iblk m c 2 t) (iblk m c 3 t) (iblk m c 4 t) (iblk m c 5 t) (iblk m c 6 t) (iblk m c 7 t) (iblk m c 8 t)
    | ⟨_ + 18, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch from any memory with zero counters, with the counters zero again at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel2Ideal.InProj

end
-- ==== Proof.InSame.lean ====
module

public import proofs.«01_k».proof.Proof.InProj
public import proofs.«01_k».proof.Proof.Gen.Kernel2
public import proofs.«01_k».proof.Proof.Gen.Kernel2.Launch
public import proofs.«01_k».proof.Defs

/-! # The in-projection as compiled

The in-projection's program and the program it is read as are the same text.
Here their bodies and their host programs are shown equal over any numbers,
so that the frame, proved once, holds of the program at the device's numbers. -/

@[expose] public section

noncomputable section

open Idealize.ShloMosaic

namespace Cert.Kernel2.InSame

variable {F : FTy → Type} [FloatOps F]

set_option maxHeartbeats 2000000 in
/-- The kernel's body at a grid point, on the same staging buffers, is the same program. -/
theorem body_eq (a : Λ₀.Label) (b : Λ₀.Args a) :
    defs₀ (F := F) .tc a b = Cert.Kernel2Ideal.defs₀ (F := F) .tc a b := by
  match a, b with
  | 0, (t, s) => exact rfl

set_option maxHeartbeats 2000000 in
/-- The kernels' body tables are equal. -/
theorem bodies_eq : defs₀ (F := F) = Cert.Kernel2Ideal.defs₀ (F := F) :=
  congrArg (Defs.onTc (nD := nD) (τ := τ) (sig := sig) (Val := Elt F) (Λ := Λ₀))
    (a₁ := defs₀ (F := F) .tc) (a₂ := Cert.Kernel2Ideal.defs₀ (F := F) .tc)
    (funext fun a => funext fun b => body_eq a b)

set_option maxHeartbeats 2000000 in
/-- The whole body tables, with the pipelines, are equal. -/
theorem defs_eq : defs (F := F) = Cert.Kernel2Ideal.defs (F := F) :=
  congrArg (Pipeline.defs (pcfgs (F := F))) bodies_eq

set_option maxHeartbeats 4000000 in
/-- The host programs are equal. -/
theorem main_eq : main (F := F) = Cert.Kernel2Ideal.main (F := F) := by
  unfold main Cert.Kernel2Ideal.main
  exact rfl

set_option maxHeartbeats 4000000 in
/-- The in-projection at the device's numbers runs, leaves its arguments and ends with every counter
at zero. -/
theorem quiescent : Cert.quiescent_Kernel2 (hKernel2 := Cert.Kernel2.Gen.facts) := by
  intro m g _
  rw [defs_eq, main_eq]
  exact Cert.Kernel2Ideal.InProj.frame (F := Bits) m g

end Cert.Kernel2.InSame

end
-- ==== Proof.InSpec.lean ====
module

public import Idealize.ShloMosaic.Lib.Pipeline.ValueKit
public import Idealize.ShloMosaic.Lib.Pointwise

/-! The in-projection in plain arithmetic. -/

@[expose] public section
noncomputable section
namespace Cert.InSpec
open Idealize.ShloMosaic

/-- A row divided by its root mean square, times the gain, then scaled and shifted, against one column of the weights. -/
def proj (X gain scale shift w : Fin 2048 → EReal) : EReal :=
  ∑ k, (X k * Ideal.rsqrt (Ideal.div (∑ j, X j * X j) (Ideal.ofBits .f32 0x45000000#32) + Ideal.ofBits .f32 0x358637BD#32)
    * gain k * (1 + scale k) + shift k) * w k

/-- The silu of a conditioning row against one column of the modulation's weights, plus the bias. -/
def late (C w : Fin 2048 → EReal) (b : EReal) : EReal := ∑ k, (C k * Ideal.logistic (C k)) * w k + b

/-- The projection of row `r` of 8192 prompt rows onto column `q`, from the arguments: row `r` is token `r % 256` of
    sequence `r / 256`, and the shift and scale are those of batch entry 0. -/
def U (x : (⟨3, ![32, 256, 2048]⟩ : Shape).Idx → EReal) (md : (⟨3, ![8, 2, 2048]⟩ : Shape).Idx → EReal)
    (g : (⟨2, ![1, 2048]⟩ : Shape).Idx → EReal) (w : (⟨3, ![1, 2048, 2560]⟩ : Shape).Idx → EReal) (r : Fin 8192) (q : Fin 2560) : EReal :=
  proj (fun k => x (ix3 (⟨r.val / 256, by omega⟩ : Fin 32) (⟨r.val % 256, by omega⟩ : Fin 256) k)) (fun k => g (ix2 0 k))
    (fun k => md (ix3 0 1 k)) (fun k => md (ix3 0 0 k)) (fun k => w (ix3 0 k q))

end Cert.InSpec
end
-- ==== Proof.InBlock.lean ====
module

public import proofs.«01_k».proof.Proof.InProj
public import proofs.«01_k».proof.Proof.InSpec

/-! What one grid point of the in-projection leaves in each output window, one element at a time. -/

@[expose] public section
set_option maxRecDepth 16384
noncomputable section
namespace Cert.Kernel2Ideal.InVal
open Idealize.ShloMosaic Idealize.ShloMosaic.TcCoe Cert.Kernel2Ideal Cert.Kernel2Ideal.Gen Cert.Kernel2Ideal.InProj Cert.InSpec

theorem pay_apply (X : Vec Ideal S256x2048 .f32) (M : Vec Ideal S1x2x2048 .f32) (g : Vec Ideal S1x2048 .f32) (w : Vec Ideal S2048x2560 .f32)
    (r : Fin 256) (q : Fin 2560) : k0_pay36 (k0_pay13 M) X g w (ix2 r q)
      = proj (fun k => X (ix2 r k)) (fun k => g (ix2 0 k)) (fun k => M (ix3 0 1 k)) (fun k => M (ix3 0 0 k)) (fun k => w (ix2 k q)) := by
  unfold proj
  pointwise [k0_pay36, k0_pay13]

variable (x0 : Vec Ideal S512x2048 .f32) (x1 : Vec Ideal S1x2x2048 .f32) (x2 : Vec Ideal S1x2048 .f32) (x3 : Vec Ideal S2048x2560 .f32)
  (x4 : Vec Ideal S128x2048 .f32) (x5 : Vec Ideal S128x2560 .f32) (x6 : Vec Ideal S8x2048 .f32) (x7 : Vec Ideal S2048x512 .f32) (x8 : Vec Ideal S1x512 .f32)

/-- The projection of row `r` of a block of 512 rows onto column `q`. -/
def u (r : Fin 512) (q : Fin 2560) : EReal :=
  proj (fun k => x0 (ix2 r k)) (fun k => x2 (ix2 0 k)) (fun k => x1 (ix3 0 1 k)) (fun k => x1 (ix3 0 0 k)) (fun k => x3 (ix2 k q))

/-- The state columns from `o`: row `2r + h` holds half `h` of row `r`. -/
def state (o : ℕ) (ho : o + 256 ≤ 2560) (y : S1024x128.Idx) : EReal :=
  u x0 x1 x2 x3 ⟨(y 0).val / 2, by have : (y 0).val < 1024 := (y 0).isLt; omega⟩
    ⟨o + (y 0).val % 2 * 128 + (y 1).val, by have : (y 1).val < 128 := (y 1).isLt; omega⟩

theorem low (r : Fin 256) (q : Fin 2560) : val52 x0 x1 x2 x3 x4 x5 x6 x7 x8 (ix2 r q) = u x0 x1 x2 x3 ⟨r.val, by omega⟩ q := by
  refine (pay_apply (View.ld x0 r0_7) (View.ld x1 r0_6) (View.ld x2 r0_8) (View.ld x3 r0_9) r q).trans ?_
  rw [View.ld_unit_zero (S := S1x2x2048) (by decide) _ x1, View.ld_unit_zero (S := S1x2048) (by decide) _ x2, View.ld_unit_zero (S := S2048x2560) (by decide) _ x3]
  unfold u
  congr 1
  funext k
  refine congrArg x0 (funext fun a => ?_)
  fin_cases a <;> apply Fin.ext <;> simp [LoadRect.idx, Rect.unit]

theorem high (r : Fin 256) (q : Fin 2560) : val53 x0 x1 x2 x3 x4 x5 x6 x7 x8 (ix2 r q) = u x0 x1 x2 x3 ⟨256 + r.val, by omega⟩ q := by
  refine (pay_apply (View.ld x0 r0_24) (View.ld x1 r0_6) (View.ld x2 r0_8) (View.ld x3 r0_9) r q).trans ?_
  rw [View.ld_unit_zero (S := S1x2x2048) (by decide) _ x1, View.ld_unit_zero (S := S1x2048) (by decide) _ x2, View.ld_unit_zero (S := S2048x2560) (by decide) _ x3]
  unfold u
  congr 1
  funext k
  refine congrArg x0 (funext fun a => ?_)
  fin_cases a <;> apply Fin.ext <;> simp [LoadRect.idx, Rect.unit]

theorem u_congr {r r' : Fin 512} {q q' : Fin 2560} (hr : r.val = r'.val) (hq : q.val = q'.val) : u x0 x1 x2 x3 r q = u x0 x1 x2 x3 r' q' := by
  rw [Fin.ext hr, Fin.ext hq]

theorem cut38 (v23 : FVec Ideal S2x2048 .f32) (v107 : Vec Ideal S256x2048 .f32) (v109 : Vec Ideal S1x2048 .f32) (v131 : Vec Ideal S2048x2560 .f32)
    (a : Fin 256) (b : Fin 128) : k0_pay38 (k0_pay37 v23 v107 v109 v131) (ix2 a b)
      = k0_pay36 v23 v107 v109 v131 (ix2 a ⟨b.val, by omega⟩) * Ideal.ofBits .f32 1040356334#32 := by
  unfold k0_pay38 k0_pay37
  generalize k0_pay36 v23 v107 v109 v131 = X
  pointwise []

theorem cut20 (v25 : FVec Ideal S256x2048 .f32) (v27 v28 v29 : FVec Ideal S1x2048 .f32) (v30 : FVec Ideal S256x2048 .f32) (v48 : Vec Ideal S2048x2560 .f32)
    (a : Fin 256) (b : Fin 128) : k0_pay20 v25 v27 v28 v29 v30 v48 (ix2 a b)
      = k0_pay19 v25 v27 v28 v29 v30 v48 (ix2 a ⟨b.val, by omega⟩) * Ideal.ofBits .f32 1040356334#32 := by
  unfold k0_pay20
  generalize k0_pay19 v25 v27 v28 v29 v30 v48 = X
  pointwise []

theorem cut21 (v25 : FVec Ideal S256x2048 .f32) (v27 v28 v29 : FVec Ideal S1x2048 .f32) (v30 : FVec Ideal S256x2048 .f32) (v48 : Vec Ideal S2048x2560 .f32)
    (a : Fin 256) (b : Fin 128) : k0_pay21 v25 v27 v28 v29 v30 v48 (ix2 a b)
      = k0_pay19 v25 v27 v28 v29 v30 v48 (ix2 a ⟨128 + b.val, by omega⟩) * Ideal.ofBits .f32 1040356334#32 := by
  unfold k0_pay21
  generalize k0_pay19 v25 v27 v28 v29 v30 v48 = X
  pointwise []

theorem cut22 (v25 : FVec Ideal S256x2048 .f32) (v27 v28 v29 : FVec Ideal S1x2048 .f32) (v30 : FVec Ideal S256x2048 .f32) (v48 : Vec Ideal S2048x2560 .f32)
    (a : Fin 256) (b : Fin 128) : k0_pay22 v25 v27 v28 v29 v30 v48 (ix2 a b)
      = k0_pay19 v25 v27 v28 v29 v30 v48 (ix2 a ⟨256 + b.val, by omega⟩) * Ideal.ofBits .f32 1040356334#32 := by
  unfold k0_pay22
  generalize k0_pay19 v25 v27 v28 v29 v30 v48 = X
  pointwise []

theorem cut23 (v25 : FVec Ideal S256x2048 .f32) (v27 v28 v29 : FVec Ideal S1x2048 .f32) (v30 : FVec Ideal S256x2048 .f32) (v48 : Vec Ideal S2048x2560 .f32)
    (a : Fin 256) (b : Fin 128) : k0_pay23 v25 v27 v28 v29 v30 v48 (ix2 a b)
      = k0_pay19 v25 v27 v28 v29 v30 v48 (ix2 a ⟨384 + b.val, by omega⟩) * Ideal.ofBits .f32 1040356334#32 := by
  unfold k0_pay23
  generalize k0_pay19 v25 v27 v28 v29 v30 v48 = X
  pointwise []

theorem out9 (r : Fin 512) (q : Fin 1024) : out0_9 x0 x1 x2 x3 x4 x5 x6 x7 x8 (ix2 r q) = u x0 x1 x2 x3 r ⟨q.val, by omega⟩ * Ideal.ofBits .f32 1040356334#32 := by
  unfold out0_9
  canon_tiles x h
  · obtain ⟨a, b, rfl⟩ : ∃ (a : Fin 256) (b : Fin 128), x = ix2 a b := ⟨_, _, eq_ix2 x⟩
    pointwise [k0_pay1, k0_pay45]
    refine congrArg (· * _) ((high ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    pointwise [k0_pay44]
    refine congrArg (· * _) ((high ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    pointwise [k0_pay43]
    refine congrArg (· * _) ((high ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    pointwise [k0_pay42]
    refine congrArg (· * _) ((high ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    pointwise [k0_pay41]
    refine congrArg (· * _) ((high ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    pointwise [k0_pay40]
    refine congrArg (· * _) ((high ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    pointwise [k0_pay39]
    refine congrArg (· * _) ((high ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    refine (cut38 ..).trans ?_
    refine congrArg (· * _) ((high ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    pointwise [k0_pay27]
    refine congrArg (· * _) ((low ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    pointwise [k0_pay26]
    refine congrArg (· * _) ((low ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    pointwise [k0_pay25]
    refine congrArg (· * _) ((low ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    pointwise [k0_pay24]
    refine congrArg (· * _) ((low ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    refine (cut23 ..).trans ?_
    refine congrArg (· * _) ((low ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    refine (cut22 ..).trans ?_
    refine congrArg (· * _) ((low ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    refine (cut21 ..).trans ?_
    refine congrArg (· * _) ((low ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    refine (cut20 ..).trans ?_
    refine congrArg (· * _) ((low ..).trans (u_congr x0 x1 x2 x3 ?_ ?_)) <;> (dsimp only [ix2] at *; omega)
theorem out10 (r : Fin 512) (q : Fin 256) : out0_10 x0 x1 x2 x3 x4 x5 x6 x7 x8 (ix2 r q) = u x0 x1 x2 x3 r ⟨1024 + q.val, by omega⟩ := by
  unfold out0_10
  canon_tiles x h
  · obtain ⟨a, b, rfl⟩ : ∃ (a : Fin 256) (b : Fin 128), x = ix2 a b := ⟨_, _, eq_ix2 x⟩
    pointwise [k0_pay3]
    refine ((high ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    pointwise [k0_pay2]
    refine ((high ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    pointwise [k0_pay29]
    refine ((low ..).trans (u_congr x0 x1 x2 x3 ?_ ?_)) <;> (dsimp only [ix2] at *; omega)
  · obtain ⟨a, b, rfl⟩ : ∃ (a : Fin 256) (b : Fin 128), x = ix2 a b := ⟨_, _, eq_ix2 x⟩
    pointwise [k0_pay28]
    refine ((low ..).trans (u_congr x0 x1 x2 x3 ?_ ?_)) <;> (dsimp only [ix2] at *; omega)

theorem out11 (r : Fin 512) (q : Fin 256) : out0_11 x0 x1 x2 x3 x4 x5 x6 x7 x8 (ix2 r q) = u x0 x1 x2 x3 r ⟨1280 + q.val, by omega⟩ := by
  unfold out0_11
  canon_tiles x h
  · obtain ⟨a, b, rfl⟩ : ∃ (a : Fin 256) (b : Fin 256), x = ix2 a b := ⟨_, _, eq_ix2 x⟩
    pointwise [k0_pay4]
    refine ((high ..).trans (u_congr x0 x1 x2 x3 ?_ ?_)) <;> (dsimp only [ix2] at *; omega)
  · obtain ⟨a, b, rfl⟩ : ∃ (a : Fin 256) (b : Fin 256), x = ix2 a b := ⟨_, _, eq_ix2 x⟩
    pointwise [k0_pay30]
    refine ((low ..).trans (u_congr x0 x1 x2 x3 ?_ ?_)) <;> (dsimp only [ix2] at *; omega)

theorem out12 (r : Fin 512) (q : Fin 1024) : out0_12 x0 x1 x2 x3 x4 x5 x6 x7 x8 (ix2 r q) = u x0 x1 x2 x3 r ⟨1536 + q.val, by omega⟩ := by
  unfold out0_12
  canon_tiles x h
  · obtain ⟨a, b, rfl⟩ : ∃ (a : Fin 256) (b : Fin 1024), x = ix2 a b := ⟨_, _, eq_ix2 x⟩
    pointwise [k0_pay5]
    refine ((high ..).trans (u_congr x0 x1 x2 x3 ?_ ?_)) <;> (dsimp only [ix2] at *; omega)
  · obtain ⟨a, b, rfl⟩ : ∃ (a : Fin 256) (b : Fin 1024), x = ix2 a b := ⟨_, _, eq_ix2 x⟩
    pointwise [k0_pay31]
    refine ((low ..).trans (u_congr x0 x1 x2 x3 ?_ ?_)) <;> (dsimp only [ix2] at *; omega)

theorem out13 (y : S1024x128.Idx) : out0_13 x0 x1 x2 x3 x4 x5 x6 x7 x8 y = state x0 x1 x2 x3 1024 (by omega) y := by
  refine View.canon_apply_of_pieces (Val := Elt Ideal) (e := .f32) (state x0 x1 x2 x3 1024 (by omega)) _ ?_ y (cover0_13 _ _ _ _ y)
  simp only [List.forall_mem_cons, List.not_mem_nil, false_imp_iff, implies_true, and_true]
  refine ⟨?_, ?_, ?_, ?_⟩ <;> intro x <;> obtain ⟨a, b, rfl⟩ : ∃ (a : Fin 256) (b : Fin 128), x = ix2 a b := ⟨_, _, eq_ix2 x⟩
  · have e0 : ((r0_38.emb (ix2 a b)) 0).val = 513 + 2 * a.val := rfl
    have e1 : ((r0_38.emb (ix2 a b)) 1).val = 0 + 1 * b.val := rfl
    pointwise [k0_pay8]
    refine (high ..).trans (u_congr x0 x1 x2 x3 ?_ ?_) <;> dsimp only [ix2] at * <;> omega
  · have e0 : ((r0_37.emb (ix2 a b)) 0).val = 512 + 2 * a.val := rfl
    have e1 : ((r0_37.emb (ix2 a b)) 1).val = 0 + 1 * b.val := rfl
    pointwise [k0_pay6]
    refine (high ..).trans (u_congr x0 x1 x2 x3 ?_ ?_) <;> dsimp only [ix2] at * <;> omega
  · have e0 : ((r0_23.emb (ix2 a b)) 0).val = 1 + 2 * a.val := rfl
    have e1 : ((r0_23.emb (ix2 a b)) 1).val = 0 + 1 * b.val := rfl
    pointwise [k0_pay34]
    refine (low ..).trans (u_congr x0 x1 x2 x3 ?_ ?_) <;> dsimp only [ix2] at * <;> omega
  · have e0 : ((r0_22.emb (ix2 a b)) 0).val = 0 + 2 * a.val := rfl
    have e1 : ((r0_22.emb (ix2 a b)) 1).val = 0 + 1 * b.val := rfl
    pointwise [k0_pay32]
    refine (low ..).trans (u_congr x0 x1 x2 x3 ?_ ?_) <;> dsimp only [ix2] at * <;> omega

theorem out14 (y : S1024x128.Idx) : out0_14 x0 x1 x2 x3 x4 x5 x6 x7 x8 y = state x0 x1 x2 x3 1280 (by omega) y := by
  refine View.canon_apply_of_pieces (Val := Elt Ideal) (e := .f32) (state x0 x1 x2 x3 1280 (by omega)) _ ?_ y (cover0_14 _ _ _ _ y)
  simp only [List.forall_mem_cons, List.not_mem_nil, false_imp_iff, implies_true, and_true]
  refine ⟨?_, ?_, ?_, ?_⟩ <;> intro x <;> obtain ⟨a, b, rfl⟩ : ∃ (a : Fin 256) (b : Fin 128), x = ix2 a b := ⟨_, _, eq_ix2 x⟩
  · have e0 : ((r0_38.emb (ix2 a b)) 0).val = 513 + 2 * a.val := rfl
    have e1 : ((r0_38.emb (ix2 a b)) 1).val = 0 + 1 * b.val := rfl
    pointwise [k0_pay9]
    refine (high ..).trans (u_congr x0 x1 x2 x3 ?_ ?_) <;> dsimp only [ix2] at * <;> omega
  · have e0 : ((r0_37.emb (ix2 a b)) 0).val = 512 + 2 * a.val := rfl
    have e1 : ((r0_37.emb (ix2 a b)) 1).val = 0 + 1 * b.val := rfl
    pointwise [k0_pay7]
    refine (high ..).trans (u_congr x0 x1 x2 x3 ?_ ?_) <;> dsimp only [ix2] at * <;> omega
  · have e0 : ((r0_23.emb (ix2 a b)) 0).val = 1 + 2 * a.val := rfl
    have e1 : ((r0_23.emb (ix2 a b)) 1).val = 0 + 1 * b.val := rfl
    pointwise [k0_pay35]
    refine (low ..).trans (u_congr x0 x1 x2 x3 ?_ ?_) <;> dsimp only [ix2] at * <;> omega
  · have e0 : ((r0_22.emb (ix2 a b)) 0).val = 0 + 2 * a.val := rfl
    have e1 : ((r0_22.emb (ix2 a b)) 1).val = 0 + 1 * b.val := rfl
    pointwise [k0_pay33]
    refine (low ..).trans (u_congr x0 x1 x2 x3 ?_ ?_) <;> dsimp only [ix2] at * <;> omega

theorem out15 (y : S128x2048.Idx) : out0_15 x0 x1 x2 x3 x4 x5 x6 x7 x8 y = x4 y := by
  unfold out0_15
  rw [View.canon_cons_unit_zero (S := S128x2048) (by decide), View.ld_unit_zero (S := S128x2048) (by decide) _ x4]
  rw [eq_ix2 y]
  pointwise [k0_pay10]

theorem out16 (y : S128x2560.Idx) : out0_16 x0 x1 x2 x3 x4 x5 x6 x7 x8 y = x5 y := by
  unfold out0_16
  rw [View.canon_cons_unit_zero (S := S128x2560) (by decide), View.ld_unit_zero (S := S128x2560) (by decide) _ x5]
  rw [eq_ix2 y]
  pointwise [k0_pay11]

theorem out17 (r : Fin 8) (q : Fin 512) : out0_17 x0 x1 x2 x3 x4 x5 x6 x7 x8 (ix2 r q)
    = late (fun k => x6 (ix2 r k)) (fun k => x7 (ix2 k q)) (x8 (ix2 0 q)) := by
  unfold out0_17
  rw [View.canon_cons_unit_zero (S := S8x512) (by decide), View.ld_unit_zero (S := S8x2048) (by decide) _ x6,
    View.ld_unit_zero (S := S2048x512) (by decide) _ x7, View.ld_unit_zero (S := S1x512) (by decide) _ x8]
  unfold late
  pointwise [k0_pay12]

end Cert.Kernel2Ideal.InVal
end
-- ==== Proof.InRead.lean ====
module

public import proofs.«01_k».proof.Proof.Gen.Reference2Ideal.Read
public import proofs.«01_k».proof.Proof.InSpec

/-! The in-projection's reference read one element at a time. -/

@[expose] public section
set_option maxRecDepth 16384
noncomputable section
namespace Cert.Reference2Ideal.Read
open Idealize.ShloMosaic Idealize.ShloMosaic.TcCoe Cert.Reference2Ideal Cert.InSpec

variable (x0 : Vec Ideal S32x256x2048 .f32) (x1 : Vec Ideal S8x2x2048 .f32) (x2 : Vec Ideal S1x2048 .f32) (x3 : Vec Ideal S1x2048x2560 .f32)
  (x4 : Vec Ideal S1x2048x2048 .f32) (x5 : Vec Ideal S2048 .f32) (x6 : Vec Ideal S4x2048 .f32) (x7 : Vec Ideal S1x2048x12288 .f32) (x8 : Vec Ideal S1x12288 .f32)

theorem x_apply (r : Fin 8192) (k : Fin 2048) : val_main_v0 (F := Ideal) x0 (ix2 r k)
    = x0 (ix3 (⟨r.val / 256, by omega⟩ : Fin 32) (⟨r.val % 256, by omega⟩ : Fin 256) k) := by
  pointwise [val_main_v0]

theorem w_apply (k : Fin 2048) (q : Fin 2560) : val_main_v27 (F := Ideal) x3 (ix2 k q) = x3 (ix3 0 k q) := by
  pointwise [val_main_v27]

theorem h_apply (r : Fin 8192) (k : Fin 2048) : val_main_v26 (F := Ideal) x0 x1 x2 (ix2 r k)
    = val_main_v0 (F := Ideal) x0 (ix2 r k) * Ideal.rsqrt (Ideal.div (∑ j, val_main_v0 (F := Ideal) x0 (ix2 r j) * val_main_v0 (F := Ideal) x0 (ix2 r j))
      (Ideal.ofBits .f32 1157627904#32) + Ideal.ofBits .f32 897988541#32) * x2 (ix2 0 k) * (1 + x1 (ix3 0 1 k)) + x1 (ix3 0 0 k) := by
  pointwise [val_main_cst, val_main_cst_0, val_main_cst_1, val_main_cst_2, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1]

theorem u_apply (r : Fin 8192) (q : Fin 2560) : val_main_v28 (F := Ideal) x0 x1 x2 x3 (ix2 r q) = U x0 x1 x2 x3 r q := by
  pointwise [val_main_v28]
  simp only [h_apply, x_apply, w_apply]
  rfl

theorem q_apply (r : Fin 8192) (q : Fin 1024) : val_main_v45 (F := Ideal) x0 x1 x2 x3 (ix2 r q)
    = U x0 x1 x2 x3 r ⟨q.val, by omega⟩ * Ideal.ofBits .f32 1040356334#32 := by
  pointwise [val_main_v45, val_main_v44, val_main_v43, val_main_v29, val_main_cst_4]
  rw [u_apply]

theorem k_apply (r : Fin 8192) (q : Fin 256) : val_main_v30 (F := Ideal) x0 x1 x2 x3 (ix2 r q) = U x0 x1 x2 x3 r ⟨1024 + q.val, by omega⟩ := by
  pointwise [val_main_v30]
  rw [u_apply]

theorem v_apply (r : Fin 8192) (q : Fin 256) : val_main_v31 (F := Ideal) x0 x1 x2 x3 (ix2 r q) = U x0 x1 x2 x3 r ⟨1280 + q.val, by omega⟩ := by
  pointwise [val_main_v31]
  rw [u_apply]

theorem p_apply (r : Fin 8192) (q : Fin 1024) : val_main_v32 (F := Ideal) x0 x1 x2 x3 (ix2 r q) = U x0 x1 x2 x3 r ⟨1536 + q.val, by omega⟩ := by
  pointwise [val_main_v32]
  rw [u_apply]

theorem ks_apply (r : Fin 16384) (q : Fin 128) : val_main_v46 (F := Ideal) x0 x1 x2 x3 (ix2 r q)
    = U x0 x1 x2 x3 ⟨r.val / 2, by omega⟩ ⟨1024 + r.val % 2 * 128 + q.val, by omega⟩ := by
  have e : val_main_v46 (F := Ideal) x0 x1 x2 x3 (ix2 r q) = val_main_v30 (F := Ideal) x0 x1 x2 x3 (ix2 ⟨r.val / 2, by omega⟩ ⟨r.val % 2 * 128 + q.val, by omega⟩) := by
    rw [val_main_v46_apply]
    refine congrArg _ (funext fun a => ?_)
    fin_cases a <;> apply Fin.ext <;> simp [idx_main_v46] <;> omega
  rw [e, k_apply]
  simp only [Nat.add_assoc]

theorem vs_apply (r : Fin 16384) (q : Fin 128) : val_main_v47 (F := Ideal) x0 x1 x2 x3 (ix2 r q)
    = U x0 x1 x2 x3 ⟨r.val / 2, by omega⟩ ⟨1280 + r.val % 2 * 128 + q.val, by omega⟩ := by
  have e : val_main_v47 (F := Ideal) x0 x1 x2 x3 (ix2 r q) = val_main_v31 (F := Ideal) x0 x1 x2 x3 (ix2 ⟨r.val / 2, by omega⟩ ⟨r.val % 2 * 128 + q.val, by omega⟩) := by
    rw [val_main_v47_apply]
    refine congrArg _ (funext fun a => ?_)
    fin_cases a <;> apply Fin.ext <;> simp [idx_main_v47] <;> omega
  rw [e, v_apply]
  simp only [Nat.add_assoc]

theorem wo_apply (k q : Fin 2048) : val_main_v49 (F := Ideal) x4 (ix2 k q) = x4 (ix3 0 k q) := by
  pointwise [val_main_v49, val_main_v48]

theorem wi_apply (k : Fin 2048) (q : Fin 2560) : val_main_v51 (F := Ideal) x3 (ix2 k q) = x3 (ix3 0 k q) := by
  pointwise [val_main_v51, val_main_v50]

theorem silu_apply (r : Fin 8) (k : Fin 2048) : val_main_v36 (F := Ideal) x5 x6 (ix2 r k)
    = val_main_v35 (F := Ideal) x5 x6 (ix2 r k) * Ideal.logistic (val_main_v35 (F := Ideal) x5 x6 (ix2 r k)) := by
  unfold val_main_v36 val_main_call0_v5 val_main_call0_v3 val_main_call0_v1 val_main_call0_v0
  generalize val_main_v35 (F := Ideal) x5 x6 = C
  pointwise [val_main_call0_v4, val_main_call0_v2, val_main_call0_cst, val_main_call0_cst_0, Ideal.logistic]

theorem late_apply (r : Fin 8) (q : Fin 8192) : val_main_v42 (F := Ideal) x5 x6 x7 x8 (ix2 r q)
    = late (fun k => val_main_v35 (F := Ideal) x5 x6 (ix2 r k)) (fun k => x7 (ix3 0 k ⟨4096 + q.val, by omega⟩)) (x8 (ix2 0 ⟨4096 + q.val, by omega⟩)) := by
  pointwise [val_main_v42, val_main_v41, val_main_v40, val_main_v39, val_main_v38, val_main_v37, late]
  simp only [silu_apply]

end Cert.Reference2Ideal.Read
end
-- ==== Proof.InArr.lean ====
module

public import proofs.«01_k».proof.Proof.InBlock
public import proofs.«01_k».proof.Proof.InRead

/-! The in-projection's result arrays after the run, in terms of the arguments. -/

@[expose] public section
set_option maxRecDepth 16384
noncomputable section
namespace Cert.Kernel2Ideal.InVal
open Idealize.ShloMosaic Idealize.ShloMosaic.TcCoe Cert.Kernel2Ideal Cert.Kernel2Ideal.Gen Cert.Kernel2Ideal.InProj Cert.InSpec

variable (m : (ℓ : Loc nD τ sig) → Buf (Elt Ideal) ℓ)

theorem idx : ∀ t : Fin cfg0.N, win0_0.index t = ![t.val, 0]
    ∧ win0_1.index t = ![0, 0, 0]
    ∧ win0_2.index t = ![0, 0]
    ∧ win0_3.index t = ![0, 0]
    ∧ win0_4.index t = ![t.val, 0]
    ∧ win0_5.index t = ![t.val, 0]
    ∧ win0_6.index t = ![0, 0]
    ∧ win0_7.index t = ![0, t.val + 8]
    ∧ win0_8.index t = ![0, t.val + 8]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val, 0]
    ∧ win0_17.index t = ![0, t.val] := by decide +kernel

theorem lt16 (t : Fin cfg0.N) : t.val < 16 := t.isLt

theorem read_v3 (c : Dev nD) (r : Fin 8192) (k : Fin 2048) : V m c main_v3 (ix2 r k) = m (c.tc.loc main_arg0) (ix3 (⟨r.val / 256, by omega⟩ : Fin 32) (⟨r.val % 256, by omega⟩ : Fin 256) k) := by
  entry_read
  pointwise []

theorem read_v5 (c : Dev nD) (k : Fin 2048) : V m c main_v5 (ix2 0 k) = m (c.tc.loc main_arg2) (ix2 0 k) := by
  entry_read
  pointwise []

theorem read_v6 (c : Dev nD) (k : Fin 2048) (q : Fin 2560) : V m c main_v6 (ix2 k q) = m (c.tc.loc main_arg3) (ix3 0 k q) := by
  entry_read
  pointwise []

theorem read_v7 (c : Dev nD) (k q : Fin 2048) : V m c main_v7 (ix2 k q) = m (c.tc.loc main_arg4) (ix3 0 k q) := by
  entry_read
  pointwise []

theorem read_v8 (c : Dev nD) (k : Fin 2048) (q : Fin 12288) : V m c main_v8 (ix2 k q) = m (c.tc.loc main_arg7) (ix3 0 k q) := by
  entry_read
  pointwise []

theorem read_v10 (c : Dev nD) (q : Fin 12288) : V m c main_v10 (ix2 0 q) = m (c.tc.loc main_arg8) (ix2 0 q) := by
  entry_read
  pointwise []

/-- The three host operations that make the operands of the conditioning rows. -/
abbrev rowOps : List (HloOp τ sig (Elt Ideal)) :=
  [StableHlo.unary main_arg5 main_v0 (broadcastInDim S1x2048 ![1] bcast_S2048_S1x2048_1 : (⟨S2048, .f32⟩ : BufTy).Contents (Elt Ideal) → (⟨S1x2048, .f32⟩ : BufTy).Contents (Elt Ideal)),
    StableHlo.nullary main_cst (constant (F := Ideal) S_ .f32 0x00000000#32),
    StableHlo.unary main_cst main_v1 (broadcastInDim S3x2048 ![] bcast_S_S3x2048 : (⟨S_, .f32⟩ : BufTy).Contents (Elt Ideal) → (⟨S3x2048, .f32⟩ : BufTy).Contents (Elt Ideal))]

/-- Eight rows from one, four and three. -/
def rowsOf (a : (⟨S1x2048, .f32⟩ : BufTy).Contents (Elt Ideal)) (b : (⟨S4x2048, .f32⟩ : BufTy).Contents (Elt Ideal))
    (d : (⟨S3x2048, .f32⟩ : BufTy).Contents (Elt Ideal)) : (⟨S8x2048, .f32⟩ : BufTy).Contents (Elt Ideal) :=
  concatenate S8x2048 0 [⟨S1x2048, a⟩, ⟨S4x2048, b⟩, ⟨S3x2048, d⟩] concatenates_S1x2048_S4x2048_S3x2048_S8x2048_d0

theorem read_v2 (c : Dev nD) : V m c main_v2
    = Cert.Reference2Ideal.Read.val_main_v35 (F := Ideal) (m (c.tc.loc main_arg5)) (m (c.tc.loc main_arg6)) := by
  have e0 : StableHlo.after rowOps (fun b => m (c, b)) main_v0 = Cert.Reference2Ideal.Read.val_main_v33 (F := Ideal) (m (c.tc.loc main_arg5)) := by
    entry_read
    rfl
  have e1 : StableHlo.after rowOps (fun b => m (c, b)) main_arg6 = m (c.tc.loc main_arg6) := by
    entry_read
    rfl
  have e2 : StableHlo.after rowOps (fun b => m (c, b)) main_v1 = Cert.Reference2Ideal.Read.val_main_v34 (F := Ideal) := by
    entry_read
    rfl
  unfold V
  simp only [StableHlo.after_cons, StableHlo.after_nil] at e0 e1 e2 ⊢
  repeat (rw [StableHlo.reshape_result_ne]; rotate_left; decide)
  rw [StableHlo.unary_result_ne]; rotate_left; decide
  repeat (rw [StableHlo.reshape_result_ne]; rotate_left; decide)
  refine (StableHlo.nary_result ..).trans ?_
  have key := congr (congr (congrArg rowsOf e0) e1) e2
  exact key

theorem b0 (c : Dev nD) (t : Fin cfg0.N) (r : Fin 512) (k : Fin 2048) : iblk m c 0 t (ix2 r k) = m (c.tc.loc main_arg0) (ix3 (⟨(t.val * 512 + r.val) / 256, by have := lt16 t; omega⟩ : Fin 32) (⟨(t.val * 512 + r.val) % 256, by omega⟩ : Fin 256) k) := by
  refine Eq.trans ?_ (read_v3 m c ⟨t.val * 512 + r.val, by have := lt16 t; omega⟩ k)
  blk_ext [iblk, idx t]

theorem b1 (c : Dev nD) (t : Fin cfg0.N) (j : Fin 2) (k : Fin 2048) : iblk m c 1 t (ix3 0 j k) = m (c.tc.loc main_arg1) (ix3 0 j k) := by
  blk_ext! [iblk, V, idx t]

theorem b2 (c : Dev nD) (t : Fin cfg0.N) (k : Fin 2048) : iblk m c 2 t (ix2 0 k) = m (c.tc.loc main_arg2) (ix2 0 k) := by
  refine Eq.trans ?_ (read_v5 m c k)
  blk_ext [iblk, idx t]

theorem b3 (c : Dev nD) (t : Fin cfg0.N) (k : Fin 2048) (q : Fin 2560) : iblk m c 3 t (ix2 k q) = m (c.tc.loc main_arg3) (ix3 0 k q) := by
  refine Eq.trans ?_ (read_v6 m c k q)
  blk_ext [iblk, idx t]

theorem b4 (c : Dev nD) (t : Fin cfg0.N) (k : Fin 128) (q : Fin 2048) : iblk m c 4 t (ix2 k q) = m (c.tc.loc main_arg4) (ix3 0 ⟨t.val * 128 + k.val, by have := lt16 t; omega⟩ q) := by
  refine Eq.trans ?_ (read_v7 m c ⟨t.val * 128 + k.val, by have := lt16 t; omega⟩ q)
  blk_ext [iblk, idx t]

theorem b5 (c : Dev nD) (t : Fin cfg0.N) (k : Fin 128) (q : Fin 2560) : iblk m c 5 t (ix2 k q) = m (c.tc.loc main_arg3) (ix3 0 ⟨t.val * 128 + k.val, by have := lt16 t; omega⟩ q) := by
  refine Eq.trans ?_ (read_v6 m c ⟨t.val * 128 + k.val, by have := lt16 t; omega⟩ q)
  blk_ext [iblk, idx t]

theorem b6 (c : Dev nD) (t : Fin cfg0.N) (r : Fin 8) (k : Fin 2048) : iblk m c 6 t (ix2 r k) = Cert.Reference2Ideal.Read.val_main_v35 (F := Ideal) (m (c.tc.loc main_arg5)) (m (c.tc.loc main_arg6)) (ix2 r k) := by
  refine Eq.trans ?_ (congrFun (read_v2 m c) (ix2 r k))
  blk_ext [iblk, idx t]

theorem b7 (c : Dev nD) (t : Fin cfg0.N) (k : Fin 2048) (q : Fin 512) : iblk m c 7 t (ix2 k q) = m (c.tc.loc main_arg7) (ix3 0 k ⟨4096 + (t.val * 512 + q.val), by have := lt16 t; omega⟩) := by
  refine Eq.trans ?_ (read_v8 m c k ⟨4096 + (t.val * 512 + q.val), by have := lt16 t; omega⟩)
  blk_ext [iblk, idx t]

theorem b8 (c : Dev nD) (t : Fin cfg0.N) (q : Fin 512) : iblk m c 8 t (ix2 0 q) = m (c.tc.loc main_arg8) (ix2 0 ⟨4096 + (t.val * 512 + q.val), by have := lt16 t; omega⟩) := by
  refine Eq.trans ?_ (read_v10 m c ⟨4096 + (t.val * 512 + q.val), by have := lt16 t; omega⟩)
  blk_ext [iblk, idx t]

/-- A block row of the projection is a row of the whole projection. -/
theorem u_eq (c : Dev nD) (t : Fin cfg0.N) (r : Fin 512) (q : Fin 2560) :
    u (iblk m c 0 t) (iblk m c 1 t) (iblk m c 2 t) (iblk m c 3 t) r q
      = U (m (c.tc.loc main_arg0)) (m (c.tc.loc main_arg1)) (m (c.tc.loc main_arg2)) (m (c.tc.loc main_arg3)) ⟨t.val * 512 + r.val, by have := lt16 t; omega⟩ q := by
  unfold u U
  simp only [b0, b1, b2, b3]

theorem U_congr (x : Vec Ideal S32x256x2048 .f32) (md : Vec Ideal S8x2x2048 .f32) (g : Vec Ideal S1x2048 .f32) (w : Vec Ideal S1x2048x2560 .f32)
    {r r' : Fin 8192} {q q' : Fin 2560} (hr : r.val = r'.val) (hq : q.val = q'.val) : U x md g w r q = U x md g w r' q' := by
  rw [Fin.ext hr, Fin.ext hq]

/-- The scaled queries. -/
def res9 (c : Dev nD) (r : Fin 8192) (q : Fin 1024) : EReal :=
  U (m (c.tc.loc main_arg0)) (m (c.tc.loc main_arg1)) (m (c.tc.loc main_arg2)) (m (c.tc.loc main_arg3)) r ⟨q.val, by omega⟩ * Ideal.ofBits .f32 1040356334#32

theorem array9 (c : Dev nD) (r : Fin 8192) (q : Fin 1024) : (dats m 0 c).arrAt 9 cfg0.N (ix2 r q) = res9 m c r q := by
  refine congrFun ((dats m 0 c).arrAt_eq_of_covers 9 (fun i : S8192x1024.Idx => res9 m c (i 0) (i 1)) (by decide +kernel) (fun t _ y => ?_)) (ix2 r q)
  obtain ⟨r, q, rfl⟩ : ∃ (r : Fin 512) (q : Fin 1024), y = ix2 r q := ⟨_, _, eq_ix2 y⟩
  have e : (win0_9.blk t).view.emb (ix2 r q) = ix2 (⟨t.val * 512 + r.val, by have := lt16 t; omega⟩ : Fin 8192) q := by
    blk_ext [idx t]
  refine Eq.trans ?_ (congrArg (fun i : S8192x1024.Idx => res9 m c (i 0) (i 1)) e.symm)
  blk_simp [idx t]
  rw [after0_9]
  refine (out9 .. ).trans (congrArg (· * _) ?_)
  exact u_eq ..

/-- The keys. -/
def res10 (c : Dev nD) (r : Fin 8192) (q : Fin 256) : EReal :=
  U (m (c.tc.loc main_arg0)) (m (c.tc.loc main_arg1)) (m (c.tc.loc main_arg2)) (m (c.tc.loc main_arg3)) r ⟨1024 + q.val, by omega⟩

theorem array10 (c : Dev nD) (r : Fin 8192) (q : Fin 256) : (dats m 0 c).arrAt 10 cfg0.N (ix2 r q) = res10 m c r q := by
  refine congrFun ((dats m 0 c).arrAt_eq_of_covers 10 (fun i : S8192x256.Idx => res10 m c (i 0) (i 1)) (by decide +kernel) (fun t _ y => ?_)) (ix2 r q)
  obtain ⟨r, q, rfl⟩ : ∃ (r : Fin 512) (q : Fin 256), y = ix2 r q := ⟨_, _, eq_ix2 y⟩
  have e : (win0_10.blk t).view.emb (ix2 r q) = ix2 (⟨t.val * 512 + r.val, by have := lt16 t; omega⟩ : Fin 8192) q := by
    blk_ext [idx t]
  refine Eq.trans ?_ (congrArg (fun i : S8192x256.Idx => res10 m c (i 0) (i 1)) e.symm)
  blk_simp [idx t]
  rw [after0_10]
  refine (out10 .. ).trans ?_
  exact u_eq ..

/-- The values. -/
def res11 (c : Dev nD) (r : Fin 8192) (q : Fin 256) : EReal :=
  U (m (c.tc.loc main_arg0)) (m (c.tc.loc main_arg1)) (m (c.tc.loc main_arg2)) (m (c.tc.loc main_arg3)) r ⟨1280 + q.val, by omega⟩

theorem array11 (c : Dev nD) (r : Fin 8192) (q : Fin 256) : (dats m 0 c).arrAt 11 cfg0.N (ix2 r q) = res11 m c r q := by
  refine congrFun ((dats m 0 c).arrAt_eq_of_covers 11 (fun i : S8192x256.Idx => res11 m c (i 0) (i 1)) (by decide +kernel) (fun t _ y => ?_)) (ix2 r q)
  obtain ⟨r, q, rfl⟩ : ∃ (r : Fin 512) (q : Fin 256), y = ix2 r q := ⟨_, _, eq_ix2 y⟩
  have e : (win0_11.blk t).view.emb (ix2 r q) = ix2 (⟨t.val * 512 + r.val, by have := lt16 t; omega⟩ : Fin 8192) q := by
    blk_ext [idx t]
  refine Eq.trans ?_ (congrArg (fun i : S8192x256.Idx => res11 m c (i 0) (i 1)) e.symm)
  blk_simp [idx t]
  rw [after0_11]
  refine (out11 .. ).trans ?_
  exact u_eq ..

/-- The pool columns. -/
def res12 (c : Dev nD) (r : Fin 8192) (q : Fin 1024) : EReal :=
  U (m (c.tc.loc main_arg0)) (m (c.tc.loc main_arg1)) (m (c.tc.loc main_arg2)) (m (c.tc.loc main_arg3)) r ⟨1536 + q.val, by omega⟩

theorem array12 (c : Dev nD) (r : Fin 8192) (q : Fin 1024) : (dats m 0 c).arrAt 12 cfg0.N (ix2 r q) = res12 m c r q := by
  refine congrFun ((dats m 0 c).arrAt_eq_of_covers 12 (fun i : S8192x1024.Idx => res12 m c (i 0) (i 1)) (by decide +kernel) (fun t _ y => ?_)) (ix2 r q)
  obtain ⟨r, q, rfl⟩ : ∃ (r : Fin 512) (q : Fin 1024), y = ix2 r q := ⟨_, _, eq_ix2 y⟩
  have e : (win0_12.blk t).view.emb (ix2 r q) = ix2 (⟨t.val * 512 + r.val, by have := lt16 t; omega⟩ : Fin 8192) q := by
    blk_ext [idx t]
  refine Eq.trans ?_ (congrArg (fun i : S8192x1024.Idx => res12 m c (i 0) (i 1)) e.symm)
  blk_simp [idx t]
  rw [after0_12]
  refine (out12 .. ).trans ?_
  exact u_eq ..

/-- The keys by head. -/
def res13 (c : Dev nD) (r : Fin 16384) (q : Fin 128) : EReal :=
  U (m (c.tc.loc main_arg0)) (m (c.tc.loc main_arg1)) (m (c.tc.loc main_arg2)) (m (c.tc.loc main_arg3)) ⟨r.val / 2, by omega⟩ ⟨1024 + r.val % 2 * 128 + q.val, by omega⟩

theorem array13 (c : Dev nD) (r : Fin 16384) (q : Fin 128) : (dats m 0 c).arrAt 13 cfg0.N (ix2 r q) = res13 m c r q := by
  refine congrFun ((dats m 0 c).arrAt_eq_of_covers 13 (fun i : S16384x128.Idx => res13 m c (i 0) (i 1)) (by decide +kernel) (fun t _ y => ?_)) (ix2 r q)
  obtain ⟨r, q, rfl⟩ : ∃ (r : Fin 1024) (q : Fin 128), y = ix2 r q := ⟨_, _, eq_ix2 y⟩
  have e : (win0_13.blk t).view.emb (ix2 r q) = ix2 (⟨t.val * 1024 + r.val, by have := lt16 t; omega⟩ : Fin 16384) q := by
    blk_ext [idx t]
  refine Eq.trans ?_ (congrArg (fun i : S16384x128.Idx => res13 m c (i 0) (i 1)) e.symm)
  blk_simp [idx t]
  rw [after0_13]
  refine (out13 .. ).trans ((u_eq ..).trans ?_)
  refine U_congr _ _ _ _ ?_ ?_ <;> dsimp only [ix2] <;> omega

/-- The values by head. -/
def res14 (c : Dev nD) (r : Fin 16384) (q : Fin 128) : EReal :=
  U (m (c.tc.loc main_arg0)) (m (c.tc.loc main_arg1)) (m (c.tc.loc main_arg2)) (m (c.tc.loc main_arg3)) ⟨r.val / 2, by omega⟩ ⟨1280 + r.val % 2 * 128 + q.val, by omega⟩

theorem array14 (c : Dev nD) (r : Fin 16384) (q : Fin 128) : (dats m 0 c).arrAt 14 cfg0.N (ix2 r q) = res14 m c r q := by
  refine congrFun ((dats m 0 c).arrAt_eq_of_covers 14 (fun i : S16384x128.Idx => res14 m c (i 0) (i 1)) (by decide +kernel) (fun t _ y => ?_)) (ix2 r q)
  obtain ⟨r, q, rfl⟩ : ∃ (r : Fin 1024) (q : Fin 128), y = ix2 r q := ⟨_, _, eq_ix2 y⟩
  have e : (win0_14.blk t).view.emb (ix2 r q) = ix2 (⟨t.val * 1024 + r.val, by have := lt16 t; omega⟩ : Fin 16384) q := by
    blk_ext [idx t]
  refine Eq.trans ?_ (congrArg (fun i : S16384x128.Idx => res14 m c (i 0) (i 1)) e.symm)
  blk_simp [idx t]
  rw [after0_14]
  refine (out14 .. ).trans ((u_eq ..).trans ?_)
  refine U_congr _ _ _ _ ?_ ?_ <;> dsimp only [ix2] <;> omega

/-- The output weights. -/
def res15 (c : Dev nD) (r : Fin 2048) (q : Fin 2048) : EReal :=
  m (c.tc.loc main_arg4) (ix3 0 r q)

theorem array15 (c : Dev nD) (r : Fin 2048) (q : Fin 2048) : (dats m 0 c).arrAt 15 cfg0.N (ix2 r q) = res15 m c r q := by
  refine congrFun ((dats m 0 c).arrAt_eq_of_covers 15 (fun i : S2048x2048.Idx => res15 m c (i 0) (i 1)) (by decide +kernel) (fun t _ y => ?_)) (ix2 r q)
  obtain ⟨r, q, rfl⟩ : ∃ (r : Fin 128) (q : Fin 2048), y = ix2 r q := ⟨_, _, eq_ix2 y⟩
  have e : (win0_15.blk t).view.emb (ix2 r q) = ix2 (⟨t.val * 128 + r.val, by have := lt16 t; omega⟩ : Fin 2048) q := by
    blk_ext [idx t]
  refine Eq.trans ?_ (congrArg (fun i : S2048x2048.Idx => res15 m c (i 0) (i 1)) e.symm)
  blk_simp [idx t]
  rw [after0_15]
  refine (out15 .. ).trans ?_
  exact b4 ..

/-- The input weights. -/
def res16 (c : Dev nD) (r : Fin 2048) (q : Fin 2560) : EReal :=
  m (c.tc.loc main_arg3) (ix3 0 r q)

theorem array16 (c : Dev nD) (r : Fin 2048) (q : Fin 2560) : (dats m 0 c).arrAt 16 cfg0.N (ix2 r q) = res16 m c r q := by
  refine congrFun ((dats m 0 c).arrAt_eq_of_covers 16 (fun i : S2048x2560.Idx => res16 m c (i 0) (i 1)) (by decide +kernel) (fun t _ y => ?_)) (ix2 r q)
  obtain ⟨r, q, rfl⟩ : ∃ (r : Fin 128) (q : Fin 2560), y = ix2 r q := ⟨_, _, eq_ix2 y⟩
  have e : (win0_16.blk t).view.emb (ix2 r q) = ix2 (⟨t.val * 128 + r.val, by have := lt16 t; omega⟩ : Fin 2048) q := by
    blk_ext [idx t]
  refine Eq.trans ?_ (congrArg (fun i : S2048x2560.Idx => res16 m c (i 0) (i 1)) e.symm)
  blk_simp [idx t]
  rw [after0_16]
  refine (out16 .. ).trans ?_
  exact b5 ..

/-- The later modulation. -/
def res17 (c : Dev nD) (r : Fin 8) (q : Fin 8192) : EReal :=
  late (fun k => Cert.Reference2Ideal.Read.val_main_v35 (F := Ideal) (m (c.tc.loc main_arg5)) (m (c.tc.loc main_arg6)) (ix2 r k)) (fun k => m (c.tc.loc main_arg7) (ix3 0 k ⟨4096 + q.val, by omega⟩)) (m (c.tc.loc main_arg8) (ix2 0 ⟨4096 + q.val, by omega⟩))

theorem array17 (c : Dev nD) (r : Fin 8) (q : Fin 8192) : (dats m 0 c).arrAt 17 cfg0.N (ix2 r q) = res17 m c r q := by
  refine congrFun ((dats m 0 c).arrAt_eq_of_covers 17 (fun i : S8x8192.Idx => res17 m c (i 0) (i 1)) (by decide +kernel) (fun t _ y => ?_)) (ix2 r q)
  obtain ⟨r, q, rfl⟩ : ∃ (r : Fin 8) (q : Fin 512), y = ix2 r q := ⟨_, _, eq_ix2 y⟩
  have e : (win0_17.blk t).view.emb (ix2 r q) = ix2 r (⟨t.val * 512 + q.val, by have := lt16 t; omega⟩ : Fin 8192) := by
    blk_ext [idx t]
  refine Eq.trans ?_ (congrArg (fun i : S8x8192.Idx => res17 m c (i 0) (i 1)) e.symm)
  blk_simp [idx t]
  rw [after0_17]
  refine (out17 .. ).trans ?_
  simp only [b6, b7, b8]
  rfl

end Cert.Kernel2Ideal.InVal
end
-- ==== Proof.InRun.lean ====
module

public import proofs.«01_k».proof.Proof.InArr

/-! The in-projection's run with its nine result arrays named, and each array as the reference's value. -/

@[expose] public section
set_option maxRecDepth 16384
noncomputable section
namespace Cert.Kernel2Ideal.InVal
open Idealize.ShloMosaic Idealize.ShloMosaic.TcCoe Idealize.SL.Sem Cert.Kernel2Ideal Cert.Kernel2Ideal.Gen Cert.Kernel2Ideal.InProj Cert.InSpec

variable (m : (ℓ : Loc nD τ sig) → Buf (Elt Ideal) ℓ) (ρ : Dev nD → PrngReg)

/-- Every run ends with the result arrays of the grid and the arguments as launched. -/
theorem run_arrays : θ_run defs (onTc (τ := τ) (main (F := Ideal))) ⟨m, fun _ => 0, ρ⟩ fun r => ∀ c : Dev nD,
      r.2.mem ((c.tc : Thread nD τ).loc main_v11_0) = (dats m 0 c).arrAt 9 cfg0.N
      ∧ r.2.mem ((c.tc : Thread nD τ).loc main_v11_1) = (dats m 0 c).arrAt 10 cfg0.N
      ∧ r.2.mem ((c.tc : Thread nD τ).loc main_v11_2) = (dats m 0 c).arrAt 11 cfg0.N
      ∧ r.2.mem ((c.tc : Thread nD τ).loc main_v11_3) = (dats m 0 c).arrAt 12 cfg0.N
      ∧ r.2.mem ((c.tc : Thread nD τ).loc main_v11_4) = (dats m 0 c).arrAt 13 cfg0.N
      ∧ r.2.mem ((c.tc : Thread nD τ).loc main_v11_5) = (dats m 0 c).arrAt 14 cfg0.N
      ∧ r.2.mem ((c.tc : Thread nD τ).loc main_v11_6) = (dats m 0 c).arrAt 15 cfg0.N
      ∧ r.2.mem ((c.tc : Thread nD τ).loc main_v11_7) = (dats m 0 c).arrAt 16 cfg0.N
      ∧ r.2.mem ((c.tc : Thread nD τ).loc main_v11_8) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  θ_run_and (unchanged m ρ) (run_main m ρ) |> (θ_run defs _ _).mono fun r h c => ⟨(h.2 c).1 9, (h.2 c).1 10, (h.2 c).1 11, (h.2 c).1 12, (h.2 c).1 13, (h.2 c).1 14, (h.2 c).1 15, (h.2 c).1 16, (h.2 c).1 17, h.1 c⟩

theorem queries (c : Dev nD) : (dats m 0 c).arrAt 9 cfg0.N = Cert.Reference2Ideal.Read.val_main_v45 (F := Ideal) (m (c.tc.loc main_arg0)) (m (c.tc.loc main_arg1)) (m (c.tc.loc main_arg2)) (m (c.tc.loc main_arg3)) := by
  funext i
  rw [eq_ix2 i]
  exact (array9 m c (i 0) (i 1)).trans (Cert.Reference2Ideal.Read.q_apply _ _ _ _ (i 0) (i 1)).symm

theorem keys (c : Dev nD) : (dats m 0 c).arrAt 10 cfg0.N = Cert.Reference2Ideal.Read.val_main_v30 (F := Ideal) (m (c.tc.loc main_arg0)) (m (c.tc.loc main_arg1)) (m (c.tc.loc main_arg2)) (m (c.tc.loc main_arg3)) := by
  funext i
  rw [eq_ix2 i]
  exact (array10 m c (i 0) (i 1)).trans (Cert.Reference2Ideal.Read.k_apply _ _ _ _ (i 0) (i 1)).symm

theorem values (c : Dev nD) : (dats m 0 c).arrAt 11 cfg0.N = Cert.Reference2Ideal.Read.val_main_v31 (F := Ideal) (m (c.tc.loc main_arg0)) (m (c.tc.loc main_arg1)) (m (c.tc.loc main_arg2)) (m (c.tc.loc main_arg3)) := by
  funext i
  rw [eq_ix2 i]
  exact (array11 m c (i 0) (i 1)).trans (Cert.Reference2Ideal.Read.v_apply _ _ _ _ (i 0) (i 1)).symm

theorem pool (c : Dev nD) : (dats m 0 c).arrAt 12 cfg0.N = Cert.Reference2Ideal.Read.val_main_v32 (F := Ideal) (m (c.tc.loc main_arg0)) (m (c.tc.loc main_arg1)) (m (c.tc.loc main_arg2)) (m (c.tc.loc main_arg3)) := by
  funext i
  rw [eq_ix2 i]
  exact (array12 m c (i 0) (i 1)).trans (Cert.Reference2Ideal.Read.p_apply _ _ _ _ (i 0) (i 1)).symm

theorem headKeys (c : Dev nD) : (dats m 0 c).arrAt 13 cfg0.N = Cert.Reference2Ideal.Read.val_main_v46 (F := Ideal) (m (c.tc.loc main_arg0)) (m (c.tc.loc main_arg1)) (m (c.tc.loc main_arg2)) (m (c.tc.loc main_arg3)) := by
  funext i
  rw [eq_ix2 i]
  exact (array13 m c (i 0) (i 1)).trans (Cert.Reference2Ideal.Read.ks_apply _ _ _ _ (i 0) (i 1)).symm

theorem headValues (c : Dev nD) : (dats m 0 c).arrAt 14 cfg0.N = Cert.Reference2Ideal.Read.val_main_v47 (F := Ideal) (m (c.tc.loc main_arg0)) (m (c.tc.loc main_arg1)) (m (c.tc.loc main_arg2)) (m (c.tc.loc main_arg3)) := by
  funext i
  rw [eq_ix2 i]
  exact (array14 m c (i 0) (i 1)).trans (Cert.Reference2Ideal.Read.vs_apply _ _ _ _ (i 0) (i 1)).symm

theorem outWeights (c : Dev nD) : (dats m 0 c).arrAt 15 cfg0.N = Cert.Reference2Ideal.Read.val_main_v49 (F := Ideal) (m (c.tc.loc main_arg4)) := by
  funext i
  rw [eq_ix2 i]
  exact (array15 m c (i 0) (i 1)).trans (Cert.Reference2Ideal.Read.wo_apply _ (i 0) (i 1)).symm

theorem inWeights (c : Dev nD) : (dats m 0 c).arrAt 16 cfg0.N = Cert.Reference2Ideal.Read.val_main_v51 (F := Ideal) (m (c.tc.loc main_arg3)) := by
  funext i
  rw [eq_ix2 i]
  exact (array16 m c (i 0) (i 1)).trans (Cert.Reference2Ideal.Read.wi_apply _ (i 0) (i 1)).symm

theorem modulation (c : Dev nD) : (dats m 0 c).arrAt 17 cfg0.N = Cert.Reference2Ideal.Read.val_main_v42 (F := Ideal) (m (c.tc.loc main_arg5)) (m (c.tc.loc main_arg6)) (m (c.tc.loc main_arg7)) (m (c.tc.loc main_arg8)) := by
  funext i
  rw [eq_ix2 i]
  exact (array17 m c (i 0) (i 1)).trans (Cert.Reference2Ideal.Read.late_apply _ _ _ _ (i 0) (i 1)).symm

/-- The reference's late modulation, from arguments that agree with the kernel's, is the kernel's ninth array. -/
theorem late_of_agree (c : Dev nD)
    (x5 : (⟨Cert.Reference2Ideal.S2048, .f32⟩ : BufTy).Contents (Elt Ideal))
    (x6 : (⟨Cert.Reference2Ideal.S4x2048, .f32⟩ : BufTy).Contents (Elt Ideal))
    (x7 : (⟨Cert.Reference2Ideal.S1x2048x12288, .f32⟩ : BufTy).Contents (Elt Ideal))
    (x8 : (⟨Cert.Reference2Ideal.S1x12288, .f32⟩ : BufTy).Contents (Elt Ideal))
    (a5 : x5 = m (c.tc.loc main_arg5)) (a6 : x6 = m (c.tc.loc main_arg6)) (a7 : x7 = m (c.tc.loc main_arg7))
    (a8 : x8 = m (c.tc.loc main_arg8)) :
    Cert.Reference2Ideal.Read.val_main_v42 (F := Ideal) x5 x6 x7 x8 = (dats m 0 c).arrAt 17 cfg0.N := by
  subst a5 a6 a7 a8
  exact (modulation m c).symm

end Cert.Kernel2Ideal.InVal
end
-- ==== Proof.FirstRows.lean ====
module

public import proofs.«01_k».proof.Proof.Gen.Kernel3Ideal.Frame
public import proofs.«01_k».proof.Proof.Rows

/-! One point of the grid of the first feed-forward call: what it leaves in the accumulator and in the two results. The
    arithmetic of 512 rows is that of the second call, with the gate read from lane `e` in place of lane `e + 8`. -/

@[expose] public section
set_option maxRecDepth 16384
set_option maxHeartbeats 4000000
noncomputable section
namespace Cert.Kernel3Ideal.Rows
open Idealize.ShloMosaic Idealize.ShloMosaic.TcCoe Cert.Kernel3Ideal Cert.Kernel3Ideal.Gen Cert.Ffn
open Cert.KernelIdeal.Rows (xcat part partVal xrow rowOf words xw accRow yRow yPair acc_piece xw_first xw_second ld_acc y_piece)

theorem lane_iff (e : Fin 8) (l : Fin 128) :
    IntOp.cmpi .eq (BitVec.ofNat 32 l.val) (Scalar.addi (BitVec.ofNat 32 e.val) 0#32) = 1#1 ↔ l.val = e.val := by
  revert e l; decide +kernel

/-- The sum over the lanes of a row that keeps one lane is that lane. -/
theorem lane_sum (e : Fin 8) (v : Fin 128 → EReal) :
    ∑ l : Fin 128, Scalar.select (IntOp.cmpi .eq (BitVec.ofNat 32 l.val) (Scalar.addi (BitVec.ofNat 32 e.val) 0#32)) (v l) 0
      = v ⟨e.val, by omega⟩ := by
  rw [Finset.sum_eq_single (⟨e.val, by omega⟩ : Fin 128)]
  · exact if_pos ((lane_iff e _).2 rfl)
  · intro l _ hl
    exact if_neg fun h => hl (Fin.ext ((lane_iff e l).1 h))
  · exact fun h => absurd (Finset.mem_univ _) h

theorem gates_first (e : Fin 8) (v : Vec Ideal S1x1x1024x128 .i32) (s : Fin 1024) :
    k0_pay49 (BitVec.ofNat 32 e.val) v (ix2 s 0) = Ideal.ofBits .f32 (v (ix4 0 0 s ⟨e.val, by omega⟩)) := by
  pointwise [k0_pay49]
  exact lane_sum e fun l => Ideal.ofBits .f32 (v (ix4 0 0 s l))

theorem gates_second (e : Fin 8) (v : Vec Ideal S1x1x512x128 .i32) (s : Fin 512) :
    k0_pay84 (BitVec.ofNat 32 e.val) v (ix2 s 0) = Ideal.ofBits .f32 (v (ix4 0 0 s ⟨e.val, by omega⟩)) := by
  pointwise [k0_pay84]
  exact lane_sum e fun l => Ideal.ofBits .f32 (v (ix4 0 0 s l))

theorem sout_B (c : Dev nD) (i : grid0.Coords) (arg2 : Memref sig .tc .vmem S1x9x1024x128 .i32) (harg2 : arg2.IsWhole) (arg3 : Memref sig .tc .vmem S1x9x512x128 .i32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x2176x1024 .bf16) (harg7 : arg7.IsWhole) (arg8 : Memref sig .tc .vmem S1x1152x1024 .bf16) (harg8 : arg8.IsWhole) (arg9 : Memref sig .tc .vmem S1536x2048 .f32) (harg9 : arg9.IsWhole) (hc0 : ¬cond0_0 i) (hc1 : cond0_1 i) (hc2 : ¬cond0_2 i)
    (x0 : Vec Ideal S1x9x1024x128 .i32) (x1 : Vec Ideal S1x9x512x128 .i32) (x2 : Vec Ideal S1x2048x256 .f32) (x3 : Vec Ideal S1x2048x256 .f32) (x4 : Vec Ideal S1x256x2048 .f32) (xs0 : Vec Ideal S1536x2048 .f32) (r : Fin 1536) (d : Fin 2048) :
    sout0_B_0 c i arg2 harg2 arg3 harg3 arg4 harg4 arg5 harg5 arg6 harg6 arg7 harg7 arg8 harg8 arg9 harg9 hc0 hc1 hc2 x0 x1 x2 x3 x4 xs0 (ix2 r d)
      = partVal (rowOf x0 x1 r) x2 x3 x4 d + (if (i 1).val = 0 then 0 else xs0 (ix2 r d)) := by
  frame_out
  canon_tiles x h
  · obtain ⟨a, b, rfl⟩ : ∃ a b, x = ix2 a b := ⟨_, _, eq_ix2 x⟩
    rw [show d = b from Fin.ext h1]
    exact acc_piece (i 1) (xw x1 0 (by decide)) x2 x3 x4 _ _ a b _ (xw_second x0 x1 a r h0) fun _ => ld_acc xs0 1024 _ a b r b h0 rfl
  · obtain ⟨a, b, rfl⟩ : ∃ a b, x = ix2 a b := ⟨_, _, eq_ix2 x⟩
    rw [show d = b from Fin.ext h1]
    exact acc_piece (i 1) (xw x0 512 (by decide)) x2 x3 x4 _ _ a b _ (xw_first x0 x1 512 (by decide) a r h0) fun _ => ld_acc xs0 512 _ a b r b h0 rfl
  · obtain ⟨a, b, rfl⟩ : ∃ a b, x = ix2 a b := ⟨_, _, eq_ix2 x⟩
    rw [show d = b from Fin.ext h1]
    exact acc_piece (i 1) (xw x0 0 (by decide)) x2 x3 x4 _ _ a b _ (xw_first x0 x1 0 (by decide) a r (h0.trans (Nat.zero_add _).symm)) fun _ => ld_acc xs0 0 _ a b r b (h0.trans (Nat.zero_add _).symm) rfl

theorem sout_A (c : Dev nD) (i : grid0.Coords) (arg2 : Memref sig .tc .vmem S1x9x1024x128 .i32) (harg2 : arg2.IsWhole) (arg3 : Memref sig .tc .vmem S1x9x512x128 .i32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x2176x1024 .bf16) (harg7 : arg7.IsWhole) (arg8 : Memref sig .tc .vmem S1x1152x1024 .bf16) (harg8 : arg8.IsWhole) (arg9 : Memref sig .tc .vmem S1536x2048 .f32) (harg9 : arg9.IsWhole) (hc0 : cond0_0 i) (hc1 : cond0_1 i) (hc2 : ¬cond0_2 i)
    (x0 : Vec Ideal S1x9x1024x128 .i32) (x1 : Vec Ideal S1x9x512x128 .i32) (x2 : Vec Ideal S1x2048x256 .f32) (x3 : Vec Ideal S1x2048x256 .f32) (x4 : Vec Ideal S1x256x2048 .f32) (h0 : (i 1).val = 0) (r : Fin 1536) (d : Fin 2048) :
    sout0_A_0 c i arg2 harg2 arg3 harg3 arg4 harg4 arg5 harg5 arg6 harg6 arg7 harg7 arg8 harg8 arg9 harg9 hc0 hc1 hc2 x0 x1 x2 x3 x4 (ix2 r d) = partVal (rowOf x0 x1 r) x2 x3 x4 d + 0 := by
  have e : ∀ v : EReal, (if (i 1).val = 0 then 0 else v) = (0 : EReal) := fun v => if_pos h0
  rw [← e 0]
  frame_open
  simp (disch := decide) only [↓ View.readCov_skip, ↓ View.readCov_cons_toLoadRect, ↓ View.readCov_fill]
  frame_out
  refine View.canon_append_of_piecesOf (Val := Elt Ideal) (e := .f32) (fun y : S1536x2048.Idx => partVal (rowOf x0 x1 (y 0)) x2 x3 x4 (y 1) + (if (i 1).val = 0 then 0 else 0)) [_] [_, _, _]
    ⟨?_, ?_, ?_, trivial⟩ (ix2 r d) (View.cover_of_tiledBy _ ![512, 2048] (by sl_kernel_rfl) _)
  · intro x
    obtain ⟨a, b, rfl⟩ : ∃ a b, x = ix2 a b := ⟨_, _, eq_ix2 x⟩
    have e0 : (Rect.unit ![1024, 0] ![512, 2048] inb_S1536x2048_S512x2048_1024_0).emb (ix2 a b) = ix2 ⟨1024 + a.val, by omega⟩ b := by
      funext k; fin_cases k <;> apply Fin.ext <;> simp [Rect.emb, Rect.unit]
    rw [e0]
    exact acc_piece (i 1) (xw x1 0 (by decide)) x2 x3 x4 _ _ a b _ (xw_second x0 x1 a _ rfl) fun h => absurd h0 h
  · intro x
    obtain ⟨a, b, rfl⟩ : ∃ a b, x = ix2 a b := ⟨_, _, eq_ix2 x⟩
    have e0 : (Rect.unit ![512, 0] ![512, 2048] inb_S1536x2048_S512x2048_512_0).emb (ix2 a b) = ix2 ⟨512 + a.val, by omega⟩ b := by
      funext k; fin_cases k <;> apply Fin.ext <;> simp [Rect.emb, Rect.unit]
    rw [e0]
    exact acc_piece (i 1) (xw x0 512 (by decide)) x2 x3 x4 _ _ a b _ (xw_first x0 x1 512 (by decide) a _ rfl) fun h => absurd h0 h
  · intro x
    obtain ⟨a, b, rfl⟩ : ∃ a b, x = ix2 a b := ⟨_, _, eq_ix2 x⟩
    have e0 : (Rect.unit ![0, 0] ![512, 2048] inb_S1536x2048_S512x2048_0_0).emb (ix2 a b) = ix2 ⟨0 + a.val, by omega⟩ b := by
      funext k; fin_cases k <;> apply Fin.ext <;> simp [Rect.emb, Rect.unit]
    rw [e0]
    exact acc_piece (i 1) (xw x0 0 (by decide)) x2 x3 x4 _ _ a b _ (xw_first x0 x1 0 (by decide) a _ rfl) fun h => absurd h0 h

theorem gate_first (i0 : Fin 8) (x0 : Vec Ideal S1x9x1024x128 .i32) (off : ℕ) (hs : S1024x1.Slices ![off, 0] S512x1) (a : Fin 512) (r : Fin 1024) (h : r.val = off + a.val) :
    extractStridedSlice S512x1 ![off, 0] (k0_pay49 (BitVec.ofNat 32 i0.val) (View.ld x0 (Rect.unit ![0, 8, 0, 0] ![1, 1, 1024, 128] inb_S1x9x1024x128_S1x1x1024x128_0_8_0_0))) hs (ix2 a 0)
      = Ideal.ofBits .f32 (x0 (ix4 0 8 r ⟨i0.val, by omega⟩)) := by
  have e : (⟨off + a.val, by omega⟩ : Fin 1024) = r := Fin.ext h.symm
  refine Eq.trans ?_ ((gates_first i0 (View.ld x0 (Rect.unit ![0, 8, 0, 0] ![1, 1, 1024, 128] inb_S1x9x1024x128_S1x1x1024x128_0_8_0_0)) r).trans ?_)
  · rw [← e]
    pointwise
  · rw [View.ld_apply]
    congr 2
    funext k; fin_cases k <;> apply Fin.ext <;> simp [LoadRect.idx, Rect.unit]

theorem gate_second (i0 : Fin 8) (x1 : Vec Ideal S1x9x512x128 .i32) (a : Fin 512) :
    k0_pay84 (BitVec.ofNat 32 i0.val) (View.ld x1 (Rect.unit ![0, 8, 0, 0] ![1, 1, 512, 128] inb_S1x9x512x128_S1x1x512x128_0_8_0_0)) (ix2 a 0)
      = Ideal.ofBits .f32 (x1 (ix4 0 8 a ⟨i0.val, by omega⟩)) := by
  rw [gates_second, View.ld_apply]
  congr 2
  funext k; fin_cases k <;> apply Fin.ext <;> simp [LoadRect.idx, Rect.unit]

theorem out_C_5 (c : Dev nD) (i : grid0.Coords) (arg2 : Memref sig .tc .vmem S1x9x1024x128 .i32) (harg2 : arg2.IsWhole) (arg3 : Memref sig .tc .vmem S1x9x512x128 .i32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x2176x1024 .bf16) (harg7 : arg7.IsWhole) (arg8 : Memref sig .tc .vmem S1x1152x1024 .bf16) (harg8 : arg8.IsWhole) (arg9 : Memref sig .tc .vmem S1536x2048 .f32) (harg9 : arg9.IsWhole) (hc0 : ¬cond0_0 i) (hc1 : ¬cond0_1 i) (hc2 : cond0_2 i)
    (x0 : Vec Ideal S1x9x1024x128 .i32) (x1 : Vec Ideal S1x9x512x128 .i32) (x2 : Vec Ideal S1x2048x256 .f32) (x3 : Vec Ideal S1x2048x256 .f32) (x4 : Vec Ideal S1x256x2048 .f32) (xs0 : Vec Ideal S1536x2048 .f32) (q : Fin 2176) (d : Fin 1024) :
    out0_C_5 c i arg2 harg2 arg3 harg3 arg4 harg4 arg5 harg5 arg6 harg6 arg7 harg7 arg8 harg8 arg9 harg9 hc0 hc1 hc2 x0 x1 x2 x3 x4 xs0 (ix3 0 q d)
      = if h : q.val < 2048 then
          (partVal (rowOf x0 x1 ⟨q.val / 2, by omega⟩) x2 x3 x4 ⟨q.val % 2 * 1024 + d.val, by omega⟩
            + xs0 (ix2 ⟨q.val / 2, by omega⟩ ⟨q.val % 2 * 1024 + d.val, by omega⟩))
          * Ideal.ofBits .f32 (x0 (ix4 0 8 ⟨q.val / 2, by omega⟩ ⟨(i 0).val, by have := (i 0).isLt; change _ < 8 at this; omega⟩))
        else 0 := by
  frame_out
  canon_tiles x h using (View.cover_of_tiledBy _ ![1, 128, 1024] (by sl_kernel_rfl) _)
  · obtain ⟨z, a, b, rfl⟩ : ∃ z a b, x = ix3 z a b := ⟨_, _, _, eq_ix3 x⟩
    change q.val = 1024 + a.val at h1
    change d.val = b.val at h2
    rw [dif_pos (by omega)]
    change yPair (yRow (xw x0 512 (by decide)) x2 x3 x4 (View.ld xs0 (Rect.unit ![512, 0] ![512, 2048] inb_S1536x2048_S512x2048_512_0)) (extractStridedSlice S512x1 ![512, 0] (k0_pay49 (BitVec.ofNat 32 (i 0).val) (View.ld x0 (Rect.unit ![0, 8, 0, 0] ![1, 1, 1024, 128] inb_S1x9x1024x128_S1x1x1024x128_0_8_0_0))) slices_S1024x1_o512_0_S512x1)) (ix3 z a b) = _
    exact y_piece _ x2 x3 x4 _ _ _ z a b _ _ _ (by simp only; omega)
      (xw_first x0 x1 512 (by decide) _ _ (by simp only; omega))
      (ld_acc xs0 512 _ _ _ _ _ (by simp only; omega) rfl) (gate_first (i 0) x0 512 _ _ _ (by simp only; omega))
  · obtain ⟨z, a, b, rfl⟩ : ∃ z a b, x = ix3 z a b := ⟨_, _, _, eq_ix3 x⟩
    change q.val = a.val at h1
    change d.val = b.val at h2
    rw [dif_pos (by omega)]
    change yPair (yRow (xw x0 0 (by decide)) x2 x3 x4 (View.ld xs0 (Rect.unit ![0, 0] ![512, 2048] inb_S1536x2048_S512x2048_0_0)) (extractStridedSlice S512x1 ![0, 0] (k0_pay49 (BitVec.ofNat 32 (i 0).val) (View.ld x0 (Rect.unit ![0, 8, 0, 0] ![1, 1, 1024, 128] inb_S1x9x1024x128_S1x1x1024x128_0_8_0_0))) slices_S1024x1_o0_0_S512x1)) (ix3 z a b) = _
    exact y_piece _ x2 x3 x4 _ _ _ z a b _ _ _ (by simp only; omega)
      (xw_first x0 x1 0 (by decide) _ _ (by simp only; omega))
      (ld_acc xs0 0 _ _ _ _ _ (by simp only; omega) rfl) (gate_first (i 0) x0 0 _ _ _ (by simp only; omega))
  · obtain ⟨z, a, b, rfl⟩ : ∃ z a b, x = ix3 z a b := ⟨_, _, _, eq_ix3 x⟩
    change q.val = 2048 + a.val at h1
    rw [dif_neg (by omega)]
    pointwise [k0_pay50, k0_pay85]

theorem out_C_6 (c : Dev nD) (i : grid0.Coords) (arg2 : Memref sig .tc .vmem S1x9x1024x128 .i32) (harg2 : arg2.IsWhole) (arg3 : Memref sig .tc .vmem S1x9x512x128 .i32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x2176x1024 .bf16) (harg7 : arg7.IsWhole) (arg8 : Memref sig .tc .vmem S1x1152x1024 .bf16) (harg8 : arg8.IsWhole) (arg9 : Memref sig .tc .vmem S1536x2048 .f32) (harg9 : arg9.IsWhole) (hc0 : ¬cond0_0 i) (hc1 : ¬cond0_1 i) (hc2 : cond0_2 i)
    (x0 : Vec Ideal S1x9x1024x128 .i32) (x1 : Vec Ideal S1x9x512x128 .i32) (x2 : Vec Ideal S1x2048x256 .f32) (x3 : Vec Ideal S1x2048x256 .f32) (x4 : Vec Ideal S1x256x2048 .f32) (xs0 : Vec Ideal S1536x2048 .f32) (q : Fin 1152) (d : Fin 1024) :
    out0_C_6 c i arg2 harg2 arg3 harg3 arg4 harg4 arg5 harg5 arg6 harg6 arg7 harg7 arg8 harg8 arg9 harg9 hc0 hc1 hc2 x0 x1 x2 x3 x4 xs0 (ix3 0 q d)
      = if h : q.val < 1024 then
          (partVal (rowOf x0 x1 ⟨1024 + q.val / 2, by omega⟩) x2 x3 x4 ⟨q.val % 2 * 1024 + d.val, by omega⟩
            + xs0 (ix2 ⟨1024 + q.val / 2, by omega⟩ ⟨q.val % 2 * 1024 + d.val, by omega⟩))
          * Ideal.ofBits .f32 (x1 (ix4 0 8 ⟨q.val / 2, by omega⟩ ⟨(i 0).val, by have := (i 0).isLt; change _ < 8 at this; omega⟩))
        else 0 := by
  frame_out
  canon_tiles x h using (View.cover_of_tiledBy _ ![1, 128, 1024] (by sl_kernel_rfl) _)
  · obtain ⟨z, a, b, rfl⟩ : ∃ z a b, x = ix3 z a b := ⟨_, _, _, eq_ix3 x⟩
    change q.val = a.val at h1
    change d.val = b.val at h2
    rw [dif_pos (by omega)]
    change yPair (yRow (xw x1 0 (by decide)) x2 x3 x4 (View.ld xs0 (Rect.unit ![1024, 0] ![512, 2048] inb_S1536x2048_S512x2048_1024_0)) (k0_pay84 (BitVec.ofNat 32 (i 0).val) (View.ld x1 (Rect.unit ![0, 8, 0, 0] ![1, 1, 512, 128] inb_S1x9x512x128_S1x1x512x128_0_8_0_0)))) (ix3 z a b) = _
    exact y_piece _ x2 x3 x4 _ _ _ z a b _ _ _ (by simp only; omega)
      (xw_second x0 x1 _ _ (by simp only; omega))
      (ld_acc xs0 1024 _ _ _ _ _ (by simp only; omega) rfl) ((gate_second (i 0) x1 _).trans (by congr 3; apply Fin.ext; simp only; omega))
  · obtain ⟨z, a, b, rfl⟩ : ∃ z a b, x = ix3 z a b := ⟨_, _, _, eq_ix3 x⟩
    change q.val = 1024 + a.val at h1
    rw [dif_neg (by omega)]
    pointwise [k0_pay50, k0_pay85]

end Cert.Kernel3Ideal.Rows
end
-- ==== Proof.FirstGrid.lean ====
module

public import proofs.«01_k».proof.Proof.FirstRows
public import proofs.«01_k».proof.Proof.Grid

/-! The grid of the first feed-forward call as a whole: the accumulator over an expert's four blocks of hidden units, and the two result
    arrays after the run, in terms of the arguments. -/

@[expose] public section
set_option maxRecDepth 16384
set_option maxHeartbeats 4000000
noncomputable section
namespace Cert.Kernel3Ideal.Grid
open Idealize.ShloMosaic Idealize.ShloMosaic.TcCoe Cert.Kernel3Ideal Cert.Kernel3Ideal.Gen Cert.Kernel3Ideal.Rows Cert.Ffn
open Cert.KernelIdeal.Rows (partVal xrow rowOf)
open Cert.KernelIdeal.Grid (arow)

variable (m : (ℓ : Loc nD τ sig) → Buf (Elt Ideal) ℓ)

theorem idx : ∀ t : Fin cfg0.N, win0_0.index t = ![t.val / 4, 0, 0, 0] ∧ win0_1.index t = ![t.val / 4, 0, 0, 0]
    ∧ win0_2.index t = ![t.val / 4, 0, t.val % 4] ∧ win0_3.index t = ![t.val / 4, 0, t.val % 4]
    ∧ win0_4.index t = ![t.val / 4, t.val % 4, 0] ∧ win0_5.index t = ![t.val / 4, 0, 0]
    ∧ win0_6.index t = ![t.val / 4, 0, 0] := by decide +kernel

theorem coords : ∀ t : Fin cfg0.N, (grid0.coords t 0).val = t.val / 4 ∧ (grid0.coords t 1).val = t.val % 4 := by decide +kernel

/-- What point `t` adds to row `r`, column `d` of the accumulator. -/
def pt (c : Dev nD) (t : Fin cfg0.N) (r : Fin 1536) (d : Fin 2048) : EReal :=
  partVal (rowOf (iblk m c 0 t) (iblk m c 1 t) r) (iblk m c 2 t) (iblk m c 3 t) (iblk m c 4 t) d

/-- The accumulator after point `t`. -/
def sc (c : Dev nD) (t : ℕ) (h : t < cfg0.N) (r : Fin 1536) (d : Fin 2048) : EReal := (outsAt0 m c t h).2.2 (ix2 r d)

theorem sc_first (c : Dev nD) (t : ℕ) (h : t < cfg0.N) (h0 : t % 4 = 0) (r : Fin 1536) (d : Fin 2048) :
    sc m c t h r d = pt m c ⟨t, h⟩ r d + 0 := by
  by_cases h3 : t % 32 = 0
  · unfold sc
    rw [outsAt0_A m c ⟨t, h⟩ h3 (by change t % 4 ≤ 2; omega) (by change ¬ t % 4 = 3; omega)]
    dsimp only
    rw [sout_A (h0 := (coords ⟨t, h⟩).2.trans h0)]
    rfl
  · unfold sc
    rw [outsAt0_B m c ⟨t, h⟩ h3 (by change t % 4 ≤ 2; omega) (by change ¬ t % 4 = 3; omega)]
    dsimp only
    rw [sout_B, if_pos ((coords ⟨t, h⟩).2.trans h0)]
    rfl

theorem sc_next (c : Dev nD) (t : ℕ) (h : t + 1 < cfg0.N) (h0 : (t + 1) % 4 ≠ 0) (h1 : (t + 1) % 4 ≤ 2) (r : Fin 1536) (d : Fin 2048) :
    sc m c (t + 1) h r d = pt m c ⟨t + 1, h⟩ r d + sc m c t (Nat.lt_of_succ_lt h) r d := by
  unfold sc
  rw [outsAt0_B m c ⟨t + 1, h⟩ (by change ¬ (t + 1) % 32 = 0; omega) h1 (by change ¬ (t + 1) % 4 = 3; omega)]
  dsimp only
  rw [sout_B, if_neg (by rw [(coords ⟨t + 1, h⟩).2]; exact h0)]
  rfl

theorem lt8 (t : Fin cfg0.N) : t.val / 4 < 8 := by
  have h : t.val < 32 := t.isLt
  omega

theorem row0 (c : Dev nD) (t : Fin cfg0.N) (s : Fin 1024) (k : Fin 2048) :
    xrow (iblk m c 0 t) s k = row (m (c.tc.loc main_arg0)) ⟨t.val / 4, lt8 t⟩ s k := by
  unfold xrow row
  congr 1
  blk_ext [iblk, V, idx t]

theorem row1 (c : Dev nD) (t : Fin cfg0.N) (s : Fin 512) (k : Fin 2048) :
    xrow (iblk m c 1 t) s k = row (m (c.tc.loc main_arg1)) ⟨t.val / 4, lt8 t⟩ s k := by
  unfold xrow row
  congr 1
  blk_ext [iblk, V, idx t]

theorem rows (c : Dev nD) (t : Fin cfg0.N) (r : Fin 1536) :
    rowOf (iblk m c 0 t) (iblk m c 1 t) r = arow (m (c.tc.loc main_arg0)) (m (c.tc.loc main_arg1)) ⟨t.val / 4, lt8 t⟩ r := by
  unfold rowOf arow
  split
  · exact funext (row0 m c t _)
  · exact funext (row1 m c t _)

theorem cast_cols (w : Vec Ideal S1x16x2048x1024 .f32) (e : Fin 16) (k : Fin 2048) (f : Fin 1024) :
    shapeCast S16x2048x1024 w shapeCasts_S1x16x2048x1024_S16x2048x1024 (ix3 e k f) = w (ix4 0 e k f) := by
  pointwise

theorem cast_rows (w : Vec Ideal S1x16x1024x2048 .f32) (e : Fin 16) (f : Fin 1024) (d : Fin 2048) :
    shapeCast S16x1024x2048 w shapeCasts_S1x16x1024x2048_S16x1024x2048 (ix3 e f d) = w (ix4 0 e f d) := by
  pointwise

theorem entry0 (c : Dev nD) : V m c main_v0 = shapeCast S16x2048x1024 (m (c.tc.loc main_arg2)) shapeCasts_S1x16x2048x1024_S16x2048x1024 := by
  show StableHlo.after hostOps0 (fun b => m (c, b)) (Proc.devRef .tc main_v0) = _
  after_results
  try rfl

theorem entry1 (c : Dev nD) : V m c main_v1 = shapeCast S16x2048x1024 (m (c.tc.loc main_arg3)) shapeCasts_S1x16x2048x1024_S16x2048x1024 := by
  show StableHlo.after hostOps0 (fun b => m (c, b)) (Proc.devRef .tc main_v1) = _
  after_results
  try rfl

theorem entry2 (c : Dev nD) : V m c main_v2 = shapeCast S16x1024x2048 (m (c.tc.loc main_arg4)) shapeCasts_S1x16x1024x2048_S16x1024x2048 := by
  show StableHlo.after hostOps0 (fun b => m (c, b)) (Proc.devRef .tc main_v2) = _
  after_results
  try rfl

theorem gate (c : Dev nD) (t : Fin cfg0.N) (k : Fin 2048) (f : Fin 256) :
    iblk m c 2 t (ix3 0 k f) = m (c.tc.loc main_arg2) (ix4 0 ⟨t.val / 4, by have := lt8 t; omega⟩ k ⟨t.val % 4 * 256 + f.val, by omega⟩) := by
  change V m c main_v0 ((win0_2.blk t).view.emb (ix3 0 k f)) = _
  rw [entry0, show (win0_2.blk t).view.emb (ix3 0 k f) = ix3 (⟨t.val / 4, by have := lt8 t; omega⟩ : Fin 16) k ⟨t.val % 4 * 256 + f.val, by omega⟩ from by blk_ext [idx t]]
  exact cast_cols ..

theorem up (c : Dev nD) (t : Fin cfg0.N) (k : Fin 2048) (f : Fin 256) :
    iblk m c 3 t (ix3 0 k f) = m (c.tc.loc main_arg3) (ix4 0 ⟨t.val / 4, by have := lt8 t; omega⟩ k ⟨t.val % 4 * 256 + f.val, by omega⟩) := by
  change V m c main_v1 ((win0_3.blk t).view.emb (ix3 0 k f)) = _
  rw [entry1, show (win0_3.blk t).view.emb (ix3 0 k f) = ix3 (⟨t.val / 4, by have := lt8 t; omega⟩ : Fin 16) k ⟨t.val % 4 * 256 + f.val, by omega⟩ from by blk_ext [idx t]]
  exact cast_cols ..

theorem down (c : Dev nD) (t : Fin cfg0.N) (f : Fin 256) (d : Fin 2048) :
    iblk m c 4 t (ix3 0 f d) = m (c.tc.loc main_arg4) (ix4 0 ⟨t.val / 4, by have := lt8 t; omega⟩ ⟨t.val % 4 * 256 + f.val, by omega⟩ d) := by
  change V m c main_v2 ((win0_4.blk t).view.emb (ix3 0 f d)) = _
  rw [entry2, show (win0_4.blk t).view.emb (ix3 0 f d) = ix3 (⟨t.val / 4, by have := lt8 t; omega⟩ : Fin 16) ⟨t.val % 4 * 256 + f.val, by omega⟩ d from by blk_ext [idx t]]
  exact cast_rows ..

theorem pt_eq (c : Dev nD) (t : Fin cfg0.N) (r : Fin 1536) (d : Fin 2048) :
    pt m c t r d = ffnBlock (arow (m (c.tc.loc main_arg0)) (m (c.tc.loc main_arg1)) ⟨t.val / 4, lt8 t⟩ r)
      (m (c.tc.loc main_arg2)) (m (c.tc.loc main_arg3)) (m (c.tc.loc main_arg4)) (⟨t.val / 4, by have := lt8 t; omega⟩ : Fin 16) d
      ⟨t.val % 4, by omega⟩ := by
  unfold pt partVal ffnBlock hid
  rw [rows]
  simp only [gate, up, down]

/-- Expert `e` on accumulator row `r` of its group, from the arguments. -/
def whole (c : Dev nD) (e : Fin 8) (r : Fin 1536) (d : Fin 2048) : EReal :=
  ffn (arow (m (c.tc.loc main_arg0)) (m (c.tc.loc main_arg1)) e r)
    (m (c.tc.loc main_arg2)) (m (c.tc.loc main_arg3)) (m (c.tc.loc main_arg4)) (⟨e.val, by omega⟩ : Fin 16) d

theorem last (c : Dev nD) (t : Fin cfg0.N) (h3 : t.val % 4 = 3) (r : Fin 1536) (d : Fin 2048) :
    pt m c t r d + sc m c (t.val - 1) (Nat.lt_of_le_of_lt (Nat.sub_le _ _) t.isLt) r d = whole m c ⟨t.val / 4, lt8 t⟩ r d := by
  have hN : cfg0.N = 32 := N_0
  obtain ⟨e, he⟩ : ∃ e, t.val / 4 = e := ⟨_, rfl⟩
  obtain ⟨n, hn⟩ := t
  change n % 4 = 3 at h3
  change n / 4 = e at he
  obtain rfl : n = 4 * e + 3 := by omega
  change pt m c ⟨4 * e + 3, hn⟩ r d + sc m c (4 * e + 1 + 1) _ r d = _
  rw [sc_next m c (4 * e + 1) _ (by omega) (by omega), sc_next m c (4 * e) _ (by omega) (by omega), sc_first m c (4 * e) _ (by omega)]
  simp only [pt_eq, whole, show (4 * e + 3) / 4 = e by omega, show (4 * e + 1 + 1) / 4 = e by omega, show (4 * e + 1) / 4 = e by omega,
    show 4 * e / 4 = e by omega, show (4 * e + 3) % 4 = 3 by omega, show (4 * e + 1 + 1) % 4 = 2 by omega,
    show (4 * e + 1) % 4 = 1 by omega, show 4 * e % 4 = 0 by omega]
  exact ffn_blocks ..

theorem gate0 (c : Dev nD) (t : Fin cfg0.N) (s : Fin 1024) (l : Fin 128) :
    iblk m c 0 t (ix4 0 8 s l) = m (c.tc.loc main_arg0) (ix4 (⟨t.val / 4, lt8 t⟩ : Fin 8) 8 s l) := by
  blk_ext [iblk, V, idx t]

theorem gate1 (c : Dev nD) (t : Fin cfg0.N) (s : Fin 512) (l : Fin 128) :
    iblk m c 1 t (ix4 0 8 s l) = m (c.tc.loc main_arg1) (ix4 (⟨t.val / 4, lt8 t⟩ : Fin 8) 8 s l) := by
  blk_ext [iblk, V, idx t]

theorem point5 (c : Dev nD) (t : Fin cfg0.N) (h3 : t.val % 4 = 3) (q : Fin 2176) (d : Fin 1024) :
    (outsAt0 m c t.val t.isLt).1 (ix3 0 q d) = out (m (c.tc.loc main_arg0)) (m (c.tc.loc main_arg2)) (m (c.tc.loc main_arg3))
      (m (c.tc.loc main_arg4)) (⟨t.val / 4, lt8 t⟩ : Fin 8) ⟨t.val / 4, by have := lt8 t; omega⟩ q.val d := by
  rw [outsAt0_C m c t (by omega) (by omega) h3]
  dsimp only
  rw [out_C_5]
  unfold out
  refine dite_congr rfl (fun h => ?_) (fun _ => rfl)
  have e := last m c t h3 ⟨q.val / 2, by omega⟩ ⟨q.val % 2 * 1024 + d.val, by omega⟩
  refine congr (congrArg _ (e.trans ?_)) ?_
  · unfold whole arow
    rw [dif_pos (show q.val / 2 < 1024 by omega)]
  · rw [gate0]
    simp only [coords t]

theorem point6 (c : Dev nD) (t : Fin cfg0.N) (h3 : t.val % 4 = 3) (q : Fin 1152) (d : Fin 1024) :
    (outsAt0 m c t.val t.isLt).2.1 (ix3 0 q d) = out (m (c.tc.loc main_arg1)) (m (c.tc.loc main_arg2)) (m (c.tc.loc main_arg3))
      (m (c.tc.loc main_arg4)) (⟨t.val / 4, lt8 t⟩ : Fin 8) ⟨t.val / 4, by have := lt8 t; omega⟩ q.val d := by
  rw [outsAt0_C m c t (by omega) (by omega) h3]
  dsimp only
  rw [out_C_6]
  unfold out
  refine dite_congr rfl (fun h => ?_) (fun _ => rfl)
  have e := last m c t h3 ⟨1024 + q.val / 2, by omega⟩ ⟨q.val % 2 * 1024 + d.val, by omega⟩
  refine congr (congrArg _ (e.trans ?_)) ?_
  · unfold whole arow
    rw [dif_neg (show ¬ 1024 + q.val / 2 < 1024 by omega)]
    simp only [Nat.add_sub_cancel_left]
  · rw [gate1]
    simp only [coords t]

/-- What the array holds at an expert: of the first eight, its result; of the others nothing is said. -/
def val5 (c : Dev nD) (i : S16x2176x1024.Idx) : EReal :=
  if h : (i 0).val < 8 then out (m (c.tc.loc main_arg0)) (m (c.tc.loc main_arg2)) (m (c.tc.loc main_arg3)) (m (c.tc.loc main_arg4)) ⟨(i 0).val, h⟩ (i 0) (i 1).val (i 2)
  else (dats m 0 c).arrAt 5 cfg0.N i

theorem array5 (c : Dev nD) (E : Fin 16) (hE : E.val < 8) (q : Fin 2176) (d : Fin 1024) : (dats m 0 c).arrAt 5 cfg0.N (ix3 E q d) =
    out (m (c.tc.loc main_arg0)) (m (c.tc.loc main_arg2)) (m (c.tc.loc main_arg3)) (m (c.tc.loc main_arg4)) (⟨E.val, hE⟩ : Fin 8) E q.val d := by
  rw [(dats m 0 c).arrAt_eq_of_coversWhere 5 (val5 m c)
      (P := fun i : S16x2176x1024.Idx => (i 0).val < 8) (fun β => β 0 < 8) (by decide +kernel) (fun t hf y => ?_)
      (fun j => by blk_simp [Pipeline.Window.cell_apply]; omega)]
  · dsimp only
    rw [if_pos (show (ix3 E q d 0).val < 8 from hE), val5]
    exact dif_pos hE
  · obtain ⟨z, q, d, rfl⟩ : ∃ (z : Fin 1) (q : Fin 2176) (d : Fin 1024), y = ix3 z q d := ⟨_, _, _, eq_ix3 y⟩
    obtain rfl : z = 0 := Subsingleton.elim _ _
    have e : (win0_5.blk t).view.emb (ix3 0 q d) = ix3 (⟨t.val / 4, by have := lt8 t; omega⟩ : Fin 16) q d := by
      blk_ext [idx t]
    refine Eq.trans ?_ (congrArg (val5 m c) e.symm)
    blk_simp [idx t]
    rw [after0_5]
    refine (point5 m c t ((flush0_5 t).mp hf) q d).trans ?_
    show _ = val5 m c (ix3 (⟨t.val / 4, _⟩ : Fin 16) q d)
    rw [val5]
    split
    · rfl
    · rename_i h
      exact absurd (lt8 t) h

/-- What the array holds at an expert: of the first eight, its result; of the others nothing is said. -/
def val6 (c : Dev nD) (i : S16x1152x1024.Idx) : EReal :=
  if h : (i 0).val < 8 then out (m (c.tc.loc main_arg1)) (m (c.tc.loc main_arg2)) (m (c.tc.loc main_arg3)) (m (c.tc.loc main_arg4)) ⟨(i 0).val, h⟩ (i 0) (i 1).val (i 2)
  else (dats m 0 c).arrAt 6 cfg0.N i

theorem array6 (c : Dev nD) (E : Fin 16) (hE : E.val < 8) (q : Fin 1152) (d : Fin 1024) : (dats m 0 c).arrAt 6 cfg0.N (ix3 E q d) =
    out (m (c.tc.loc main_arg1)) (m (c.tc.loc main_arg2)) (m (c.tc.loc main_arg3)) (m (c.tc.loc main_arg4)) (⟨E.val, hE⟩ : Fin 8) E q.val d := by
  rw [(dats m 0 c).arrAt_eq_of_coversWhere 6 (val6 m c)
      (P := fun i : S16x1152x1024.Idx => (i 0).val < 8) (fun β => β 0 < 8) (by decide +kernel) (fun t hf y => ?_)
      (fun j => by blk_simp [Pipeline.Window.cell_apply]; omega)]
  · dsimp only
    rw [if_pos (show (ix3 E q d 0).val < 8 from hE), val6]
    exact dif_pos hE
  · obtain ⟨z, q, d, rfl⟩ : ∃ (z : Fin 1) (q : Fin 1152) (d : Fin 1024), y = ix3 z q d := ⟨_, _, _, eq_ix3 y⟩
    obtain rfl : z = 0 := Subsingleton.elim _ _
    have e : (win0_6.blk t).view.emb (ix3 0 q d) = ix3 (⟨t.val / 4, by have := lt8 t; omega⟩ : Fin 16) q d := by
      blk_ext [idx t]
    refine Eq.trans ?_ (congrArg (val6 m c) e.symm)
    blk_simp [idx t]
    rw [after0_6]
    refine (point6 m c t ((flush0_6 t).mp hf) q d).trans ?_
    show _ = val6 m c (ix3 (⟨t.val / 4, _⟩ : Fin 16) q d)
    rw [val6]
    split
    · rfl
    · rename_i h
      exact absurd (lt8 t) h

end Cert.Kernel3Ideal.Grid
end
-- ==== Proof.FirstRun.lean ====
module

public import proofs.«01_k».proof.Proof.FirstGrid
public import Idealize.ShloMosaic.Lib.Claim

/-! The first feed-forward call's run with its two results named: the first eight experts of the two arrays of the grid. -/

@[expose] public section
set_option maxRecDepth 16384
noncomputable section
namespace Cert.Kernel3Ideal.First
open Idealize.ShloMosaic Idealize.ShloMosaic.TcCoe Idealize.SL.Sem Cert.Kernel3Ideal Cert.Kernel3Ideal.Gen Cert.Ffn

variable (m : (ℓ : Loc nD τ sig) → Buf (Elt Ideal) ℓ) (ρ : Dev nD → PrngReg)

/-- The first eight experts of the first array. -/
def first (c : Dev nD) : (⟨S8x2176x1024, .bf16⟩ : BufTy).Contents (Elt Ideal) :=
  extractStridedSlice S8x2176x1024 ![0, 0, 0] ((dats m 0 c).arrAt 5 cfg0.N : (⟨S16x2176x1024, .bf16⟩ : BufTy).Contents (Elt Ideal)) slices_S16x2176x1024_S8x2176x1024_0_0_0

/-- The first eight experts of the second array. -/
def second (c : Dev nD) : (⟨S8x1152x1024, .bf16⟩ : BufTy).Contents (Elt Ideal) :=
  extractStridedSlice S8x1152x1024 ![0, 0, 0] ((dats m 0 c).arrAt 6 cfg0.N : (⟨S16x1152x1024, .bf16⟩ : BufTy).Contents (Elt Ideal)) slices_S16x1152x1024_S8x1152x1024_0_0_0

theorem tail_first (c : Dev nD) : Pipeline.afterTail₀ cfgs (dats m) 0 (V0 m) [hostOps1] c main_v4 = first m c := by
  unfold Pipeline.afterTail₀ first
  show StableHlo.after hostOps1 _ (Proc.devRef .tc main_v4) = _
  after_region_results
  exact congrArg (fun v : (⟨S16x2176x1024, .bf16⟩ : BufTy).Contents (Elt Ideal) => extractStridedSlice S8x2176x1024 ![0, 0, 0] v slices_S16x2176x1024_S8x2176x1024_0_0_0)
    (Pipeline.withArrays_arr (cfgs 0).spec launch0.win.arr_inj c (V0 m c) (fun w => (dats m 0 c).arrAt w (cfgs 0).N) 5)

theorem tail_second (c : Dev nD) : Pipeline.afterTail₀ cfgs (dats m) 0 (V0 m) [hostOps1] c main_v5 = second m c := by
  unfold Pipeline.afterTail₀ second
  show StableHlo.after hostOps1 _ (Proc.devRef .tc main_v5) = _
  after_region_results
  exact congrArg (fun v : (⟨S16x1152x1024, .bf16⟩ : BufTy).Contents (Elt Ideal) => extractStridedSlice S8x1152x1024 ![0, 0, 0] v slices_S16x1152x1024_S8x1152x1024_0_0_0)
    (Pipeline.withArrays_arr (cfgs 0).spec launch0.win.arr_inj c (V0 m c) (fun w => (dats m 0 c).arrAt w (cfgs 0).N) 6)

/-- Every run ends with the two results and with the arguments as launched. -/
theorem run_first : θ_run defs (onTc (τ := τ) (main (F := Ideal))) ⟨m, fun _ => 0, ρ⟩ fun r => ∀ c : Dev nD,
      r.2.mem ((c.tc : Thread nD τ).loc main_v4) = first m c
      ∧ r.2.mem ((c.tc : Thread nD τ).loc main_v5) = second m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_and (unchanged m ρ) (run_main m ρ) |> (θ_run defs _ _).mono fun r h c =>
    ⟨((h.2 c).2 main_v4 (Pipeline.mem_restRefs_of main_v4 (by decide) (by decide))).trans (tail_first m c),
     ((h.2 c).2 main_v5 (Pipeline.mem_restRefs_of main_v5 (by decide) (by decide))).trans (tail_second m c), h.1 c⟩

theorem first_apply (c : Dev nD) (e : Fin 8) (q : Fin 2176) (d : Fin 1024) : first m c (ix3 e q d) =
    out (m (c.tc.loc main_arg0)) (m (c.tc.loc main_arg2)) (m (c.tc.loc main_arg3)) (m (c.tc.loc main_arg4)) e (⟨e.val, by omega⟩ : Fin 16) q.val d := by
  refine Eq.trans ?_ (Grid.array5 m c ⟨e.val, by omega⟩ e.isLt q d)
  pointwise [first]

theorem second_apply (c : Dev nD) (e : Fin 8) (q : Fin 1152) (d : Fin 1024) : second m c (ix3 e q d) =
    out (m (c.tc.loc main_arg1)) (m (c.tc.loc main_arg2)) (m (c.tc.loc main_arg3)) (m (c.tc.loc main_arg4)) e (⟨e.val, by omega⟩ : Fin 16) q.val d := by
  refine Eq.trans ?_ (Grid.array6 m c ⟨e.val, by omega⟩ e.isLt q d)
  pointwise [second]

end Cert.Kernel3Ideal.First
end
-- ==== Proof.FirstRead.lean ====
module

public import proofs.«01_k».proof.Proof.Gen.Reference3Ideal.Read
public import proofs.«01_k».proof.Proof.RefRead

/-! The reference of the first feed-forward call read one element at a time. Its unpacking of the rows is the second call's. -/

@[expose] public section
set_option maxRecDepth 16384
noncomputable section
namespace Cert.Reference3Ideal.Read
open Idealize.ShloMosaic Idealize.ShloMosaic.TcCoe Cert.Reference3Ideal Cert.Ffn

theorem gateW_apply (w : Vec Ideal S1x16x2048x1024 .f32) (e : Fin 8) (k : Fin 2048) (f : Fin 1024) :
    val_main_v34 (F := Ideal) w (ix3 e k f) = w (ix4 0 ⟨e.val, by omega⟩ k f) := by
  rw [val_main_v34_apply, val_main_v33_apply]
  refine congrArg w (funext fun a => ?_)
  fin_cases a <;> apply Fin.ext <;> simp [idx_main_v34, idx_main_v33] <;> omega

theorem upW_apply (w : Vec Ideal S1x16x2048x1024 .f32) (e : Fin 8) (k : Fin 2048) (f : Fin 1024) :
    val_main_v36 (F := Ideal) w (ix3 e k f) = w (ix4 0 ⟨e.val, by omega⟩ k f) := gateW_apply w e k f

theorem downW_apply (w : Vec Ideal S1x16x1024x2048 .f32) (e : Fin 8) (f : Fin 1024) (d : Fin 2048) :
    val_main_v38 (F := Ideal) w (ix3 e f d) = w (ix4 0 ⟨e.val, by omega⟩ f d) := by
  rw [val_main_v38_apply, val_main_v37_apply]
  refine congrArg w (funext fun a => ?_)
  fin_cases a <;> apply Fin.ext <;> simp [idx_main_v38, idx_main_v37] <;> omega

theorem gateW1_apply (w : Vec Ideal S1x16x2048x1024 .f32) (e : Fin 8) (k : Fin 2048) (f : Fin 1024) :
    val_main_v86 (F := Ideal) w (ix3 e k f) = w (ix4 0 ⟨e.val, by omega⟩ k f) := gateW_apply w e k f

theorem upW1_apply (w : Vec Ideal S1x16x2048x1024 .f32) (e : Fin 8) (k : Fin 2048) (f : Fin 1024) :
    val_main_v88 (F := Ideal) w (ix3 e k f) = w (ix4 0 ⟨e.val, by omega⟩ k f) := gateW_apply w e k f

theorem downW1_apply (w : Vec Ideal S1x16x1024x2048 .f32) (e : Fin 8) (f : Fin 1024) (d : Fin 2048) :
    val_main_v90 (F := Ideal) w (ix3 e f d) = w (ix4 0 ⟨e.val, by omega⟩ f d) := downW_apply w e f d

theorem row0_apply (x : Vec Ideal S8x9x1024x128 .i32) (e : Fin 8) (s : Fin 1024) (k : Fin 2048) :
    val_main_v4 (F := Ideal) x (ix3 e s k) = row x e s k := Cert.ReferenceIdeal.Read.row0_apply x e s k

theorem gate0_apply (x : Vec Ideal S8x9x1024x128 .i32) (e : Fin 8) (s : Fin 1024) :
    val_main_v32 (F := Ideal) x (ix2 e s) = Ideal.ofBits .f32 (x (ix4 e 8 s ⟨e.val, by omega⟩)) := by
  pointwise [val_main_v32]
  fin_cases e
  · pointwise [val_main_v24, val_main_v9, val_main_v8, val_main_v7, val_main_v6, val_main_v5]
  · pointwise [val_main_v25, val_main_v11, val_main_v10, val_main_v7, val_main_v6, val_main_v5]
  · pointwise [val_main_v26, val_main_v13, val_main_v12, val_main_v7, val_main_v6, val_main_v5]
  · pointwise [val_main_v27, val_main_v15, val_main_v14, val_main_v7, val_main_v6, val_main_v5]
  · pointwise [val_main_v28, val_main_v17, val_main_v16, val_main_v7, val_main_v6, val_main_v5]
  · pointwise [val_main_v29, val_main_v19, val_main_v18, val_main_v7, val_main_v6, val_main_v5]
  · pointwise [val_main_v30, val_main_v21, val_main_v20, val_main_v7, val_main_v6, val_main_v5]
  · pointwise [val_main_v31, val_main_v23, val_main_v22, val_main_v7, val_main_v6, val_main_v5]

theorem prod0_apply (x : Vec Ideal S8x9x1024x128 .i32) (x2 x3 : Vec Ideal S1x16x2048x1024 .f32) (x4 : Vec Ideal S1x16x1024x2048 .f32) (e : Fin 8) (s : Fin 1024) (d : Fin 2048) :
    val_main_v43 (F := Ideal) x x2 x3 x4 (ix3 e s d) = ffn (row x e s) x2 x3 x4 (⟨e.val, by omega⟩ : Fin 16) d := by
  pointwise [val_main_v43, val_main_v42, val_main_v41, val_main_v40, val_main_call0_v5, val_main_call0_v4, val_main_call0_v3, val_main_call0_v2, val_main_call0_v1, val_main_call0_v0, val_main_call0_cst, val_main_call0_cst_0, val_main_v39]
  simp only [row0_apply, gateW_apply, upW_apply, downW_apply]
  pointwise [ffn, hid, Ideal.logistic]

theorem halfRow0_apply (x : Vec Ideal S8x9x1024x128 .i32) (x2 x3 : Vec Ideal S1x16x2048x1024 .f32) (x4 : Vec Ideal S1x16x1024x2048 .f32) (e : Fin 8) (q : Fin 2048) (d : Fin 1024) :
    val_main_v48 (F := Ideal) x x2 x3 x4 (ix3 e q d) = val_main_v46 (F := Ideal) x x2 x3 x4 (ix3 e ⟨q.val / 2, by omega⟩ ⟨q.val % 2 * 1024 + d.val, by omega⟩) := by
  rw [val_main_v48_apply, val_main_v47_apply]
  refine congrArg _ (funext fun a => ?_)
  fin_cases a <;> apply Fin.ext <;> simp [idx_main_v48, idx_main_v47] <;> omega

theorem rows0_apply (x : Vec Ideal S8x9x1024x128 .i32) (x2 x3 : Vec Ideal S1x16x2048x1024 .f32) (x4 : Vec Ideal S1x16x1024x2048 .f32) (e : Fin 8) (q : Fin 2048) (d : Fin 1024) :
    val_main_v49 (F := Ideal) x x2 x3 x4 (ix3 e q d) = out x x2 x3 x4 e (⟨e.val, by omega⟩ : Fin 16) q.val d := by
  have h : val_main_v49 (F := Ideal) x x2 x3 x4 (ix3 e q d) = val_main_v43 (F := Ideal) x x2 x3 x4 (ix3 e ⟨q.val / 2, by omega⟩ ⟨q.val % 2 * 1024 + d.val, by omega⟩)
      * val_main_v32 (F := Ideal) x (ix2 e ⟨q.val / 2, by omega⟩) := by
    refine (halfRow0_apply ..).trans ?_
    pointwise [val_main_v46, val_main_v45, val_main_v44]
  rw [h, prod0_apply, gate0_apply, out, dif_pos (show q.val < 2 * 1024 by omega)]

theorem result0_apply (x : Vec Ideal S8x9x1024x128 .i32) (x2 x3 : Vec Ideal S1x16x2048x1024 .f32) (x4 : Vec Ideal S1x16x1024x2048 .f32) (e : Fin 8) (q : Fin 2176) (d : Fin 1024) :
    val_main_v51 (F := Ideal) x x2 x3 x4 (ix3 e q d) = out x x2 x3 x4 e (⟨e.val, by omega⟩ : Fin 16) q.val d := by
  pointwise [val_main_v51]
  split
  · rw [rows0_apply]
  · rename_i hq
    rw [out, dif_neg (show ¬ q.val < 2 * 1024 by omega)]
    pointwise [val_main_v50, val_main_cst]

theorem row1_apply (x : Vec Ideal S8x9x512x128 .i32) (e : Fin 8) (s : Fin 512) (k : Fin 2048) :
    val_main_v56 (F := Ideal) x (ix3 e s k) = row x e s k := Cert.ReferenceIdeal.Read.row1_apply x e s k

theorem gate1_apply (x : Vec Ideal S8x9x512x128 .i32) (e : Fin 8) (s : Fin 512) :
    val_main_v84 (F := Ideal) x (ix2 e s) = Ideal.ofBits .f32 (x (ix4 e 8 s ⟨e.val, by omega⟩)) := by
  pointwise [val_main_v84]
  fin_cases e
  · pointwise [val_main_v76, val_main_v61, val_main_v60, val_main_v59, val_main_v58, val_main_v57]
  · pointwise [val_main_v77, val_main_v63, val_main_v62, val_main_v59, val_main_v58, val_main_v57]
  · pointwise [val_main_v78, val_main_v65, val_main_v64, val_main_v59, val_main_v58, val_main_v57]
  · pointwise [val_main_v79, val_main_v67, val_main_v66, val_main_v59, val_main_v58, val_main_v57]
  · pointwise [val_main_v80, val_main_v69, val_main_v68, val_main_v59, val_main_v58, val_main_v57]
  · pointwise [val_main_v81, val_main_v71, val_main_v70, val_main_v59, val_main_v58, val_main_v57]
  · pointwise [val_main_v82, val_main_v73, val_main_v72, val_main_v59, val_main_v58, val_main_v57]
  · pointwise [val_main_v83, val_main_v75, val_main_v74, val_main_v59, val_main_v58, val_main_v57]

theorem prod1_apply (x : Vec Ideal S8x9x512x128 .i32) (x2 x3 : Vec Ideal S1x16x2048x1024 .f32) (x4 : Vec Ideal S1x16x1024x2048 .f32) (e : Fin 8) (s : Fin 512) (d : Fin 2048) :
    val_main_v95 (F := Ideal) x x2 x3 x4 (ix3 e s d) = ffn (row x e s) x2 x3 x4 (⟨e.val, by omega⟩ : Fin 16) d := by
  pointwise [val_main_v95, val_main_v94, val_main_v93, val_main_v92, val_main_call1_v5, val_main_call1_v4, val_main_call1_v3, val_main_call1_v2, val_main_call1_v1, val_main_call1_v0, val_main_call1_cst, val_main_call1_cst_0, val_main_v91]
  simp only [row1_apply, gateW1_apply, upW1_apply, downW1_apply]
  pointwise [ffn, hid, Ideal.logistic]

theorem halfRow1_apply (x : Vec Ideal S8x9x512x128 .i32) (x2 x3 : Vec Ideal S1x16x2048x1024 .f32) (x4 : Vec Ideal S1x16x1024x2048 .f32) (e : Fin 8) (q : Fin 1024) (d : Fin 1024) :
    val_main_v100 (F := Ideal) x x2 x3 x4 (ix3 e q d) = val_main_v98 (F := Ideal) x x2 x3 x4 (ix3 e ⟨q.val / 2, by omega⟩ ⟨q.val % 2 * 1024 + d.val, by omega⟩) := by
  rw [val_main_v100_apply, val_main_v99_apply]
  refine congrArg _ (funext fun a => ?_)
  fin_cases a <;> apply Fin.ext <;> simp [idx_main_v100, idx_main_v99] <;> omega

theorem rows1_apply (x : Vec Ideal S8x9x512x128 .i32) (x2 x3 : Vec Ideal S1x16x2048x1024 .f32) (x4 : Vec Ideal S1x16x1024x2048 .f32) (e : Fin 8) (q : Fin 1024) (d : Fin 1024) :
    val_main_v101 (F := Ideal) x x2 x3 x4 (ix3 e q d) = out x x2 x3 x4 e (⟨e.val, by omega⟩ : Fin 16) q.val d := by
  have h : val_main_v101 (F := Ideal) x x2 x3 x4 (ix3 e q d) = val_main_v95 (F := Ideal) x x2 x3 x4 (ix3 e ⟨q.val / 2, by omega⟩ ⟨q.val % 2 * 1024 + d.val, by omega⟩)
      * val_main_v84 (F := Ideal) x (ix2 e ⟨q.val / 2, by omega⟩) := by
    refine (halfRow1_apply ..).trans ?_
    pointwise [val_main_v98, val_main_v97, val_main_v96]
  rw [h, prod1_apply, gate1_apply, out, dif_pos (show q.val < 2 * 512 by omega)]

theorem result1_apply (x : Vec Ideal S8x9x512x128 .i32) (x2 x3 : Vec Ideal S1x16x2048x1024 .f32) (x4 : Vec Ideal S1x16x1024x2048 .f32) (e : Fin 8) (q : Fin 1152) (d : Fin 1024) :
    val_main_v103 (F := Ideal) x x2 x3 x4 (ix3 e q d) = out x x2 x3 x4 e (⟨e.val, by omega⟩ : Fin 16) q.val d := by
  pointwise [val_main_v103]
  split
  · rw [rows1_apply]
  · rename_i hq
    rw [out, dif_neg (show ¬ q.val < 2 * 512 by omega)]
    pointwise [val_main_v102, val_main_cst_0]

end Cert.Reference3Ideal.Read
end
-- ==== Proof.RopeSpec.lean ====
module

public import proofs.«01_k».proof.Proof.InSpec

/-! The rotation of the latent tokens' heads in plain arithmetic. -/

@[expose] public section
noncomputable section
namespace Cert.RopeSpec
open Idealize.ShloMosaic Cert.InSpec

/-- The projection of row `r` of 4096 latent rows onto column `q`, from the arguments: row `r` is token `r % 1024` of
    batch entry `r / 1024`, whose shift and scale are row `1 + r / 1024` of the modulation. -/
def U (x : (⟨3, ![4, 1024, 2048]⟩ : Shape).Idx → EReal) (md : (⟨3, ![8, 2, 2048]⟩ : Shape).Idx → EReal)
    (g : (⟨2, ![1, 2048]⟩ : Shape).Idx → EReal) (w : (⟨2, ![2048, 2560]⟩ : Shape).Idx → EReal) (r : Fin 4096) (q : Fin 2560) : EReal :=
  proj (fun k => x (ix3 (⟨r.val / 1024, by omega⟩ : Fin 4) (⟨r.val % 1024, by omega⟩ : Fin 1024) k)) (fun k => g (ix2 0 k))
    (fun k => md (ix3 (⟨1 + r.val / 1024, by omega⟩ : Fin 8) 1 k)) (fun k => md (ix3 (⟨1 + r.val / 1024, by omega⟩ : Fin 8) 0 k))
    (fun k => w (ix2 k q))

/-- Lane `l` of a head of 128 lanes, rotated: the head's halves are its two axes, and a half's first and second 32 lanes
    are the two coordinates that turn by the angle with cosine `c` and sine `s`. -/
def rot (Y : Fin 128 → EReal) (c s : Fin 2 → Fin 32 → EReal) (l : Fin 128) : EReal :=
  if h : l.val / 32 % 2 = 0 then
    Y l * c ⟨l.val / 64, by omega⟩ ⟨l.val % 32, by omega⟩ - Y ⟨l.val + 32, by omega⟩ * s ⟨l.val / 64, by omega⟩ ⟨l.val % 32, by omega⟩
  else
    Y ⟨l.val - 32, by omega⟩ * s ⟨l.val / 64, by omega⟩ ⟨l.val % 32, by omega⟩ + Y l * c ⟨l.val / 64, by omega⟩ ⟨l.val % 32, by omega⟩

/-- The same lane from two rotations of the head by whole lanes and three tables. -/
def roll (Y : Fin 128 → EReal) (c sa sb : Fin 128 → EReal) (l : Fin 128) : EReal :=
  Y l * c l + Y ⟨(l.val + 32) % 128, by omega⟩ * sa l + Y ⟨(l.val + 96) % 128, by omega⟩ * sb l

/-- The two tables of sines: the sine negated in the first 32 lanes of each half and zero in the others, and the other way about. -/
def sineA (s : Fin 2 → Fin 32 → EReal) (l : Fin 128) : EReal :=
  if l.val / 32 % 2 = 0 then -s ⟨l.val / 64, by omega⟩ ⟨l.val % 32, by omega⟩ else 0

/-- The second table of sines. -/
def sineB (s : Fin 2 → Fin 32 → EReal) (l : Fin 128) : EReal :=
  if l.val / 32 % 2 = 0 then 0 else s ⟨l.val / 64, by omega⟩ ⟨l.val % 32, by omega⟩

/-- With these tables the two are the same. -/
theorem roll_eq_rot (Y : Fin 128 → EReal) (c s : Fin 2 → Fin 32 → EReal) (l : Fin 128) :
    roll Y (fun l => c ⟨l.val / 64, by omega⟩ ⟨l.val % 32, by omega⟩) (sineA s) (sineB s) l = rot Y c s l := by
  unfold roll rot sineA sineB
  by_cases h : l.val / 32 % 2 = 0
  · have e : (⟨(l.val + 32) % 128, by omega⟩ : Fin 128) = ⟨l.val + 32, by omega⟩ := Fin.ext (by simp only []; omega)
    rw [if_pos h, if_pos h, dif_pos h, mul_zero, add_zero, mul_neg, e]
    rfl
  · have e : (⟨(l.val + 96) % 128, by omega⟩ : Fin 128) = ⟨l.val - 32, by omega⟩ := Fin.ext (by simp only []; omega)
    rw [if_neg h, if_neg h, dif_neg h, mul_zero, add_zero, add_comm, e]

/-- Lane `l` of the head at column `o` of row `r` of 4096, rotated by the angles of token `r % 1024`. -/
def turned (H : Fin 4096 → Fin 2560 → EReal) (cos sin : (⟨3, ![1024, 2, 32]⟩ : Shape).Idx → EReal) (o : ℕ) (ho : o + 128 ≤ 2560)
    (r : Fin 4096) (l : Fin 128) : EReal :=
  rot (fun l => H r ⟨o + l.val, by omega⟩) (fun j k => cos (ix3 (⟨r.val % 1024, by omega⟩ : Fin 1024) j k))
    (fun j k => sin (ix3 (⟨r.val % 1024, by omega⟩ : Fin 1024) j k)) l

end Cert.RopeSpec
end
-- ==== Proof.RopeBlock.lean ====
module

public import proofs.«01_k».proof.Proof.Gen.Kernel4Ideal.Value
public import proofs.«01_k».proof.Proof.RopeSpec
public import Idealize.ShloMosaic.Lib.KernelVsHost

/-! What one grid point of the latent in-projection leaves in each output window, one element at a time. -/

@[expose] public section
set_option maxRecDepth 16384
noncomputable section
namespace Cert.Kernel4Ideal.Rope
open Idealize.ShloMosaic Idealize.ShloMosaic.TcCoe Cert.Kernel4Ideal Cert.Kernel4Ideal.Gen Cert.InSpec Cert.RopeSpec

theorem pay_low (X : Vec Ideal S256x2048 .f32) (M : Vec Ideal S1x2x2048 .f32) (g : Vec Ideal S1x2048 .f32) (w : Vec Ideal S2048x2560 .bf16)
    (r : Fin 256) (q : Fin 2560) : k0_pay5 M X g w (ix2 r q)
      = proj (fun k => X (ix2 r k)) (fun k => g (ix2 0 k)) (fun k => M (ix3 0 1 k)) (fun k => M (ix3 0 0 k)) (fun k => w (ix2 k q)) := by
  unfold proj
  pointwise [k0_pay5, k0_pay4]

theorem pay_high (X : Vec Ideal S256x2048 .f32) (M : Vec Ideal S1x2x2048 .f32) (g : Vec Ideal S1x2048 .f32) (w : Vec Ideal S2048x2560 .bf16)
    (r : Fin 256) (q : Fin 2560) : k0_pay38 (k0_pay33 X) (k0_pay34 g) (k0_pay35 (k0_pay4 M)) (k0_pay36 (k0_pay4 M)) (k0_pay37 X) w (ix2 r q)
      = proj (fun k => X (ix2 r k)) (fun k => g (ix2 0 k)) (fun k => M (ix3 0 1 k)) (fun k => M (ix3 0 0 k)) (fun k => w (ix2 k q)) := by
  unfold proj
  pointwise [k0_pay38, k0_pay37, k0_pay36, k0_pay35, k0_pay34, k0_pay33, k0_pay4]

variable (x0 : Vec Ideal S512x2048 .f32) (x1 : Vec Ideal S1x2x2048 .f32) (x2 : Vec Ideal S1x2048 .f32) (x3 : Vec Ideal S2048x2560 .bf16)
  (x4 x5 x6 : Vec Ideal S512x128 .f32)

/-- The projection of row `r` of a block of 512 rows onto column `q`. -/
def u (r : Fin 512) (q : Fin 2560) : EReal :=
  proj (fun k => x0 (ix2 r k)) (fun k => x2 (ix2 0 k)) (fun k => x1 (ix3 0 1 k)) (fun k => x1 (ix3 0 0 k)) (fun k => x3 (ix2 k q))

theorem low (r : Fin 256) (q : Fin 2560) : k0_pay56 x0 x1 x2 x3 x4 x5 x6 (ix2 r q) = u x0 x1 x2 x3 ⟨r.val, by omega⟩ q := by
  refine (pay_low (View.ld x0 r0_1) (View.ld x1 r0_0) (View.ld x2 r0_2) (View.ld x3 r0_3) r q).trans ?_
  rw [View.ld_unit_zero (S := S1x2x2048) (by decide) _ x1, View.ld_unit_zero (S := S1x2048) (by decide) _ x2, View.ld_unit_zero (S := S2048x2560) (by decide) _ x3]
  unfold u
  congr 1
  funext k
  refine congrArg x0 (funext fun a => ?_)
  fin_cases a <;> apply Fin.ext <;> simp [LoadRect.idx, Rect.unit]

theorem high (r : Fin 256) (q : Fin 2560) : k0_pay62 x0 x1 x2 x3 x4 x5 x6 (ix2 r q) = u x0 x1 x2 x3 ⟨256 + r.val, by omega⟩ q := by
  refine (pay_high (View.ld x0 r0_17) (View.ld x1 r0_0) (View.ld x2 r0_2) (View.ld x3 r0_3) r q).trans ?_
  rw [View.ld_unit_zero (S := S1x2x2048) (by decide) _ x1, View.ld_unit_zero (S := S1x2048) (by decide) _ x2, View.ld_unit_zero (S := S2048x2560) (by decide) _ x3]
  unfold u
  congr 1
  funext k
  refine congrArg x0 (funext fun a => ?_)
  fin_cases a <;> apply Fin.ext <;> simp [LoadRect.idx, Rect.unit]

theorem u_congr {r r' : Fin 512} {q q' : Fin 2560} (hr : r.val = r'.val) (hq : q.val = q'.val) : u x0 x1 x2 x3 r q = u x0 x1 x2 x3 r' q' := by
  rw [Fin.ext hr, Fin.ext hq]

/-- A head of 256 rows, rotated by the kernel's operations. -/
def turn (X : FVec Ideal S256x128 .f32) (c sa sb : Vec Ideal S256x128 .f32) : FVec Ideal S256x128 .f32 :=
  addf (addf (mulf X (shapeCast S256x128 c shapeCasts_S256x128_S256x128))
    (mulf (dynamicRotate 1 96#32 none X rotates_S256x128_d1) (shapeCast S256x128 sa shapeCasts_S256x128_S256x128)))
    (mulf (dynamicRotate 1 32#32 none X rotates_S256x128_d1) (shapeCast S256x128 sb shapeCasts_S256x128_S256x128))

theorem turn_apply (X : FVec Ideal S256x128 .f32) (c sa sb : Vec Ideal S256x128 .f32) (a : Fin 256) (b : Fin 128) :
    turn X c sa sb (ix2 a b) = roll (fun l => X (ix2 a l)) (fun l => c (ix2 a l)) (fun l => sa (ix2 a l)) (fun l => sb (ix2 a l)) b := by
  have e1 : dynamicRotate 1 96#32 none X rotates_S256x128_d1 (ix2 a b) = X (ix2 a ⟨(b.val + 32) % 128, by omega⟩) :=
    dynamicRotate_apply _ _ _ _ _ _ (fun i => by
      fin_cases i
      · rfl
      · show (b.val + 32) % 128 = (b.val + 128 - 96 % 128) % 128
        omega)
  have e2 : dynamicRotate 1 32#32 none X rotates_S256x128_d1 (ix2 a b) = X (ix2 a ⟨(b.val + 96) % 128, by omega⟩) :=
    dynamicRotate_apply _ _ _ _ _ _ (fun i => by
      fin_cases i
      · rfl
      · show (b.val + 96) % 128 = (b.val + 128 - 32 % 128) % 128
        omega)
  unfold turn roll
  show X (ix2 a b) * shapeCast S256x128 c shapeCasts_S256x128_S256x128 (ix2 a b)
    + dynamicRotate 1 96#32 none X rotates_S256x128_d1 (ix2 a b) * shapeCast S256x128 sa shapeCasts_S256x128_S256x128 (ix2 a b)
    + dynamicRotate 1 32#32 none X rotates_S256x128_d1 (ix2 a b) * shapeCast S256x128 sb shapeCasts_S256x128_S256x128 (ix2 a b) = _
  rw [e1, e2]
  pointwise []

/-- Lane `l` of the head at column `o` of row `r`, rotated, from any table `G` of the block's projections. -/
def head (G : Fin 512 → Fin 2560 → EReal) (o : ℕ) (ho : o + 128 ≤ 2560) (r : Fin 512) (l : Fin 128) : EReal :=
  roll (fun l => G r ⟨o + l.val, by omega⟩) (fun l => x4 (ix2 r l)) (fun l => x5 (ix2 r l)) (fun l => x6 (ix2 r l)) l

theorem head_congr (G : Fin 512 → Fin 2560 → EReal) {o o' : ℕ} (ho : o + 128 ≤ 2560) (ho' : o' + 128 ≤ 2560) {r r' : Fin 512} {l l' : Fin 128}
    (h : o = o') (hr : r.val = r'.val) (hl : l.val = l'.val) : head x4 x5 x6 G o ho r l = head x4 x5 x6 G o' ho' r' l' := by
  subst h
  rw [Fin.ext hr, Fin.ext hl]

theorem piece_low (G : Fin 512 → Fin 2560 → EReal) (o : ℕ) (ho : o + 128 ≤ 2560) (X : FVec Ideal S256x128 .f32)
    (hX : ∀ (a : Fin 256) (l : Fin 128), X (ix2 a l) = G ⟨a.val, by omega⟩ ⟨o + l.val, by omega⟩) (a : Fin 256) (b : Fin 128) :
    turn X (View.ld x4 r0_4) (View.ld x5 r0_4) (View.ld x6 r0_4) (ix2 a b) = head x4 x5 x6 G o ho ⟨a.val, by omega⟩ b := by
  have e : ∀ (y : Vec Ideal S512x128 .f32) (l : Fin 128), View.ld y r0_4 (ix2 a l) = y (ix2 (⟨a.val, by omega⟩ : Fin 512) l) := fun y l => by
    refine congrArg y (funext fun i => ?_)
    fin_cases i <;> apply Fin.ext <;> simp [LoadRect.idx, Rect.unit]
  rw [turn_apply]
  unfold head
  simp only [hX]
  congr 1 <;> funext l <;> exact e _ l

theorem piece_high (G : Fin 512 → Fin 2560 → EReal) (o : ℕ) (ho : o + 128 ≤ 2560) (X : FVec Ideal S256x128 .f32)
    (hX : ∀ (a : Fin 256) (l : Fin 128), X (ix2 a l) = G ⟨256 + a.val, by omega⟩ ⟨o + l.val, by omega⟩) (a : Fin 256) (b : Fin 128) :
    turn X (View.ld x4 r0_18) (View.ld x5 r0_18) (View.ld x6 r0_18) (ix2 a b) = head x4 x5 x6 G o ho ⟨256 + a.val, by omega⟩ b := by
  have e : ∀ (y : Vec Ideal S512x128 .f32) (l : Fin 128), View.ld y r0_18 (ix2 a l) = y (ix2 (⟨256 + a.val, by omega⟩ : Fin 512) l) := fun y l => by
    refine congrArg y (funext fun i => ?_)
    fin_cases i <;> apply Fin.ext <;> simp [LoadRect.idx, Rect.unit]
  rw [turn_apply]
  unfold head
  simp only [hX]
  congr 1 <;> funext l <;> exact e _ l

/-- A head of queries before its rotation, and a head of keys. -/
def cutq (V : FVec Ideal S256x2560 .f32) (o : Fin 2 → ℕ) (h : S256x2560.Slices o S256x128) : FVec Ideal S256x128 .f32 :=
  mulf (extractStridedSlice S256x128 o V h) (broadcast S256x128 (Scalar.ofBits (F := Ideal) .f32 0x3E0293EE#32))

theorem cutq_apply (V : FVec Ideal S256x2560 .f32) (o : ℕ) (ho : o + 128 ≤ 2560) (h : S256x2560.Slices ![0, o] S256x128) (a : Fin 256) (b : Fin 128) :
    cutq V ![0, o] h (ix2 a b) = V (ix2 a ⟨o + b.val, by omega⟩) * Ideal.ofBits .f32 0x3E0293EE#32 := by
  unfold cutq
  pointwise []

theorem cutk_apply (V : FVec Ideal S256x2560 .f32) (o : ℕ) (ho : o + 128 ≤ 2560) (h : S256x2560.Slices ![0, o] S256x128) (a : Fin 256) (b : Fin 128) :
    extractStridedSlice S256x128 ![0, o] V h (ix2 a b) = V (ix2 a ⟨o + b.val, by omega⟩) := by
  pointwise []

/-- The scaled projections. -/
abbrev uq (r : Fin 512) (q : Fin 2560) : EReal := u x0 x1 x2 x3 r q * Ideal.ofBits .f32 0x3E0293EE#32

set_option maxHeartbeats 4000000 in
theorem out7 (r : Fin 512) (q : Fin 1024) : out0_7 x0 x1 x2 x3 x4 x5 x6 (ix2 r q)
    = head x4 x5 x6 (uq x0 x1 x2 x3) (q.val / 128 * 128) (by omega) r ⟨q.val % 128, by omega⟩ := by
  unfold out0_7
  canon_tiles x h
  · obtain ⟨a, b, rfl⟩ : ∃ (a : Fin 256) (b : Fin 128), x = ix2 a b := ⟨_, _, eq_ix2 x⟩
    refine Eq.trans (b := turn (cutq (k0_pay62 x0 x1 x2 x3 x4 x5 x6) ![0, 896] slices_S256x2560_o0_896_S256x128) (View.ld x4 r0_18) (View.ld x5 r0_18) (View.ld x6 r0_18) (ix2 a b)) rfl ?_
    refine (piece_high x4 x5 x6 (uq x0 x1 x2 x3) 896 (by omega) _ (fun a l => (cutq_apply _ 896 (by omega) _ a l).trans (congrArg (· * _) (high ..))) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    refine Eq.trans (b := turn (cutq (k0_pay62 x0 x1 x2 x3 x4 x5 x6) ![0, 768] slices_S256x2560_o0_768_S256x128) (View.ld x4 r0_18) (View.ld x5 r0_18) (View.ld x6 r0_18) (ix2 a b)) rfl ?_
    refine (piece_high x4 x5 x6 (uq x0 x1 x2 x3) 768 (by omega) _ (fun a l => (cutq_apply _ 768 (by omega) _ a l).trans (congrArg (· * _) (high ..))) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    refine Eq.trans (b := turn (cutq (k0_pay62 x0 x1 x2 x3 x4 x5 x6) ![0, 640] slices_S256x2560_o0_640_S256x128) (View.ld x4 r0_18) (View.ld x5 r0_18) (View.ld x6 r0_18) (ix2 a b)) rfl ?_
    refine (piece_high x4 x5 x6 (uq x0 x1 x2 x3) 640 (by omega) _ (fun a l => (cutq_apply _ 640 (by omega) _ a l).trans (congrArg (· * _) (high ..))) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    refine Eq.trans (b := turn (cutq (k0_pay62 x0 x1 x2 x3 x4 x5 x6) ![0, 512] slices_S256x2560_o0_512_S256x128) (View.ld x4 r0_18) (View.ld x5 r0_18) (View.ld x6 r0_18) (ix2 a b)) rfl ?_
    refine (piece_high x4 x5 x6 (uq x0 x1 x2 x3) 512 (by omega) _ (fun a l => (cutq_apply _ 512 (by omega) _ a l).trans (congrArg (· * _) (high ..))) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    refine Eq.trans (b := turn (cutq (k0_pay62 x0 x1 x2 x3 x4 x5 x6) ![0, 384] slices_S256x2560_o0_384_S256x128) (View.ld x4 r0_18) (View.ld x5 r0_18) (View.ld x6 r0_18) (ix2 a b)) rfl ?_
    refine (piece_high x4 x5 x6 (uq x0 x1 x2 x3) 384 (by omega) _ (fun a l => (cutq_apply _ 384 (by omega) _ a l).trans (congrArg (· * _) (high ..))) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    refine Eq.trans (b := turn (cutq (k0_pay62 x0 x1 x2 x3 x4 x5 x6) ![0, 256] slices_S256x2560_o0_256_S256x128) (View.ld x4 r0_18) (View.ld x5 r0_18) (View.ld x6 r0_18) (ix2 a b)) rfl ?_
    refine (piece_high x4 x5 x6 (uq x0 x1 x2 x3) 256 (by omega) _ (fun a l => (cutq_apply _ 256 (by omega) _ a l).trans (congrArg (· * _) (high ..))) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    refine Eq.trans (b := turn (cutq (k0_pay62 x0 x1 x2 x3 x4 x5 x6) ![0, 128] slices_S256x2560_o0_128_S256x128) (View.ld x4 r0_18) (View.ld x5 r0_18) (View.ld x6 r0_18) (ix2 a b)) rfl ?_
    refine (piece_high x4 x5 x6 (uq x0 x1 x2 x3) 128 (by omega) _ (fun a l => (cutq_apply _ 128 (by omega) _ a l).trans (congrArg (· * _) (high ..))) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    refine Eq.trans (b := turn (cutq (k0_pay62 x0 x1 x2 x3 x4 x5 x6) ![0, 0] slices_S256x2560_o0_0_S256x128) (View.ld x4 r0_18) (View.ld x5 r0_18) (View.ld x6 r0_18) (ix2 a b)) rfl ?_
    refine (piece_high x4 x5 x6 (uq x0 x1 x2 x3) 0 (by omega) _ (fun a l => (cutq_apply _ 0 (by omega) _ a l).trans (congrArg (· * _) (high ..))) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    refine Eq.trans (b := turn (cutq (k0_pay56 x0 x1 x2 x3 x4 x5 x6) ![0, 896] slices_S256x2560_o0_896_S256x128) (View.ld x4 r0_4) (View.ld x5 r0_4) (View.ld x6 r0_4) (ix2 a b)) rfl ?_
    refine (piece_low x4 x5 x6 (uq x0 x1 x2 x3) 896 (by omega) _ (fun a l => (cutq_apply _ 896 (by omega) _ a l).trans (congrArg (· * _) (low ..))) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    refine Eq.trans (b := turn (cutq (k0_pay56 x0 x1 x2 x3 x4 x5 x6) ![0, 768] slices_S256x2560_o0_768_S256x128) (View.ld x4 r0_4) (View.ld x5 r0_4) (View.ld x6 r0_4) (ix2 a b)) rfl ?_
    refine (piece_low x4 x5 x6 (uq x0 x1 x2 x3) 768 (by omega) _ (fun a l => (cutq_apply _ 768 (by omega) _ a l).trans (congrArg (· * _) (low ..))) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    refine Eq.trans (b := turn (cutq (k0_pay56 x0 x1 x2 x3 x4 x5 x6) ![0, 640] slices_S256x2560_o0_640_S256x128) (View.ld x4 r0_4) (View.ld x5 r0_4) (View.ld x6 r0_4) (ix2 a b)) rfl ?_
    refine (piece_low x4 x5 x6 (uq x0 x1 x2 x3) 640 (by omega) _ (fun a l => (cutq_apply _ 640 (by omega) _ a l).trans (congrArg (· * _) (low ..))) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    refine Eq.trans (b := turn (cutq (k0_pay56 x0 x1 x2 x3 x4 x5 x6) ![0, 512] slices_S256x2560_o0_512_S256x128) (View.ld x4 r0_4) (View.ld x5 r0_4) (View.ld x6 r0_4) (ix2 a b)) rfl ?_
    refine (piece_low x4 x5 x6 (uq x0 x1 x2 x3) 512 (by omega) _ (fun a l => (cutq_apply _ 512 (by omega) _ a l).trans (congrArg (· * _) (low ..))) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    refine Eq.trans (b := turn (cutq (k0_pay56 x0 x1 x2 x3 x4 x5 x6) ![0, 384] slices_S256x2560_o0_384_S256x128) (View.ld x4 r0_4) (View.ld x5 r0_4) (View.ld x6 r0_4) (ix2 a b)) rfl ?_
    refine (piece_low x4 x5 x6 (uq x0 x1 x2 x3) 384 (by omega) _ (fun a l => (cutq_apply _ 384 (by omega) _ a l).trans (congrArg (· * _) (low ..))) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    refine Eq.trans (b := turn (cutq (k0_pay56 x0 x1 x2 x3 x4 x5 x6) ![0, 256] slices_S256x2560_o0_256_S256x128) (View.ld x4 r0_4) (View.ld x5 r0_4) (View.ld x6 r0_4) (ix2 a b)) rfl ?_
    refine (piece_low x4 x5 x6 (uq x0 x1 x2 x3) 256 (by omega) _ (fun a l => (cutq_apply _ 256 (by omega) _ a l).trans (congrArg (· * _) (low ..))) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    refine Eq.trans (b := turn (cutq (k0_pay56 x0 x1 x2 x3 x4 x5 x6) ![0, 128] slices_S256x2560_o0_128_S256x128) (View.ld x4 r0_4) (View.ld x5 r0_4) (View.ld x6 r0_4) (ix2 a b)) rfl ?_
    refine (piece_low x4 x5 x6 (uq x0 x1 x2 x3) 128 (by omega) _ (fun a l => (cutq_apply _ 128 (by omega) _ a l).trans (congrArg (· * _) (low ..))) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    refine Eq.trans (b := turn (cutq (k0_pay56 x0 x1 x2 x3 x4 x5 x6) ![0, 0] slices_S256x2560_o0_0_S256x128) (View.ld x4 r0_4) (View.ld x5 r0_4) (View.ld x6 r0_4) (ix2 a b)) rfl ?_
    refine (piece_low x4 x5 x6 (uq x0 x1 x2 x3) 0 (by omega) _ (fun a l => (cutq_apply _ 0 (by omega) _ a l).trans (congrArg (· * _) (low ..))) a b).trans (head_congr x4 x5 x6 _ _ _ ?_ ?_ ?_) <;> (dsimp only [ix2] at *; omega)

theorem turn1 (V : FVec Ideal S256x2560 .f32) (c sa sb : Vec Ideal S256x128 .f32) : k0_pay1 (k0_pay52 V) (k0_pay53 V c) (k0_pay54 V) sa sb
    = turn (extractStridedSlice S256x128 ![0, 1152] V slices_S256x2560_o0_1152_S256x128) c sa sb := rfl

theorem turn51 (V : FVec Ideal S256x2560 .f32) (c sa sb : Vec Ideal S256x128 .f32) : k0_pay51 V c sa sb
    = turn (extractStridedSlice S256x128 ![0, 1024] V slices_S256x2560_o0_1024_S256x128) c sa sb := rfl

theorem turn30 (V : FVec Ideal S256x2560 .f32) (c sa sb : Vec Ideal S256x128 .f32) : k0_pay30 V c sa sb
    = turn (extractStridedSlice S256x128 ![0, 1152] V slices_S256x2560_o0_1152_S256x128) c sa sb := rfl

theorem turn29 (V : FVec Ideal S256x2560 .f32) (c sa sb : Vec Ideal S256x128 .f32) : k0_pay29 (k0_pay27 V c sa) (k0_pay28 V) sb
    = turn (extractStridedSlice S256x128 ![0, 1024] V slices_S256x2560_o0_1024_S256x128) c sa sb := rfl

set_option maxHeartbeats 400000 in
theorem out8 (r : Fin 512) (q : Fin 256) : out0_8 x0 x1 x2 x3 x4 x5 x6 (ix2 r q)
    = head x4 x5 x6 (u x0 x1 x2 x3) (1024 + q.val / 128 * 128) (by omega) r ⟨q.val % 128, by omega⟩ := by
  have hL := low x0 x1 x2 x3 x4 x5 x6
  have hH := high x0 x1 x2 x3 x4 x5 x6
  unfold out0_8
  generalize k0_pay62 x0 x1 x2 x3 x4 x5 x6 = H at *
  generalize k0_pay56 x0 x1 x2 x3 x4 x5 x6 = L at *
  generalize u x0 x1 x2 x3 = G at *
  canon_tiles x h
  · obtain ⟨a, b, rfl⟩ : ∃ (a : Fin 256) (b : Fin 128), x = ix2 a b := ⟨_, _, eq_ix2 x⟩
    rw [turn1]
    refine (piece_high x4 x5 x6 G 1152 (by omega) _ (fun a l => (cutk_apply _ 1152 (by omega) _ a l).trans (hH ..)) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    rw [turn51]
    refine (piece_high x4 x5 x6 G 1024 (by omega) _ (fun a l => (cutk_apply _ 1024 (by omega) _ a l).trans (hH ..)) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    rw [turn30]
    refine (piece_low x4 x5 x6 G 1152 (by omega) _ (fun a l => (cutk_apply _ 1152 (by omega) _ a l).trans (hL ..)) a b).trans (head_congr x4 x5 x6 _ _ _ ?_ ?_ ?_) <;> (dsimp only [ix2] at *; omega)
  · obtain ⟨a, b, rfl⟩ : ∃ (a : Fin 256) (b : Fin 128), x = ix2 a b := ⟨_, _, eq_ix2 x⟩
    rw [turn29]
    refine (piece_low x4 x5 x6 G 1024 (by omega) _ (fun a l => (cutk_apply _ 1024 (by omega) _ a l).trans (hL ..)) a b).trans (head_congr x4 x5 x6 _ _ _ ?_ ?_ ?_) <;> (dsimp only [ix2] at *; omega)

theorem out9 (r : Fin 512) (q : Fin 256) : out0_9 x0 x1 x2 x3 x4 x5 x6 (ix2 r q) = u x0 x1 x2 x3 r ⟨1280 + q.val, by omega⟩ := by
  unfold out0_9
  canon_tiles x h
  · obtain ⟨a, b, rfl⟩ : ∃ (a : Fin 256) (b : Fin 256), x = ix2 a b := ⟨_, _, eq_ix2 x⟩
    pointwise [k0_pay2]
    refine ((high ..).trans (u_congr x0 x1 x2 x3 ?_ ?_)) <;> (dsimp only [ix2] at *; omega)
  · obtain ⟨a, b, rfl⟩ : ∃ (a : Fin 256) (b : Fin 256), x = ix2 a b := ⟨_, _, eq_ix2 x⟩
    pointwise [k0_pay31]
    refine ((low ..).trans (u_congr x0 x1 x2 x3 ?_ ?_)) <;> (dsimp only [ix2] at *; omega)

theorem out10 (r : Fin 512) (q : Fin 1024) : out0_10 x0 x1 x2 x3 x4 x5 x6 (ix2 r q) = u x0 x1 x2 x3 r ⟨1536 + q.val, by omega⟩ := by
  unfold out0_10
  canon_tiles x h
  · obtain ⟨a, b, rfl⟩ : ∃ (a : Fin 256) (b : Fin 1024), x = ix2 a b := ⟨_, _, eq_ix2 x⟩
    pointwise [k0_pay3]
    refine ((high ..).trans (u_congr x0 x1 x2 x3 ?_ ?_)) <;> (dsimp only [ix2] at *; omega)
  · obtain ⟨a, b, rfl⟩ : ∃ (a : Fin 256) (b : Fin 1024), x = ix2 a b := ⟨_, _, eq_ix2 x⟩
    pointwise [k0_pay32]
    refine ((low ..).trans (u_congr x0 x1 x2 x3 ?_ ?_)) <;> (dsimp only [ix2] at *; omega)

end Cert.Kernel4Ideal.Rope
end
-- ==== Proof.RopeArr.lean ====
module

public import proofs.«01_k».proof.Proof.RopeBlock

/-! The latent in-projection's result arrays after the run, in terms of the arguments. -/

@[expose] public section
set_option maxRecDepth 16384
noncomputable section
namespace Cert.Kernel4Ideal.Rope
open Idealize.ShloMosaic Idealize.ShloMosaic.TcCoe Cert.Kernel4Ideal Cert.Kernel4Ideal.Gen Cert.InSpec Cert.RopeSpec

variable (m : (ℓ : Loc nD τ sig) → Buf (Elt Ideal) ℓ)

theorem idx : ∀ t : Fin cfg0.N, win0_0.index t = ![t.val, 0]
    ∧ win0_1.index t = ![1 + t.val / 2, 0, 0]
    ∧ win0_2.index t = ![0, 0]
    ∧ win0_3.index t = ![0, 0]
    ∧ win0_4.index t = ![t.val % 2, 0]
    ∧ win0_5.index t = ![t.val % 2, 0]
    ∧ win0_6.index t = ![t.val % 2, 0]
    ∧ win0_7.index t = ![t.val, 0]
    ∧ win0_8.index t = ![t.val, 0]
    ∧ win0_9.index t = ![t.val, 0]
    ∧ win0_10.index t = ![t.val, 0] := by decide +kernel

theorem lt8 (t : Fin cfg0.N) : t.val < 8 := t.isLt

theorem read_v24 (c : Dev nD) (r : Fin 4096) (k : Fin 2048) : V m c main_v24 (ix2 r k) = m (c.tc.loc main_arg0) (ix3 (⟨r.val / 1024, by omega⟩ : Fin 4) (⟨r.val % 1024, by omega⟩ : Fin 1024) k) := by
  entry_read
  pointwise []

theorem read_v26 (c : Dev nD) (k : Fin 2048) : V m c main_v26 (ix2 0 k) = m (c.tc.loc main_arg2) (ix2 0 k) := by
  entry_read
  pointwise []

/-- Four tables of 32 lanes side by side. -/
def four (a b d e : (⟨S1024x32, .f32⟩ : BufTy).Contents (Elt Ideal)) : (⟨S1024x128, .f32⟩ : BufTy).Contents (Elt Ideal) :=
  concatenate S1024x128 1 [⟨S1024x32, a⟩, ⟨S1024x32, b⟩, ⟨S1024x32, d⟩, ⟨S1024x32, e⟩] concatenates_S1024x32_S1024x32_S1024x32_S1024x32_S1024x128_d1

/-- Lane `l` of the four: lane `l % 32` of the table at place `l / 32`. -/
theorem four_apply (a b d e : (⟨S1024x32, .f32⟩ : BufTy).Contents (Elt Ideal)) (r : Fin 1024) (l : Fin 128) : four a b d e (ix2 r l)
    = if l.val / 32 % 2 = 0 then (if l.val / 64 = 0 then a (ix2 r ⟨l.val % 32, by omega⟩) else d (ix2 r ⟨l.val % 32, by omega⟩))
      else (if l.val / 64 = 0 then b (ix2 r ⟨l.val % 32, by omega⟩) else e (ix2 r ⟨l.val % 32, by omega⟩)) := by
  unfold four
  pointwise []
  split_ifs <;> first
    | exact Eq.trans (congrArg (fun k => a (ix2 r k)) (Fin.ext (by simp only []; omega))) (Eq.symm ((if_pos (by omega)).trans (if_pos (by omega))))
    | exact Eq.trans (congrArg (fun k => b (ix2 r k)) (Fin.ext (by simp only []; omega))) (Eq.symm ((if_neg (by omega)).trans (if_pos (by omega))))
    | exact Eq.trans (congrArg (fun k => d (ix2 r k)) (Fin.ext (by simp only []; omega))) (Eq.symm ((if_pos (by omega)).trans (if_neg (by omega))))
    | exact Eq.trans (congrArg (fun k => e (ix2 r k)) (Fin.ext (by simp only []; omega))) (Eq.symm ((if_neg (by omega)).trans (if_neg (by omega))))
    | exact absurd rfl (by assumption)

/-- Axis `j` of a table of angles. -/
def axis (j : Fin 2) (y : (⟨S1024x2x32, .f32⟩ : BufTy).Contents (Elt Ideal)) : (⟨S1024x32, .f32⟩ : BufTy).Contents (Elt Ideal) := fun i => y (ix3 (i 0) j (i 1))

/-- The zeros. -/
def zeros : (⟨S1024x32, .f32⟩ : BufTy).Contents (Elt Ideal) := fun _ => 0

/-- The host operations before the table of cosines. -/
abbrev cosOps : List (HloOp τ sig (Elt Ideal)) :=
  [StableHlo.unary main_arg5 main_v0 ((extractStridedSlice S1024x1x32 ![0, 0, 0] · slices_S1024x2x32_S1024x1x32_0_0_0) : (⟨S1024x2x32, .f32⟩ : BufTy).Contents (Elt Ideal) → (⟨S1024x1x32, .f32⟩ : BufTy).Contents (Elt Ideal)),
    StableHlo.reshape main_v0 main_v1 (rfl : (.f32 : EltTy) = .f32) shapeCasts_S1024x1x32_S1024x32,
    StableHlo.nullary main_cst (constant (F := Ideal) S_ .f32 0x00000000#32),
    StableHlo.unary main_cst main_v2 (broadcastInDim S1024x32 ![] bcast_S_S1024x32 : (⟨S_, .f32⟩ : BufTy).Contents (Elt Ideal) → (⟨S1024x32, .f32⟩ : BufTy).Contents (Elt Ideal)),
    StableHlo.unary main_arg4 main_v3 ((extractStridedSlice S1024x1x32 ![0, 0, 0] · slices_S1024x2x32_S1024x1x32_0_0_0) : (⟨S1024x2x32, .f32⟩ : BufTy).Contents (Elt Ideal) → (⟨S1024x1x32, .f32⟩ : BufTy).Contents (Elt Ideal)),
    StableHlo.reshape main_v3 main_v4 (rfl : (.f32 : EltTy) = .f32) shapeCasts_S1024x1x32_S1024x32,
    StableHlo.unary main_arg4 main_v5 ((extractStridedSlice S1024x1x32 ![0, 0, 0] · slices_S1024x2x32_S1024x1x32_0_0_0) : (⟨S1024x2x32, .f32⟩ : BufTy).Contents (Elt Ideal) → (⟨S1024x1x32, .f32⟩ : BufTy).Contents (Elt Ideal)),
    StableHlo.reshape main_v5 main_v6 (rfl : (.f32 : EltTy) = .f32) shapeCasts_S1024x1x32_S1024x32,
    StableHlo.unary main_arg4 main_v7 ((extractStridedSlice S1024x1x32 ![0, 1, 0] · slices_S1024x2x32_S1024x1x32_0_1_0) : (⟨S1024x2x32, .f32⟩ : BufTy).Contents (Elt Ideal) → (⟨S1024x1x32, .f32⟩ : BufTy).Contents (Elt Ideal)),
    StableHlo.reshape main_v7 main_v8 (rfl : (.f32 : EltTy) = .f32) shapeCasts_S1024x1x32_S1024x32,
    StableHlo.unary main_arg4 main_v9 ((extractStridedSlice S1024x1x32 ![0, 1, 0] · slices_S1024x2x32_S1024x1x32_0_1_0) : (⟨S1024x2x32, .f32⟩ : BufTy).Contents (Elt Ideal) → (⟨S1024x1x32, .f32⟩ : BufTy).Contents (Elt Ideal)),
    StableHlo.reshape main_v9 main_v10 (rfl : (.f32 : EltTy) = .f32) shapeCasts_S1024x1x32_S1024x32]

theorem read_v11 (c : Dev nD) : V m c main_v11 = four (axis 0 (m (c.tc.loc main_arg4))) (axis 0 (m (c.tc.loc main_arg4))) (axis 1 (m (c.tc.loc main_arg4))) (axis 1 (m (c.tc.loc main_arg4))) := by
  have e0 : StableHlo.after cosOps (fun b => m (c, b)) main_v4 = axis 0 (m (c.tc.loc main_arg4)) := by
    funext i
    obtain ⟨r, q, rfl⟩ : ∃ (r : Fin 1024) (q : Fin 32), i = ix2 r q := ⟨_, _, eq_ix2 i⟩
    unfold axis
    entry_read
    pointwise []
  have e1 : StableHlo.after cosOps (fun b => m (c, b)) main_v6 = axis 0 (m (c.tc.loc main_arg4)) := by
    funext i
    obtain ⟨r, q, rfl⟩ : ∃ (r : Fin 1024) (q : Fin 32), i = ix2 r q := ⟨_, _, eq_ix2 i⟩
    unfold axis
    entry_read
    pointwise []
  have e2 : StableHlo.after cosOps (fun b => m (c, b)) main_v8 = axis 1 (m (c.tc.loc main_arg4)) := by
    funext i
    obtain ⟨r, q, rfl⟩ : ∃ (r : Fin 1024) (q : Fin 32), i = ix2 r q := ⟨_, _, eq_ix2 i⟩
    unfold axis
    entry_read
    pointwise []
  have e3 : StableHlo.after cosOps (fun b => m (c, b)) main_v10 = axis 1 (m (c.tc.loc main_arg4)) := by
    funext i
    obtain ⟨r, q, rfl⟩ : ∃ (r : Fin 1024) (q : Fin 32), i = ix2 r q := ⟨_, _, eq_ix2 i⟩
    unfold axis
    entry_read
    pointwise []
  unfold V
  simp only [StableHlo.after_cons, StableHlo.after_nil] at e0 e1 e2 e3 ⊢
  rw [StableHlo.unary_result_ne]; rotate_left; decide
  rw [StableHlo.reshape_result_ne]; rotate_left; decide
  rw [StableHlo.reshape_result_ne]; rotate_left; decide
  rw [StableHlo.nary_result_ne]; rotate_left; decide
  rw [StableHlo.reshape_result_ne]; rotate_left; decide
  rw [StableHlo.unary_result_ne]; rotate_left; decide
  rw [StableHlo.reshape_result_ne]; rotate_left; decide
  rw [StableHlo.unary_result_ne]; rotate_left; decide
  rw [StableHlo.nary_result_ne]; rotate_left; decide
  rw [StableHlo.unary_result_ne]; rotate_left; decide
  rw [StableHlo.reshape_result_ne]; rotate_left; decide
  rw [StableHlo.unary_result_ne]; rotate_left; decide
  rw [StableHlo.unary_result_ne]; rotate_left; decide
  rw [StableHlo.reshape_result_ne]; rotate_left; decide
  rw [StableHlo.unary_result_ne]; rotate_left; decide
  refine (StableHlo.nary4_result ..).trans ?_
  refine Eq.trans ?_ (congr (congr (congr (congrArg four e0) e1) e2) e3)
  rfl

/-- The host operations before the first table of sines. -/
abbrev sinAOps : List (HloOp τ sig (Elt Ideal)) :=
  [StableHlo.unary main_arg5 main_v0 ((extractStridedSlice S1024x1x32 ![0, 0, 0] · slices_S1024x2x32_S1024x1x32_0_0_0) : (⟨S1024x2x32, .f32⟩ : BufTy).Contents (Elt Ideal) → (⟨S1024x1x32, .f32⟩ : BufTy).Contents (Elt Ideal)),
    StableHlo.reshape main_v0 main_v1 (rfl : (.f32 : EltTy) = .f32) shapeCasts_S1024x1x32_S1024x32,
    StableHlo.nullary main_cst (constant (F := Ideal) S_ .f32 0x00000000#32),
    StableHlo.unary main_cst main_v2 (broadcastInDim S1024x32 ![] bcast_S_S1024x32 : (⟨S_, .f32⟩ : BufTy).Contents (Elt Ideal) → (⟨S1024x32, .f32⟩ : BufTy).Contents (Elt Ideal)),
    StableHlo.unary main_arg4 main_v3 ((extractStridedSlice S1024x1x32 ![0, 0, 0] · slices_S1024x2x32_S1024x1x32_0_0_0) : (⟨S1024x2x32, .f32⟩ : BufTy).Contents (Elt Ideal) → (⟨S1024x1x32, .f32⟩ : BufTy).Contents (Elt Ideal)),
    StableHlo.reshape main_v3 main_v4 (rfl : (.f32 : EltTy) = .f32) shapeCasts_S1024x1x32_S1024x32,
    StableHlo.unary main_arg4 main_v5 ((extractStridedSlice S1024x1x32 ![0, 0, 0] · slices_S1024x2x32_S1024x1x32_0_0_0) : (⟨S1024x2x32, .f32⟩ : BufTy).Contents (Elt Ideal) → (⟨S1024x1x32, .f32⟩ : BufTy).Contents (Elt Ideal)),
    StableHlo.reshape main_v5 main_v6 (rfl : (.f32 : EltTy) = .f32) shapeCasts_S1024x1x32_S1024x32,
    StableHlo.unary main_arg4 main_v7 ((extractStridedSlice S1024x1x32 ![0, 1, 0] · slices_S1024x2x32_S1024x1x32_0_1_0) : (⟨S1024x2x32, .f32⟩ : BufTy).Contents (Elt Ideal) → (⟨S1024x1x32, .f32⟩ : BufTy).Contents (Elt Ideal)),
    StableHlo.reshape main_v7 main_v8 (rfl : (.f32 : EltTy) = .f32) shapeCasts_S1024x1x32_S1024x32,
    StableHlo.unary main_arg4 main_v9 ((extractStridedSlice S1024x1x32 ![0, 1, 0] · slices_S1024x2x32_S1024x1x32_0_1_0) : (⟨S1024x2x32, .f32⟩ : BufTy).Contents (Elt Ideal) → (⟨S1024x1x32, .f32⟩ : BufTy).Contents (Elt Ideal)),
    StableHlo.reshape main_v9 main_v10 (rfl : (.f32 : EltTy) = .f32) shapeCasts_S1024x1x32_S1024x32,
    StableHlo.nary ![main_v4, main_v6, main_v8, main_v10] main_v11 (fun u => (concatenate S1024x128 1 [⟨S1024x32, (u 0 : (⟨S1024x32, .f32⟩ : BufTy).Contents (Elt Ideal))⟩, ⟨S1024x32, (u 1 : (⟨S1024x32, .f32⟩ : BufTy).Contents (Elt Ideal))⟩, ⟨S1024x32, (u 2 : (⟨S1024x32, .f32⟩ : BufTy).Contents (Elt Ideal))⟩, ⟨S1024x32, (u 3 : (⟨S1024x32, .f32⟩ : BufTy).Contents (Elt Ideal))⟩] concatenates_S1024x32_S1024x32_S1024x32_S1024x32_S1024x128_d1 : (⟨S1024x128, .f32⟩ : BufTy).Contents (Elt Ideal))),
    StableHlo.unary main_arg5 main_v12 ((extractStridedSlice S1024x1x32 ![0, 0, 0] · slices_S1024x2x32_S1024x1x32_0_0_0) : (⟨S1024x2x32, .f32⟩ : BufTy).Contents (Elt Ideal) → (⟨S1024x1x32, .f32⟩ : BufTy).Contents (Elt Ideal)),
    StableHlo.reshape main_v12 main_v13 (rfl : (.f32 : EltTy) = .f32) shapeCasts_S1024x1x32_S1024x32,
    StableHlo.unary main_v13 main_v14 (Host.negf (F := Ideal) (φ := .f32) : (⟨S1024x32, .f32⟩ : BufTy).Contents (Elt Ideal) → (⟨S1024x32, .f32⟩ : BufTy).Contents (Elt Ideal)),
    StableHlo.unary main_arg5 main_v15 ((extractStridedSlice S1024x1x32 ![0, 1, 0] · slices_S1024x2x32_S1024x1x32_0_1_0) : (⟨S1024x2x32, .f32⟩ : BufTy).Contents (Elt Ideal) → (⟨S1024x1x32, .f32⟩ : BufTy).Contents (Elt Ideal)),
    StableHlo.reshape main_v15 main_v16 (rfl : (.f32 : EltTy) = .f32) shapeCasts_S1024x1x32_S1024x32,
    StableHlo.unary main_v16 main_v17 (Host.negf (F := Ideal) (φ := .f32) : (⟨S1024x32, .f32⟩ : BufTy).Contents (Elt Ideal) → (⟨S1024x32, .f32⟩ : BufTy).Contents (Elt Ideal))]

theorem read_v18 (c : Dev nD) : V m c main_v18 = four (fun i => -axis 0 (m (c.tc.loc main_arg5)) i) (zeros) (fun i => -axis 1 (m (c.tc.loc main_arg5)) i) (zeros) := by
  have e0 : StableHlo.after sinAOps (fun b => m (c, b)) main_v14 = fun i => -axis 0 (m (c.tc.loc main_arg5)) i := by
    funext i
    obtain ⟨r, q, rfl⟩ : ∃ (r : Fin 1024) (q : Fin 32), i = ix2 r q := ⟨_, _, eq_ix2 i⟩
    unfold axis
    entry_read
    pointwise []
  have e1 : StableHlo.after sinAOps (fun b => m (c, b)) main_v2 = zeros := by
    funext i
    obtain ⟨r, q, rfl⟩ : ∃ (r : Fin 1024) (q : Fin 32), i = ix2 r q := ⟨_, _, eq_ix2 i⟩
    unfold zeros
    entry_read
    pointwise []
  have e2 : StableHlo.after sinAOps (fun b => m (c, b)) main_v17 = fun i => -axis 1 (m (c.tc.loc main_arg5)) i := by
    funext i
    obtain ⟨r, q, rfl⟩ : ∃ (r : Fin 1024) (q : Fin 32), i = ix2 r q := ⟨_, _, eq_ix2 i⟩
    unfold axis
    entry_read
    pointwise []
  have e3 : StableHlo.after sinAOps (fun b => m (c, b)) main_v2 = zeros := by
    funext i
    obtain ⟨r, q, rfl⟩ : ∃ (r : Fin 1024) (q : Fin 32), i = ix2 r q := ⟨_, _, eq_ix2 i⟩
    unfold zeros
    entry_read
    pointwise []
  unfold V
  simp only [StableHlo.after_cons, StableHlo.after_nil] at e0 e1 e2 e3 ⊢
  rw [StableHlo.unary_result_ne]; rotate_left; decide
  rw [StableHlo.reshape_result_ne]; rotate_left; decide
  rw [StableHlo.reshape_result_ne]; rotate_left; decide
  rw [StableHlo.nary_result_ne]; rotate_left; decide
  rw [StableHlo.reshape_result_ne]; rotate_left; decide
  rw [StableHlo.unary_result_ne]; rotate_left; decide
  rw [StableHlo.reshape_result_ne]; rotate_left; decide
  rw [StableHlo.unary_result_ne]; rotate_left; decide
  refine (StableHlo.nary4_result ..).trans ?_
  refine Eq.trans ?_ (congr (congr (congr (congrArg four e0) e1) e2) e3)
  rfl

/-- The host operations before the second table of sines. -/
abbrev sinBOps : List (HloOp τ sig (Elt Ideal)) :=
  [StableHlo.unary main_arg5 main_v0 ((extractStridedSlice S1024x1x32 ![0, 0, 0] · slices_S1024x2x32_S1024x1x32_0_0_0) : (⟨S1024x2x32, .f32⟩ : BufTy).Contents (Elt Ideal) → (⟨S1024x1x32, .f32⟩ : BufTy).Contents (Elt Ideal)),
    StableHlo.reshape main_v0 main_v1 (rfl : (.f32 : EltTy) = .f32) shapeCasts_S1024x1x32_S1024x32,
    StableHlo.nullary main_cst (constant (F := Ideal) S_ .f32 0x00000000#32),
    StableHlo.unary main_cst main_v2 (broadcastInDim S1024x32 ![] bcast_S_S1024x32 : (⟨S_, .f32⟩ : BufTy).Contents (Elt Ideal) → (⟨S1024x32, .f32⟩ : BufTy).Contents (Elt Ideal)),
    StableHlo.unary main_arg4 main_v3 ((extractStridedSlice S1024x1x32 ![0, 0, 0] · slices_S1024x2x32_S1024x1x32_0_0_0) : (⟨S1024x2x32, .f32⟩ : BufTy).Contents (Elt Ideal) → (⟨S1024x1x32, .f32⟩ : BufTy).Contents (Elt Ideal)),
    StableHlo.reshape main_v3 main_v4 (rfl : (.f32 : EltTy) = .f32) shapeCasts_S1024x1x32_S1024x32,
    StableHlo.unary main_arg4 main_v5 ((extractStridedSlice S1024x1x32 ![0, 0, 0] · slices_S1024x2x32_S1024x1x32_0_0_0) : (⟨S1024x2x32, .f32⟩ : BufTy).Contents (Elt Ideal) → (⟨S1024x1x32, .f32⟩ : BufTy).Contents (Elt Ideal)),
    StableHlo.reshape main_v5 main_v6 (rfl : (.f32 : EltTy) = .f32) shapeCasts_S1024x1x32_S1024x32,
    StableHlo.unary main_arg4 main_v7 ((extractStridedSlice S1024x1x32 ![0, 1, 0] · slices_S1024x2x32_S1024x1x32_0_1_0) : (⟨S1024x2x32, .f32⟩ : BufTy).Contents (Elt Ideal) → (⟨S1024x1x32, .f32⟩ : BufTy).Contents (Elt Ideal)),
    StableHlo.reshape main_v7 main_v8 (rfl : (.f32 : EltTy) = .f32) shapeCasts_S1024x1x32_S1024x32,
    StableHlo.unary main_arg4 main_v9 ((extractStridedSlice S1024x1x32 ![0, 1, 0] · slices_S1024x2x32_S1024x1x32_0_1_0) : (⟨S1024x2x32, .f32⟩ : BufTy).Contents (Elt Ideal) → (⟨S1024x1x32, .f32⟩ : BufTy).Contents (Elt Ideal)),
    StableHlo.reshape main_v9 main_v10 (rfl : (.f32 : EltTy) = .f32) shapeCasts_S1024x1x32_S1024x32,
    StableHlo.nary ![main_v4, main_v6, main_v8, main_v10] main_v11 (fun u => (concatenate S1024x128 1 [⟨S1024x32, (u 0 : (⟨S1024x32, .f32⟩ : BufTy).Contents (Elt Ideal))⟩, ⟨S1024x32, (u 1 : (⟨S1024x32, .f32⟩ : BufTy).Contents (Elt Ideal))⟩, ⟨S1024x32, (u 2 : (⟨S1024x32, .f32⟩ : BufTy).Contents (Elt Ideal))⟩, ⟨S1024x32, (u 3 : (⟨S1024x32, .f32⟩ : BufTy).Contents (Elt Ideal))⟩] concatenates_S1024x32_S1024x32_S1024x32_S1024x32_S1024x128_d1 : (⟨S1024x128, .f32⟩ : BufTy).Contents (Elt Ideal))),
    StableHlo.unary main_arg5 main_v12 ((extractStridedSlice S1024x1x32 ![0, 0, 0] · slices_S1024x2x32_S1024x1x32_0_0_0) : (⟨S1024x2x32, .f32⟩ : BufTy).Contents (Elt Ideal) → (⟨S1024x1x32, .f32⟩ : BufTy).Contents (Elt Ideal)),
    StableHlo.reshape main_v12 main_v13 (rfl : (.f32 : EltTy) = .f32) shapeCasts_S1024x1x32_S1024x32,
    StableHlo.unary main_v13 main_v14 (Host.negf (F := Ideal) (φ := .f32) : (⟨S1024x32, .f32⟩ : BufTy).Contents (Elt Ideal) → (⟨S1024x32, .f32⟩ : BufTy).Contents (Elt Ideal)),
    StableHlo.unary main_arg5 main_v15 ((extractStridedSlice S1024x1x32 ![0, 1, 0] · slices_S1024x2x32_S1024x1x32_0_1_0) : (⟨S1024x2x32, .f32⟩ : BufTy).Contents (Elt Ideal) → (⟨S1024x1x32, .f32⟩ : BufTy).Contents (Elt Ideal)),
    StableHlo.reshape main_v15 main_v16 (rfl : (.f32 : EltTy) = .f32) shapeCasts_S1024x1x32_S1024x32,
    StableHlo.unary main_v16 main_v17 (Host.negf (F := Ideal) (φ := .f32) : (⟨S1024x32, .f32⟩ : BufTy).Contents (Elt Ideal) → (⟨S1024x32, .f32⟩ : BufTy).Contents (Elt Ideal)),
    StableHlo.nary ![main_v14, main_v2, main_v17, main_v2] main_v18 (fun u => (concatenate S1024x128 1 [⟨S1024x32, (u 0 : (⟨S1024x32, .f32⟩ : BufTy).Contents (Elt Ideal))⟩, ⟨S1024x32, (u 1 : (⟨S1024x32, .f32⟩ : BufTy).Contents (Elt Ideal))⟩, ⟨S1024x32, (u 2 : (⟨S1024x32, .f32⟩ : BufTy).Contents (Elt Ideal))⟩, ⟨S1024x32, (u 3 : (⟨S1024x32, .f32⟩ : BufTy).Contents (Elt Ideal))⟩] concatenates_S1024x32_S1024x32_S1024x32_S1024x32_S1024x128_d1 : (⟨S1024x128, .f32⟩ : BufTy).Contents (Elt Ideal))),
    StableHlo.unary main_arg5 main_v19 ((extractStridedSlice S1024x1x32 ![0, 0, 0] · slices_S1024x2x32_S1024x1x32_0_0_0) : (⟨S1024x2x32, .f32⟩ : BufTy).Contents (Elt Ideal) → (⟨S1024x1x32, .f32⟩ : BufTy).Contents (Elt Ideal)),
    StableHlo.reshape main_v19 main_v20 (rfl : (.f32 : EltTy) = .f32) shapeCasts_S1024x1x32_S1024x32,
    StableHlo.unary main_arg5 main_v21 ((extractStridedSlice S1024x1x32 ![0, 1, 0] · slices_S1024x2x32_S1024x1x32_0_1_0) : (⟨S1024x2x32, .f32⟩ : BufTy).Contents (Elt Ideal) → (⟨S1024x1x32, .f32⟩ : BufTy).Contents (Elt Ideal)),
    StableHlo.reshape main_v21 main_v22 (rfl : (.f32 : EltTy) = .f32) shapeCasts_S1024x1x32_S1024x32]

theorem read_v23 (c : Dev nD) : V m c main_v23 = four (zeros) (axis 0 (m (c.tc.loc main_arg5))) (zeros) (axis 1 (m (c.tc.loc main_arg5))) := by
  have e0 : StableHlo.after sinBOps (fun b => m (c, b)) main_v2 = zeros := by
    funext i
    obtain ⟨r, q, rfl⟩ : ∃ (r : Fin 1024) (q : Fin 32), i = ix2 r q := ⟨_, _, eq_ix2 i⟩
    unfold zeros
    entry_read
    pointwise []
  have e1 : StableHlo.after sinBOps (fun b => m (c, b)) main_v20 = axis 0 (m (c.tc.loc main_arg5)) := by
    funext i
    obtain ⟨r, q, rfl⟩ : ∃ (r : Fin 1024) (q : Fin 32), i = ix2 r q := ⟨_, _, eq_ix2 i⟩
    unfold axis
    entry_read
    pointwise []
  have e2 : StableHlo.after sinBOps (fun b => m (c, b)) main_v2 = zeros := by
    funext i
    obtain ⟨r, q, rfl⟩ : ∃ (r : Fin 1024) (q : Fin 32), i = ix2 r q := ⟨_, _, eq_ix2 i⟩
    unfold zeros
    entry_read
    pointwise []
  have e3 : StableHlo.after sinBOps (fun b => m (c, b)) main_v22 = axis 1 (m (c.tc.loc main_arg5)) := by
    funext i
    obtain ⟨r, q, rfl⟩ : ∃ (r : Fin 1024) (q : Fin 32), i = ix2 r q := ⟨_, _, eq_ix2 i⟩
    unfold axis
    entry_read
    pointwise []
  unfold V
  simp only [StableHlo.after_cons, StableHlo.after_nil] at e0 e1 e2 e3 ⊢
  rw [StableHlo.unary_result_ne]; rotate_left; decide
  rw [StableHlo.reshape_result_ne]; rotate_left; decide
  rw [StableHlo.reshape_result_ne]; rotate_left; decide
  refine (StableHlo.nary4_result ..).trans ?_
  refine Eq.trans ?_ (congr (congr (congr (congrArg four e0) e1) e2) e3)
  rfl

/-- The entries of the three tables. -/
theorem cos_apply (c : Dev nD) (r : Fin 1024) (l : Fin 128) : V m c main_v11 (ix2 r l)
    = m (c.tc.loc main_arg4) (ix3 r (⟨l.val / 64, by omega⟩ : Fin 2) (⟨l.val % 32, by omega⟩ : Fin 32)) := by
  rw [read_v11, four_apply]
  rcases (show l.val / 64 = 0 ∨ l.val / 64 = 1 by omega) with h | h
  · simp only [h, if_true, ite_self]; rfl
  · simp only [h, one_ne_zero, if_false, ite_self]; rfl

theorem sinA_apply (c : Dev nD) (r : Fin 1024) (l : Fin 128) : V m c main_v18 (ix2 r l)
    = sineA (fun j k => m (c.tc.loc main_arg5) (ix3 r j k)) l := by
  rw [read_v18, four_apply]
  unfold sineA
  rcases (show l.val / 64 = 0 ∨ l.val / 64 = 1 by omega) with h | h
  · simp only [h, if_true]; rfl
  · simp only [h, one_ne_zero, if_false]; rfl

theorem sinB_apply (c : Dev nD) (r : Fin 1024) (l : Fin 128) : V m c main_v23 (ix2 r l)
    = sineB (fun j k => m (c.tc.loc main_arg5) (ix3 r j k)) l := by
  rw [read_v23, four_apply]
  unfold sineB
  rcases (show l.val / 64 = 0 ∨ l.val / 64 = 1 by omega) with h | h
  · simp only [h, if_true]; rfl
  · simp only [h, one_ne_zero, if_false]; rfl

theorem b0 (c : Dev nD) (t : Fin cfg0.N) (r : Fin 512) (k : Fin 2048) : iblk m c 0 t (ix2 r k)
    = m (c.tc.loc main_arg0) (ix3 (⟨(t.val * 512 + r.val) / 1024, by have := lt8 t; omega⟩ : Fin 4) (⟨(t.val * 512 + r.val) % 1024, by omega⟩ : Fin 1024) k) := by
  refine Eq.trans ?_ (read_v24 m c ⟨t.val * 512 + r.val, by have := lt8 t; omega⟩ k)
  blk_ext [iblk, idx t]

theorem b1 (c : Dev nD) (t : Fin cfg0.N) (j : Fin 2) (k : Fin 2048) : iblk m c 1 t (ix3 0 j k)
    = m (c.tc.loc main_arg1) (ix3 (⟨1 + t.val / 2, by have := lt8 t; omega⟩ : Fin 8) j k) := by
  blk_ext! [iblk, V, idx t]

theorem b2 (c : Dev nD) (t : Fin cfg0.N) (k : Fin 2048) : iblk m c 2 t (ix2 0 k) = m (c.tc.loc main_arg2) (ix2 0 k) := by
  refine Eq.trans ?_ (read_v26 m c k)
  blk_ext [iblk, idx t]

theorem b3 (c : Dev nD) (t : Fin cfg0.N) (k : Fin 2048) (q : Fin 2560) : iblk m c 3 t (ix2 k q) = m (c.tc.loc main_arg3) (ix2 k q) := by
  blk_ext! [iblk, V, idx t]

theorem b4 (c : Dev nD) (t : Fin cfg0.N) (r : Fin 512) (l : Fin 128) : iblk m c 4 t (ix2 r l)
    = V m c main_v11 (ix2 ⟨t.val % 2 * 512 + r.val, by omega⟩ l) := by
  blk_ext [iblk, idx t]

theorem b5 (c : Dev nD) (t : Fin cfg0.N) (r : Fin 512) (l : Fin 128) : iblk m c 5 t (ix2 r l)
    = V m c main_v18 (ix2 ⟨t.val % 2 * 512 + r.val, by omega⟩ l) := by
  blk_ext [iblk, idx t]

theorem b6 (c : Dev nD) (t : Fin cfg0.N) (r : Fin 512) (l : Fin 128) : iblk m c 6 t (ix2 r l)
    = V m c main_v23 (ix2 ⟨t.val % 2 * 512 + r.val, by omega⟩ l) := by
  blk_ext [iblk, idx t]

/-- The whole projection, from the arguments at the entry. -/
abbrev W (c : Dev nD) (r : Fin 4096) (q : Fin 2560) : EReal :=
  U (m (c.tc.loc main_arg0)) (m (c.tc.loc main_arg1)) (m (c.tc.loc main_arg2)) (m (c.tc.loc main_arg3)) r q

/-- A block row of the projection is a row of the whole projection. -/
theorem u_eq (c : Dev nD) (t : Fin cfg0.N) (r : Fin 512) (q : Fin 2560) :
    u (iblk m c 0 t) (iblk m c 1 t) (iblk m c 2 t) (iblk m c 3 t) r q = W m c ⟨t.val * 512 + r.val, by have := lt8 t; omega⟩ q := by
  have e : (⟨1 + t.val / 2, by have := lt8 t; omega⟩ : Fin 8) = ⟨1 + (t.val * 512 + r.val) / 1024, by have := lt8 t; omega⟩ := by
    apply Fin.ext
    simp only []
    omega
  unfold u W Cert.RopeSpec.U
  simp only [b0, b1, b2, b3, e]

/-- A rotated head of a block's row is the rotated head of the whole array's row. -/
theorem head_eq (c : Dev nD) (t : Fin cfg0.N) (G : Fin 512 → Fin 2560 → EReal) (H : Fin 4096 → Fin 2560 → EReal)
    (hG : ∀ r q, G r q = H ⟨t.val * 512 + r.val, by have := lt8 t; omega⟩ q) (o : ℕ) (ho : o + 128 ≤ 2560) (r : Fin 512) (l : Fin 128) :
    head (iblk m c 4 t) (iblk m c 5 t) (iblk m c 6 t) G o ho r l
      = turned H (m (c.tc.loc main_arg4)) (m (c.tc.loc main_arg5)) o ho ⟨t.val * 512 + r.val, by have := lt8 t; omega⟩ l := by
  have e : (⟨t.val % 2 * 512 + r.val, by omega⟩ : Fin 1024) = ⟨(t.val * 512 + r.val) % 1024, by omega⟩ := by
    apply Fin.ext
    simp only []
    omega
  unfold head turned
  rw [← roll_eq_rot]
  simp only [hG, b4, b5, b6, e]
  congr 1 <;> funext l
  · exact cos_apply m c _ l
  · exact sinA_apply m c _ l
  · exact sinB_apply m c _ l

/-- The scaled queries, rotated. -/
def res7 (c : Dev nD) (r : Fin 4096) (q : Fin 1024) : EReal :=
  turned (fun r q => W m c r q * Ideal.ofBits .f32 0x3E0293EE#32) (m (c.tc.loc main_arg4)) (m (c.tc.loc main_arg5))
    (q.val / 128 * 128) (by omega) r ⟨q.val % 128, by omega⟩

theorem array7 (c : Dev nD) (r : Fin 4096) (q : Fin 1024) : (dats m 0 c).arrAt 7 cfg0.N (ix2 r q) = res7 m c r q := by
  refine congrFun ((dats m 0 c).arrAt_eq_of_covers 7 (fun i : S4096x1024.Idx => res7 m c (i 0) (i 1)) (by decide +kernel) (fun t _ y => ?_)) (ix2 r q)
  obtain ⟨r, q, rfl⟩ : ∃ (r : Fin 512) (q : Fin 1024), y = ix2 r q := ⟨_, _, eq_ix2 y⟩
  have e : (win0_7.blk t).view.emb (ix2 r q) = ix2 (⟨t.val * 512 + r.val, by have := lt8 t; omega⟩ : Fin 4096) q := by
    blk_ext [idx t]
  refine Eq.trans ?_ (congrArg (fun i : S4096x1024.Idx => res7 m c (i 0) (i 1)) e.symm)
  blk_simp [idx t]
  rw [after0_7]
  refine (out7 ..).trans ?_
  exact head_eq m c t _ _ (fun r q => congrArg (· * _) (u_eq m c t r q)) _ _ _ _

/-- The keys, rotated. -/
def res8 (c : Dev nD) (r : Fin 4096) (q : Fin 256) : EReal :=
  turned (W m c) (m (c.tc.loc main_arg4)) (m (c.tc.loc main_arg5)) (1024 + q.val / 128 * 128) (by omega) r ⟨q.val % 128, by omega⟩

theorem array8 (c : Dev nD) (r : Fin 4096) (q : Fin 256) : (dats m 0 c).arrAt 8 cfg0.N (ix2 r q) = res8 m c r q := by
  refine congrFun ((dats m 0 c).arrAt_eq_of_covers 8 (fun i : S4096x256.Idx => res8 m c (i 0) (i 1)) (by decide +kernel) (fun t _ y => ?_)) (ix2 r q)
  obtain ⟨r, q, rfl⟩ : ∃ (r : Fin 512) (q : Fin 256), y = ix2 r q := ⟨_, _, eq_ix2 y⟩
  have e : (win0_8.blk t).view.emb (ix2 r q) = ix2 (⟨t.val * 512 + r.val, by have := lt8 t; omega⟩ : Fin 4096) q := by
    blk_ext [idx t]
  refine Eq.trans ?_ (congrArg (fun i : S4096x256.Idx => res8 m c (i 0) (i 1)) e.symm)
  blk_simp [idx t]
  rw [after0_8]
  refine (out8 ..).trans ?_
  exact head_eq m c t _ _ (u_eq m c t) _ _ _ _

/-- The values. -/
def res9 (c : Dev nD) (r : Fin 4096) (q : Fin 256) : EReal := W m c r ⟨1280 + q.val, by omega⟩

theorem array9 (c : Dev nD) (r : Fin 4096) (q : Fin 256) : (dats m 0 c).arrAt 9 cfg0.N (ix2 r q) = res9 m c r q := by
  refine congrFun ((dats m 0 c).arrAt_eq_of_covers 9 (fun i : S4096x256.Idx => res9 m c (i 0) (i 1)) (by decide +kernel) (fun t _ y => ?_)) (ix2 r q)
  obtain ⟨r, q, rfl⟩ : ∃ (r : Fin 512) (q : Fin 256), y = ix2 r q := ⟨_, _, eq_ix2 y⟩
  have e : (win0_9.blk t).view.emb (ix2 r q) = ix2 (⟨t.val * 512 + r.val, by have := lt8 t; omega⟩ : Fin 4096) q := by
    blk_ext [idx t]
  refine Eq.trans ?_ (congrArg (fun i : S4096x256.Idx => res9 m c (i 0) (i 1)) e.symm)
  blk_simp [idx t]
  rw [after0_9]
  refine (out9 ..).trans ?_
  exact u_eq ..

/-- The pool columns. -/
def res10 (c : Dev nD) (r : Fin 4096) (q : Fin 1024) : EReal := W m c r ⟨1536 + q.val, by omega⟩

theorem array10 (c : Dev nD) (r : Fin 4096) (q : Fin 1024) : (dats m 0 c).arrAt 10 cfg0.N (ix2 r q) = res10 m c r q := by
  refine congrFun ((dats m 0 c).arrAt_eq_of_covers 10 (fun i : S4096x1024.Idx => res10 m c (i 0) (i 1)) (by decide +kernel) (fun t _ y => ?_)) (ix2 r q)
  obtain ⟨r, q, rfl⟩ : ∃ (r : Fin 512) (q : Fin 1024), y = ix2 r q := ⟨_, _, eq_ix2 y⟩
  have e : (win0_10.blk t).view.emb (ix2 r q) = ix2 (⟨t.val * 512 + r.val, by have := lt8 t; omega⟩ : Fin 4096) q := by
    blk_ext [idx t]
  refine Eq.trans ?_ (congrArg (fun i : S4096x1024.Idx => res10 m c (i 0) (i 1)) e.symm)
  blk_simp [idx t]
  rw [after0_10]
  refine (out10 ..).trans ?_
  exact u_eq ..

end Cert.Kernel4Ideal.Rope
end
-- ==== Proof.RopeRead.lean ====
module

public import proofs.«01_k».proof.Proof.Gen.Reference4Ideal.Read
public import proofs.«01_k».proof.Proof.RopeSpec

/-! The latent in-projection's reference read one element at a time. -/

@[expose] public section
set_option maxRecDepth 16384
noncomputable section
namespace Cert.Reference4Ideal.Read
open Idealize.ShloMosaic Idealize.ShloMosaic.TcCoe Cert.Reference4Ideal Cert.InSpec Cert.RopeSpec

variable (x0 : Vec Ideal S4x1024x2048 .f32) (x1 : Vec Ideal S8x2x2048 .f32) (x2 : Vec Ideal S1x2048 .f32) (x3 : Vec Ideal S2048x2560 .bf16)
  (x4 x5 : Vec Ideal S1024x2x32 .f32)

theorem x_apply (r : Fin 4096) (k : Fin 2048) : val_main_v0 (F := Ideal) x0 (ix2 r k)
    = x0 (ix3 (⟨r.val / 1024, by omega⟩ : Fin 4) (⟨r.val % 1024, by omega⟩ : Fin 1024) k) := by
  pointwise [val_main_v0]

theorem shift_apply (r : Fin 4096) (k : Fin 2048) : val_main_v4 (F := Ideal) x1 (ix2 r k)
    = x1 (ix3 (⟨1 + r.val / 1024, by omega⟩ : Fin 8) 0 k) := by
  pointwise [val_main_v4, val_main_v3, val_main_v2, val_main_v1]

theorem scale_apply (r : Fin 4096) (k : Fin 2048) : val_main_v8 (F := Ideal) x1 (ix2 r k)
    = x1 (ix3 (⟨1 + r.val / 1024, by omega⟩ : Fin 8) 1 k) := by
  pointwise [val_main_v8, val_main_v7, val_main_v6, val_main_v5]

theorem h_apply (r : Fin 4096) (k : Fin 2048) : val_main_v26 (F := Ideal) x0 x1 x2 (ix2 r k)
    = val_main_v0 (F := Ideal) x0 (ix2 r k) * Ideal.rsqrt (Ideal.div (∑ j, val_main_v0 (F := Ideal) x0 (ix2 r j) * val_main_v0 (F := Ideal) x0 (ix2 r j))
      (Ideal.ofBits .f32 1157627904#32) + Ideal.ofBits .f32 897988541#32) * x2 (ix2 0 k) * (1 + val_main_v8 (F := Ideal) x1 (ix2 r k)) + val_main_v4 (F := Ideal) x1 (ix2 r k) := by
  pointwise [val_main_cst, val_main_cst_0, val_main_cst_1, val_main_cst_2, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9]

theorem w_apply (k : Fin 2048) (q : Fin 2560) : val_main_v27 (F := Ideal) x3 (ix2 k q) = x3 (ix2 k q) := by
  pointwise [val_main_v27]

theorem u_apply (r : Fin 4096) (q : Fin 2560) : val_main_v28 (F := Ideal) x0 x1 x2 x3 (ix2 r q) = Cert.RopeSpec.U x0 x1 x2 x3 r q := by
  pointwise [val_main_v28]
  simp only [h_apply, x_apply, w_apply, shift_apply, scale_apply]
  rfl

theorem v_apply (r : Fin 4096) (q : Fin 256) : val_main_v31 (F := Ideal) x0 x1 x2 x3 (ix2 r q) = Cert.RopeSpec.U x0 x1 x2 x3 r ⟨1280 + q.val, by omega⟩ := by
  pointwise [val_main_v31]
  rw [u_apply]

theorem p_apply (r : Fin 4096) (q : Fin 1024) : val_main_v32 (F := Ideal) x0 x1 x2 x3 (ix2 r q) = Cert.RopeSpec.U x0 x1 x2 x3 r ⟨1536 + q.val, by omega⟩ := by
  pointwise [val_main_v32]
  rw [u_apply]

theorem q_apply (r : Fin 4096) (q : Fin 1024) : val_main_v38 (F := Ideal) x0 x1 x2 x3 (ix2 r q)
    = Cert.RopeSpec.U x0 x1 x2 x3 r ⟨q.val, by omega⟩ * Ideal.ofBits .f32 0x3E0293EE#32 := by
  pointwise [val_main_v38, val_main_v37, val_main_v29, val_main_cst_3]
  rw [u_apply]

theorem k_apply (r : Fin 4096) (q : Fin 256) : val_main_v30 (F := Ideal) x0 x1 x2 x3 (ix2 r q) = Cert.RopeSpec.U x0 x1 x2 x3 r ⟨1024 + q.val, by omega⟩ := by
  pointwise [val_main_v30]
  rw [u_apply]

theorem cos_apply (r : Fin 4096) (j : Fin 2) (k : Fin 32) : val_main_v34 (F := Ideal) x4 (ix4 r 0 j k) = x4 (ix3 (⟨r.val % 1024, by omega⟩ : Fin 1024) j k) := by
  rw [val_main_v34_apply, val_main_v33_apply]
  refine congrArg x4 (funext fun a => ?_)
  fin_cases a <;> apply Fin.ext <;> simp [idx_main_v33, idx_main_v34] <;> omega

theorem sin_apply (r : Fin 4096) (j : Fin 2) (k : Fin 32) : val_main_v36 (F := Ideal) x5 (ix4 r 0 j k) = x5 (ix3 (⟨r.val % 1024, by omega⟩ : Fin 1024) j k) := by
  rw [val_main_v36_apply, val_main_v35_apply]
  refine congrArg x5 (funext fun a => ?_)
  fin_cases a <;> apply Fin.ext <;> simp [idx_main_v35, idx_main_v36] <;> omega

/-- The two coordinates of a head's half, at head `g`, axis `j`, frequency `k`. -/
theorem q1_apply (r : Fin 4096) (g : Fin 8) (j : Fin 2) (k : Fin 32) : val_main_v41 (F := Ideal) x0 x1 x2 x3 (ix4 r g j k)
    = val_main_v38 (F := Ideal) x0 x1 x2 x3 (ix2 r ⟨g.val * 128 + j.val * 64 + k.val, by omega⟩) := by
  rw [val_main_v41_apply, val_main_v40_apply, val_main_v39_apply]
  refine congrArg _ (funext fun a => ?_)
  fin_cases a <;> apply Fin.ext <;> simp [idx_main_v41, idx_main_v40, idx_main_v39] <;> omega

theorem q2_apply (r : Fin 4096) (g : Fin 8) (j : Fin 2) (k : Fin 32) : val_main_v43 (F := Ideal) x0 x1 x2 x3 (ix4 r g j k)
    = val_main_v38 (F := Ideal) x0 x1 x2 x3 (ix2 r ⟨g.val * 128 + j.val * 64 + 32 + k.val, by omega⟩) := by
  rw [val_main_v43_apply, val_main_v42_apply, val_main_v39_apply]
  refine congrArg _ (funext fun a => ?_)
  fin_cases a <;> apply Fin.ext <;> simp [idx_main_v43, idx_main_v42, idx_main_v39] <;> omega

theorem k1_apply (r : Fin 4096) (g j : Fin 2) (k : Fin 32) : val_main_v61 (F := Ideal) x0 x1 x2 x3 (ix4 r g j k)
    = val_main_v30 (F := Ideal) x0 x1 x2 x3 (ix2 r ⟨g.val * 128 + j.val * 64 + k.val, by omega⟩) := by
  rw [val_main_v61_apply, val_main_v60_apply, val_main_v59_apply]
  refine congrArg _ (funext fun a => ?_)
  fin_cases a <;> apply Fin.ext <;> simp [idx_main_v61, idx_main_v60, idx_main_v59] <;> omega

theorem k2_apply (r : Fin 4096) (g j : Fin 2) (k : Fin 32) : val_main_v63 (F := Ideal) x0 x1 x2 x3 (ix4 r g j k)
    = val_main_v30 (F := Ideal) x0 x1 x2 x3 (ix2 r ⟨g.val * 128 + j.val * 64 + 32 + k.val, by omega⟩) := by
  rw [val_main_v63_apply, val_main_v62_apply, val_main_v59_apply]
  refine congrArg _ (funext fun a => ?_)
  fin_cases a <;> apply Fin.ext <;> simp [idx_main_v63, idx_main_v62, idx_main_v59] <;> omega

/-- The two turned coordinates, side by side. -/
theorem qpair_apply (r : Fin 4096) (g : Fin 8) (j b : Fin 2) (k : Fin 32) : val_main_v56 (F := Ideal) x0 x1 x2 x3 x4 x5 (ix5 r g j b k)
    = if b.val = 0 then val_main_v48 (F := Ideal) x0 x1 x2 x3 x4 x5 (ix4 r g j k) else val_main_v53 (F := Ideal) x0 x1 x2 x3 x4 x5 (ix4 r g j k) := by
  have ea : val_main_v54 (F := Ideal) x0 x1 x2 x3 x4 x5 (ix5 r g j 0 k) = val_main_v48 (F := Ideal) x0 x1 x2 x3 x4 x5 (ix4 r g j k) := by
    rw [val_main_v54_apply]
    refine congrArg _ (funext fun a => ?_)
    fin_cases a <;> rfl
  have eb : val_main_v55 (F := Ideal) x0 x1 x2 x3 x4 x5 (ix5 r g j 0 k) = val_main_v53 (F := Ideal) x0 x1 x2 x3 x4 x5 (ix4 r g j k) := by
    rw [val_main_v55_apply]
    refine congrArg _ (funext fun a => ?_)
    fin_cases a <;> rfl
  rw [← ea, ← eb]
  unfold val_main_v56
  generalize val_main_v54 (F := Ideal) x0 x1 x2 x3 x4 x5 = A
  generalize val_main_v55 (F := Ideal) x0 x1 x2 x3 x4 x5 = B
  fin_cases b
  · pointwise []
  · pointwise []

theorem qfirst_apply (r : Fin 4096) (g : Fin 8) (j : Fin 2) (k : Fin 32) : val_main_v48 (F := Ideal) x0 x1 x2 x3 x4 x5 (ix4 r g j k)
    = val_main_v38 (F := Ideal) x0 x1 x2 x3 (ix2 r ⟨g.val * 128 + j.val * 64 + k.val, by omega⟩) * x4 (ix3 (⟨r.val % 1024, by omega⟩ : Fin 1024) j k)
      - val_main_v38 (F := Ideal) x0 x1 x2 x3 (ix2 r ⟨g.val * 128 + j.val * 64 + 32 + k.val, by omega⟩) * x5 (ix3 (⟨r.val % 1024, by omega⟩ : Fin 1024) j k) := by
  have ec : val_main_v44 (F := Ideal) x4 (ix4 r g j k) = val_main_v34 (F := Ideal) x4 (ix4 r 0 j k) := by
    rw [val_main_v44_apply]
    refine congrArg _ (funext fun a => ?_)
    fin_cases a <;> rfl
  have es : val_main_v46 (F := Ideal) x5 (ix4 r g j k) = val_main_v36 (F := Ideal) x5 (ix4 r 0 j k) := by
    rw [val_main_v46_apply]
    refine congrArg _ (funext fun a => ?_)
    fin_cases a <;> rfl
  rw [← q1_apply, ← q2_apply, ← cos_apply x4 r j k, ← sin_apply x5 r j k, ← ec, ← es]
  rfl

theorem qsecond_apply (r : Fin 4096) (g : Fin 8) (j : Fin 2) (k : Fin 32) : val_main_v53 (F := Ideal) x0 x1 x2 x3 x4 x5 (ix4 r g j k)
    = val_main_v38 (F := Ideal) x0 x1 x2 x3 (ix2 r ⟨g.val * 128 + j.val * 64 + k.val, by omega⟩) * x5 (ix3 (⟨r.val % 1024, by omega⟩ : Fin 1024) j k)
      + val_main_v38 (F := Ideal) x0 x1 x2 x3 (ix2 r ⟨g.val * 128 + j.val * 64 + 32 + k.val, by omega⟩) * x4 (ix3 (⟨r.val % 1024, by omega⟩ : Fin 1024) j k) := by
  have ec : val_main_v51 (F := Ideal) x4 (ix4 r g j k) = val_main_v34 (F := Ideal) x4 (ix4 r 0 j k) := by
    rw [val_main_v51_apply]
    refine congrArg _ (funext fun a => ?_)
    fin_cases a <;> rfl
  have es : val_main_v49 (F := Ideal) x5 (ix4 r g j k) = val_main_v36 (F := Ideal) x5 (ix4 r 0 j k) := by
    rw [val_main_v49_apply]
    refine congrArg _ (funext fun a => ?_)
    fin_cases a <;> rfl
  rw [← q1_apply, ← q2_apply, ← cos_apply x4 r j k, ← sin_apply x5 r j k, ← ec, ← es]
  rfl

theorem qturned_apply (r : Fin 4096) (q : Fin 1024) : val_main_v57 (F := Ideal) x0 x1 x2 x3 x4 x5 (ix2 r q)
    = turned (fun r q => Cert.RopeSpec.U x0 x1 x2 x3 r q * Ideal.ofBits .f32 0x3E0293EE#32) x4 x5 (q.val / 128 * 128) (by omega) r ⟨q.val % 128, by omega⟩ := by
  have e : val_main_v57 (F := Ideal) x0 x1 x2 x3 x4 x5 (ix2 r q) = val_main_v56 (F := Ideal) x0 x1 x2 x3 x4 x5
      (ix5 r ⟨q.val / 128, by omega⟩ ⟨q.val / 64 % 2, by omega⟩ ⟨q.val / 32 % 2, by omega⟩ ⟨q.val % 32, by omega⟩) := by
    rw [val_main_v57_apply]
    refine congrArg _ (funext fun a => ?_)
    fin_cases a <;> apply Fin.ext <;> simp [idx_main_v57] <;> omega
  have ej : (⟨q.val % 128 / 64, by omega⟩ : Fin 2) = ⟨q.val / 64 % 2, by omega⟩ := Fin.ext (by simp only []; omega)
  have ek : (⟨q.val % 128 % 32, by omega⟩ : Fin 32) = ⟨q.val % 32, by omega⟩ := Fin.ext (by simp only []; omega)
  rw [e, qpair_apply]
  unfold turned rot
  by_cases h : q.val / 32 % 2 = 0
  · rw [if_pos h, dif_pos (show q.val % 128 / 32 % 2 = 0 by omega), qfirst_apply, q_apply, q_apply, ej, ek]
    congr 3 <;> (try congr 1) <;> ((try apply Fin.ext); dsimp only; omega)
  · rw [if_neg h, dif_neg (show ¬ q.val % 128 / 32 % 2 = 0 by omega), qsecond_apply, q_apply, q_apply, ej, ek]
    congr 3 <;> (try congr 1) <;> ((try apply Fin.ext); dsimp only; omega)

/-- The two turned coordinates, side by side. -/
theorem kpair_apply (r : Fin 4096) (g : Fin 2) (j b : Fin 2) (k : Fin 32) : val_main_v76 (F := Ideal) x0 x1 x2 x3 x4 x5 (ix5 r g j b k)
    = if b.val = 0 then val_main_v68 (F := Ideal) x0 x1 x2 x3 x4 x5 (ix4 r g j k) else val_main_v73 (F := Ideal) x0 x1 x2 x3 x4 x5 (ix4 r g j k) := by
  have ea : val_main_v74 (F := Ideal) x0 x1 x2 x3 x4 x5 (ix5 r g j 0 k) = val_main_v68 (F := Ideal) x0 x1 x2 x3 x4 x5 (ix4 r g j k) := by
    rw [val_main_v74_apply]
    refine congrArg _ (funext fun a => ?_)
    fin_cases a <;> rfl
  have eb : val_main_v75 (F := Ideal) x0 x1 x2 x3 x4 x5 (ix5 r g j 0 k) = val_main_v73 (F := Ideal) x0 x1 x2 x3 x4 x5 (ix4 r g j k) := by
    rw [val_main_v75_apply]
    refine congrArg _ (funext fun a => ?_)
    fin_cases a <;> rfl
  rw [← ea, ← eb]
  unfold val_main_v76
  generalize val_main_v74 (F := Ideal) x0 x1 x2 x3 x4 x5 = A
  generalize val_main_v75 (F := Ideal) x0 x1 x2 x3 x4 x5 = B
  fin_cases b
  · pointwise []
  · pointwise []

theorem kfirst_apply (r : Fin 4096) (g : Fin 2) (j : Fin 2) (k : Fin 32) : val_main_v68 (F := Ideal) x0 x1 x2 x3 x4 x5 (ix4 r g j k)
    = val_main_v30 (F := Ideal) x0 x1 x2 x3 (ix2 r ⟨g.val * 128 + j.val * 64 + k.val, by omega⟩) * x4 (ix3 (⟨r.val % 1024, by omega⟩ : Fin 1024) j k)
      - val_main_v30 (F := Ideal) x0 x1 x2 x3 (ix2 r ⟨g.val * 128 + j.val * 64 + 32 + k.val, by omega⟩) * x5 (ix3 (⟨r.val % 1024, by omega⟩ : Fin 1024) j k) := by
  have ec : val_main_v64 (F := Ideal) x4 (ix4 r g j k) = val_main_v34 (F := Ideal) x4 (ix4 r 0 j k) := by
    rw [val_main_v64_apply]
    refine congrArg _ (funext fun a => ?_)
    fin_cases a <;> rfl
  have es : val_main_v66 (F := Ideal) x5 (ix4 r g j k) = val_main_v36 (F := Ideal) x5 (ix4 r 0 j k) := by
    rw [val_main_v66_apply]
    refine congrArg _ (funext fun a => ?_)
    fin_cases a <;> rfl
  rw [← k1_apply, ← k2_apply, ← cos_apply x4 r j k, ← sin_apply x5 r j k, ← ec, ← es]
  rfl

theorem ksecond_apply (r : Fin 4096) (g : Fin 2) (j : Fin 2) (k : Fin 32) : val_main_v73 (F := Ideal) x0 x1 x2 x3 x4 x5 (ix4 r g j k)
    = val_main_v30 (F := Ideal) x0 x1 x2 x3 (ix2 r ⟨g.val * 128 + j.val * 64 + k.val, by omega⟩) * x5 (ix3 (⟨r.val % 1024, by omega⟩ : Fin 1024) j k)
      + val_main_v30 (F := Ideal) x0 x1 x2 x3 (ix2 r ⟨g.val * 128 + j.val * 64 + 32 + k.val, by omega⟩) * x4 (ix3 (⟨r.val % 1024, by omega⟩ : Fin 1024) j k) := by
  have ec : val_main_v71 (F := Ideal) x4 (ix4 r g j k) = val_main_v34 (F := Ideal) x4 (ix4 r 0 j k) := by
    rw [val_main_v71_apply]
    refine congrArg _ (funext fun a => ?_)
    fin_cases a <;> rfl
  have es : val_main_v69 (F := Ideal) x5 (ix4 r g j k) = val_main_v36 (F := Ideal) x5 (ix4 r 0 j k) := by
    rw [val_main_v69_apply]
    refine congrArg _ (funext fun a => ?_)
    fin_cases a <;> rfl
  rw [← k1_apply, ← k2_apply, ← cos_apply x4 r j k, ← sin_apply x5 r j k, ← ec, ← es]
  rfl

theorem kturned_apply (r : Fin 4096) (q : Fin 256) : val_main_v77 (F := Ideal) x0 x1 x2 x3 x4 x5 (ix2 r q)
    = turned (fun r q => Cert.RopeSpec.U x0 x1 x2 x3 r q) x4 x5 (1024 + q.val / 128 * 128) (by omega) r ⟨q.val % 128, by omega⟩ := by
  have e : val_main_v77 (F := Ideal) x0 x1 x2 x3 x4 x5 (ix2 r q) = val_main_v76 (F := Ideal) x0 x1 x2 x3 x4 x5
      (ix5 r ⟨q.val / 128, by omega⟩ ⟨q.val / 64 % 2, by omega⟩ ⟨q.val / 32 % 2, by omega⟩ ⟨q.val % 32, by omega⟩) := by
    rw [val_main_v77_apply]
    refine congrArg _ (funext fun a => ?_)
    fin_cases a <;> apply Fin.ext <;> simp [idx_main_v77] <;> omega
  have ej : (⟨q.val % 128 / 64, by omega⟩ : Fin 2) = ⟨q.val / 64 % 2, by omega⟩ := Fin.ext (by simp only []; omega)
  have ek : (⟨q.val % 128 % 32, by omega⟩ : Fin 32) = ⟨q.val % 32, by omega⟩ := Fin.ext (by simp only []; omega)
  rw [e, kpair_apply]
  unfold turned rot
  by_cases h : q.val / 32 % 2 = 0
  · rw [if_pos h, dif_pos (show q.val % 128 / 32 % 2 = 0 by omega), kfirst_apply, k_apply, k_apply, ej, ek]
    congr 3 <;> (try congr 1) <;> ((try apply Fin.ext); dsimp only; omega)
  · rw [if_neg h, dif_neg (show ¬ q.val % 128 / 32 % 2 = 0 by omega), ksecond_apply, k_apply, k_apply, ej, ek]
    congr 3 <;> (try congr 1) <;> ((try apply Fin.ext); dsimp only; omega)

end Cert.Reference4Ideal.Read
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Grid
public import proofs.«01_k».proof.Proof.RefRead
public import proofs.«01_k».proof.Proof.InSame
public import proofs.«01_k».proof.Proof.InRun
public import proofs.«01_k».proof.Proof.FirstRun
public import proofs.«01_k».proof.Proof.FirstRead
public import proofs.«01_k».proof.Proof.RopeArr
public import proofs.«01_k».proof.Proof.RopeRead
public import Idealize.ShloMosaic.Lib.Claim
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The reference of host operations runs, leaves its arguments and ends with every counter at zero. -/
theorem quiescent_reference : Cert.quiescent_ReferenceIdeal (hReferenceIdeal := Cert.ReferenceIdeal.Gen.facts) := by
  intro m g _
  exact (θ_run _ _ _).mono (fun r h => ⟨fun c => (h c).2.2, sem_eq_zero_of_no_sems (by decide) r.2⟩)
    (Cert.ReferenceIdeal.Value.run m g)

/-- The rewrites of the idealized kernel: the packing of two rows in one word, and the words of the output block. -/
theorem preserves : Cert.preserves_Kernel_KernelIdeal :=
  ⟨IdealRules.bf16_pair.packStatement _, IdealRules.bf16_pair.statement _ _⟩

/-- The first result: the kernel's array after its grid is the reference's value. -/
theorem prompt (m : (ℓ : Loc Cert.KernelIdeal.nD Cert.KernelIdeal.τ Cert.KernelIdeal.sig) → Buf (Elt Ideal) ℓ)
    (c : Dev Cert.KernelIdeal.nD) :
    (Cert.KernelIdeal.Gen.dats m 0 c).arrAt 5 Cert.KernelIdeal.cfg0.N
      = Cert.ReferenceIdeal.Read.val_main_v53 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  funext i
  rw [eq_ix3 i]
  exact (Cert.KernelIdeal.Grid.array5 m c (i 0) (i 1) (i 2)).trans
    (Cert.ReferenceIdeal.Read.result0_apply _ _ _ _ _ (i 0) (i 1) (i 2)).symm

/-- The second result. -/
theorem latent (m : (ℓ : Loc Cert.KernelIdeal.nD Cert.KernelIdeal.τ Cert.KernelIdeal.sig) → Buf (Elt Ideal) ℓ)
    (c : Dev Cert.KernelIdeal.nD) :
    (Cert.KernelIdeal.Gen.dats m 0 c).arrAt 6 Cert.KernelIdeal.cfg0.N
      = Cert.ReferenceIdeal.Read.val_main_v107 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg6)) := by
  funext i
  rw [eq_ix3 i]
  exact (Cert.KernelIdeal.Grid.array6 m c (i 0) (i 1) (i 2)).trans
    (Cert.ReferenceIdeal.Read.result1_apply _ _ _ _ _ (i 0) (i 1) (i 2)).symm

/-- Kernel and reference, from the same arguments, end with the same two arrays. -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨_, _, Cert.KernelIdeal.Value.run_blocks m g, ?_⟩
  refine (θ_run _ _ _).mono (fun r h c => ?_) (Cert.ReferenceIdeal.Value.run m' g')
  obtain ⟨h0, h1, hargs⟩ := h c
  obtain ⟨a0, a1, a2, a3, a4, a5, a6⟩ := hagree c
  refine ⟨h0.trans ?_, h1.trans ?_, hargs⟩
  · rw [Cert.ReferenceIdeal.Read.val_main_v53_eq, a0, a2, a3, a4, a5]
    exact (prompt m c).symm
  · rw [Cert.ReferenceIdeal.Read.val_main_v107_eq, a1, a2, a3, a4, a6]
    exact (latent m c).symm

/-- The in-projection's reference runs, leaves its arguments and ends with every counter at zero. -/
theorem quiescent_inReference : Cert.quiescent_Reference2Ideal (hReference2Ideal := Cert.Reference2Ideal.Gen.facts) := by
  intro m g _
  exact (θ_run _ _ _).mono (fun r h => ⟨fun c => (h c).2.2.2.2.2.2.2.2.2, sem_eq_zero_of_no_sems (by decide) r.2⟩)
    (Cert.Reference2Ideal.Value.run m g)

set_option maxHeartbeats 2000000 in
open Cert.Kernel2Ideal.InVal in
/-- In-projection and reference, from the same arguments, end with the same nine arrays. -/
theorem algebraic_in : Cert.algebraic_Kernel2Ideal_Reference2Ideal
    (hKernel2Ideal := Cert.Kernel2Ideal.Gen.facts) (hReference2Ideal := Cert.Reference2Ideal.Gen.facts) := by
  intro m g m' g' _ hagree
  refine ⟨_, _, _, _, _, _, _, _, _, run_arrays m g, ?_⟩
  refine (θ_run _ _ _).mono (fun r h c => ?_) (Cert.Reference2Ideal.Value.run m' g')
  obtain ⟨h0, h1, h2, h3, h4, h5, h6, h7, h8, hargs⟩ := h c
  obtain ⟨a0, a1, a2, a3, a4, a5, a6, a7, a8⟩ := hagree c
  refine ⟨h0.trans ?_, h1.trans ?_, h2.trans ?_, h3.trans ?_, h4.trans ?_, h5.trans ?_, h6.trans ?_, h7.trans ?_, h8.trans ?_, hargs⟩
  · rw [Cert.Reference2Ideal.Read.val_main_v45_eq, a0, a1, a2, a3]
    exact (queries m c).symm
  · rw [Cert.Reference2Ideal.Read.val_main_v30_eq, a0, a1, a2, a3]
    exact (keys m c).symm
  · rw [Cert.Reference2Ideal.Read.val_main_v31_eq, a0, a1, a2, a3]
    exact (values m c).symm
  · rw [Cert.Reference2Ideal.Read.val_main_v32_eq, a0, a1, a2, a3]
    exact (pool m c).symm
  · rw [Cert.Reference2Ideal.Read.val_main_v46_eq, a0, a1, a2, a3]
    exact (headKeys m c).symm
  · rw [Cert.Reference2Ideal.Read.val_main_v47_eq, a0, a1, a2, a3]
    exact (headValues m c).symm
  · rw [Cert.Reference2Ideal.Read.val_main_v49_eq, a4]
    exact (outWeights m c).symm
  · rw [Cert.Reference2Ideal.Read.val_main_v51_eq, a3]
    exact (inWeights m c).symm
  · exact (Cert.Reference2Ideal.Read.val_main_v42_eq (F := Ideal) (m' (c.tc.loc Cert.Reference2Ideal.main_arg5))
      (m' (c.tc.loc Cert.Reference2Ideal.main_arg6)) (m' (c.tc.loc Cert.Reference2Ideal.main_arg7))
      (m' (c.tc.loc Cert.Reference2Ideal.main_arg8))).trans (late_of_agree m c _ _ _ _ a5 a6 a7 a8)

/-- The first feed-forward call's reference runs, leaves its arguments and ends with every counter at zero. -/
theorem quiescent_firstReference : Cert.quiescent_Reference3Ideal (hReference3Ideal := Cert.Reference3Ideal.Gen.facts) := by
  intro m g _
  exact (θ_run _ _ _).mono (fun r h => ⟨fun c => (h c).2.2, sem_eq_zero_of_no_sems (by decide) r.2⟩)
    (Cert.Reference3Ideal.Value.run m g)

/-- The first call is rewritten as the second is. -/
theorem preserves_first : Cert.preserves_Kernel3_Kernel3Ideal :=
  ⟨IdealRules.bf16_pair.packStatement _, IdealRules.bf16_pair.statement _ _⟩

/-- The first call and its reference, from the same arguments, end with the same two arrays. -/
theorem algebraic_first : Cert.algebraic_Kernel3Ideal_Reference3Ideal
    (hKernel3Ideal := Cert.Kernel3Ideal.Gen.facts) (hReference3Ideal := Cert.Reference3Ideal.Gen.facts) := by
  intro m g m' g' _ hagree
  refine ⟨_, _, Cert.Kernel3Ideal.First.run_first m g, ?_⟩
  refine (θ_run _ _ _).mono (fun r h c => ?_) (Cert.Reference3Ideal.Value.run m' g')
  obtain ⟨h0, h1, hargs⟩ := h c
  obtain ⟨a0, a1, a2, a3, a4⟩ := hagree c
  refine ⟨h0.trans ?_, h1.trans ?_, hargs⟩
  · rw [Cert.Reference3Ideal.Read.val_main_v51_eq, a0, a2, a3, a4]
    funext i
    rw [eq_ix3 i]
    exact (Cert.Reference3Ideal.Read.result0_apply _ _ _ _ (i 0) (i 1) (i 2)).trans
      (Cert.Kernel3Ideal.First.first_apply m c (i 0) (i 1) (i 2)).symm
  · rw [Cert.Reference3Ideal.Read.val_main_v103_eq, a1, a2, a3, a4]
    funext i
    rw [eq_ix3 i]
    exact (Cert.Reference3Ideal.Read.result1_apply _ _ _ _ (i 0) (i 1) (i 2)).trans
      (Cert.Kernel3Ideal.First.second_apply m c (i 0) (i 1) (i 2)).symm

/-- The latent in-projection's reference runs, leaves its arguments and ends with every counter at zero. -/
theorem quiescent_ropeReference : Cert.quiescent_Reference4Ideal (hReference4Ideal := Cert.Reference4Ideal.Gen.facts) := by
  intro m g _
  exact (θ_run _ _ _).mono (fun r h => ⟨fun c => (h c).2.2.2.2, sem_eq_zero_of_no_sems (by decide) r.2⟩)
    (Cert.Reference4Ideal.Value.run m g)

set_option maxHeartbeats 2000000 in
/-- Latent in-projection and reference, from the same arguments, end with the same four arrays. -/
theorem algebraic_rope : Cert.algebraic_Kernel4Ideal_Reference4Ideal
    (hKernel4Ideal := Cert.Kernel4Ideal.Gen.facts) (hReference4Ideal := Cert.Reference4Ideal.Gen.facts) := by
  intro m g m' g' _ hagree
  refine ⟨_, _, _, _, Cert.Kernel4Ideal.Value.run_blocks m g, ?_⟩
  refine (θ_run _ _ _).mono (fun r h c => ?_) (Cert.Reference4Ideal.Value.run m' g')
  obtain ⟨h0, h1, h2, h3, hargs⟩ := h c
  obtain ⟨a0, a1, a2, a3, a4, a5⟩ := hagree c
  refine ⟨h0.trans ?_, h1.trans ?_, h2.trans ?_, h3.trans ?_, hargs⟩
  · rw [Cert.Reference4Ideal.Read.val_main_v58_eq, a0, a1, a2, a3, a4, a5]
    funext i
    rw [eq_ix2 i]
    exact (Cert.Reference4Ideal.Read.qturned_apply _ _ _ _ _ _ (i 0) (i 1)).trans (Cert.Kernel4Ideal.Rope.array7 m c (i 0) (i 1)).symm
  · rw [Cert.Reference4Ideal.Read.val_main_v77_eq, a0, a1, a2, a3, a4, a5]
    funext i
    rw [eq_ix2 i]
    exact (Cert.Reference4Ideal.Read.kturned_apply _ _ _ _ _ _ (i 0) (i 1)).trans (Cert.Kernel4Ideal.Rope.array8 m c (i 0) (i 1)).symm
  · rw [Cert.Reference4Ideal.Read.val_main_v31_eq, a0, a1, a2, a3]
    funext i
    rw [eq_ix2 i]
    exact (Cert.Reference4Ideal.Read.v_apply _ _ _ _ (i 0) (i 1)).trans (Cert.Kernel4Ideal.Rope.array9 m c (i 0) (i 1)).symm
  · rw [Cert.Reference4Ideal.Read.val_main_v32_eq, a0, a1, a2, a3]
    funext i
    rw [eq_ix2 i]
    exact (Cert.Reference4Ideal.Read.p_apply _ _ _ _ (i 0) (i 1)).trans (Cert.Kernel4Ideal.Rope.array10 m c (i 0) (i 1)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m g _ => Cert.Kernel.Gen.frame m g, fun m g _ => Cert.KernelIdeal.Gen.frame m g, quiescent_reference,
  Cert.Kernel2.InSame.quiescent, fun m g _ => Cert.Kernel2Ideal.InProj.frame m g, quiescent_inReference,
  fun m g _ => Cert.Kernel3.Gen.frame m g, fun m g _ => Cert.Kernel3Ideal.Gen.frame m g, quiescent_firstReference,
  fun m g _ => Cert.Kernel4.Gen.frame m g, fun m g _ => Cert.Kernel4Ideal.Gen.frame m g, quiescent_ropeReference,
  preserves, algebraic, trivial, algebraic_in, preserves_first, algebraic_first, trivial, algebraic_rope⟩

end Cert.Proof

end
